-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_gated [hPre_gated : Cert.Pre_gated.Facts] (m : (ℓ : Loc Cert.KernelIdeal.nD Cert.KernelIdeal.τ Cert.KernelIdeal.sig) → Buf (Elt Ideal) ℓ) : Prop :=
  ∀ c : Dev Cert.KernelIdeal.nD,
    (Cert.Pre_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gated [hPre_gated : Cert.Pre_gated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_placed : Cert.Pre_placed.Facts] (m : (ℓ : Loc Cert.Kernel3.nD Cert.Kernel3.τ Cert.Kernel3.sig) → Buf (Elt Bits) ℓ) : Prop :=
  ∀ c : Dev Cert.Kernel3.nD,
    (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_placed : Cert.Pre_placed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_placed [hPre_placed : Cert.Pre_placed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_moved : Cert.Pre_moved.Facts] (m : (ℓ : Loc Cert.Kernel6.nD Cert.Kernel6.τ Cert.Kernel6.sig) → Buf (Elt Bits) ℓ) : Prop :=
  ∀ c : Dev Cert.Kernel6.nD,
    (Cert.Pre_moved.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3))) = (fun _ => 1#1)

def Pre_Kernel6Ideal [hPre_moved : Cert.Pre_moved.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_moved.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_moved [hPre_moved : Cert.Pre_moved.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_moved.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gated [hKernelIdeal : Cert.KernelIdeal.Facts] [hPre_gated : Cert.Pre_gated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gated [hReferenceIdeal : Cert.ReferenceIdeal.Facts] [hPre_gated : Cert.Pre_gated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_placed : Cert.Pre_placed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_placed [hReference3Ideal : Cert.Reference3Ideal.Facts] [hPre_placed : Cert.Pre_placed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_placed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_moved : Cert.Pre_moved.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] [hPre_moved : Cert.Pre_moved.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_moved [hReference6Ideal : Cert.Reference6Ideal.Facts] [hPre_moved : Cert.Pre_moved.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_moved m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal_pre_gated [hKernelIdeal : Cert.KernelIdeal.Facts] [hReferenceIdeal : Cert.ReferenceIdeal.Facts] [hPre_gated : Cert.Pre_gated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_moved : Cert.Pre_moved.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v22_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_range : Cert.Pre_in_range.Facts) (hPre_gated : Cert.Pre_gated.Facts) (hPre_placed : Cert.Pre_placed.Facts) (hPre_moved : Cert.Pre_moved.Facts),
    quiescent_Kernel (hKernel := hKernel) (hPre_in_range := hPre_in_range)
    ∧ quiescent_KernelIdeal (hKernelIdeal := hKernelIdeal) (hPre_in_range := hPre_in_range)
    ∧ quiescent_KernelIdeal_pre_gated (hKernelIdeal := hKernelIdeal) (hPre_gated := hPre_gated)
    ∧ quiescent_ReferenceIdeal (hReferenceIdeal := hReferenceIdeal)
    ∧ quiescent_ReferenceIdeal_pre_gated (hReferenceIdeal := hReferenceIdeal) (hPre_gated := hPre_gated)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_placed := hPre_placed)
    ∧ quiescent_Kernel3Ideal (hKernel3Ideal := hKernel3Ideal) (hPre_placed := hPre_placed)
    ∧ quiescent_Reference3Ideal (hReference3Ideal := hReference3Ideal)
    ∧ quiescent_Reference3Ideal_pre_placed (hReference3Ideal := hReference3Ideal) (hPre_placed := hPre_placed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_moved := hPre_moved)
    ∧ quiescent_Kernel6Ideal (hKernel6Ideal := hKernel6Ideal) (hPre_moved := hPre_moved)
    ∧ quiescent_Reference6Ideal (hReference6Ideal := hReference6Ideal)
    ∧ quiescent_Reference6Ideal_pre_moved (hReference6Ideal := hReference6Ideal) (hPre_moved := hPre_moved)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_gated (hKernelIdeal := hKernelIdeal) (hReferenceIdeal := hReferenceIdeal) (hPre_gated := hPre_gated)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_placed := hPre_placed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_moved := hPre_moved)
    ∧ preserves_Kernel7_Kernel7Ideal
    ∧ algebraic_Kernel7Ideal_Reference7Ideal (hKernel7Ideal := hKernel7Ideal) (hReference7Ideal := hReference7Ideal)
-- ==== Pre_gated.lean ====
abbrev S90 : Shape := ⟨1, ![90]⟩
abbrev S23040x1152 : Shape := ⟨2, ![23040, 1152]⟩
abbrev S4x16x1024x512 : Shape := ⟨4, ![4, 16, 1024, 512]⟩
abbrev S4x16x512x1024 : Shape := ⟨4, ![4, 16, 512, 1024]⟩
abbrev S23040x2 : Shape := ⟨2, ![23040, 2]⟩
abbrev S_ : Shape := ⟨0, ![]⟩

class Facts : Prop where
  slices_S23040x1152_S23040x2_0_1046 : S23040x1152.Slices ![0, 1046] S23040x2
  bcast_S_S90 : S_.BroadcastsInDim S90 (![] : Fin 0 → Fin S90.rank)
  bcast_S_S23040x2 : S_.BroadcastsInDim S23040x2 (![] : Fin 0 → Fin S23040x2.rank)

variable [Facts]

def fn {F : FTy → Type} [FloatOps F] (main_arg0 : IVec S90 32) (main_arg1 : IVec S90 32) (main_arg2 : IVec S90 32) (main_arg3 : FVec F S23040x1152 .f32) (main_arg4 : FVec F S4x16x1024x512 .f32) (main_arg5 : FVec F S4x16x1024x512 .f32) (main_arg6 : FVec F S4x16x512x1024 .f32) : IVec S90 1 × IVec S90 1 × IVec S23040x2 1 :=
  let main_v0 : FVec F S23040x2 .f32 := (extractStridedSlice S23040x2 ![0, 1046] · slices_S23040x1152_S23040x2_0_1046) main_arg3
  let main_c : IVec S_ 32 := constantI S_ 32 0#32
  let main_v1 : IVec S90 32 := broadcastInDim S90 ![] bcast_S_S90 main_c
  let main_v2 : IVec S90 1 := cmpi .sge main_arg0 main_v1
  let main_c_0 : IVec S_ 32 := constantI S_ 32 16#32
  let main_v3 : IVec S90 32 := broadcastInDim S90 ![] bcast_S_S90 main_c_0
  let main_v4 : IVec S90 1 := cmpi .slt main_arg0 main_v3
  let main_v5 : IVec S90 1 := andi main_v2 main_v4
  let main_c_1 : IVec S_ 32 := constantI S_ 32 0#32
  let main_v6 : IVec S90 32 := broadcastInDim S90 ![] bcast_S_S90 main_c_1
  let main_v7 : IVec S90 1 := cmpi .sge main_arg1 main_v6
  let main_c_2 : IVec S_ 32 := constantI S_ 32 16#32
  let main_v8 : IVec S90 32 := broadcastInDim S90 ![] bcast_S_S90 main_c_2
  let main_v9 : IVec S90 1 := cmpi .slt main_arg1 main_v8
  let main_v10 : IVec S90 1 := andi main_v7 main_v9
  let main_cst : FVec F S_ .f32 := constant S_ .f32 0x00000000#32
  let main_v11 : FVec F S23040x2 .f32 := broadcastInDim S23040x2 ![] bcast_S_S23040x2 main_cst
  let main_v12 : IVec S23040x2 1 := cmpf .oge main_v0 main_v11
  let main_cst_3 : FVec F S_ .f32 := constant S_ .f32 0x7F800000#32
  let main_v13 : FVec F S23040x2 .f32 := broadcastInDim S23040x2 ![] bcast_S_S23040x2 main_cst_3
  let main_v14 : IVec S23040x2 1 := cmpf .olt main_v0 main_v13
  let main_v15 : IVec S23040x2 1 := andi main_v12 main_v14
  (main_v5, main_v10, main_v15)
-- ==== Pre_in_range.lean ====
abbrev S90 : Shape := ⟨1, ![90]⟩
abbrev S23040x1152 : Shape := ⟨2, ![23040, 1152]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S90 : S_.BroadcastsInDim S90 (![] : Fin 0 → Fin S90.rank)

variable [Facts]

def fn {F : FTy → Type} [FloatOps F] (main_arg0 : IVec S90 32) (main_arg1 : IVec S90 32) (main_arg2 : IVec S90 32) (main_arg3 : FVec F S23040x1152 .f32) (main_arg4 : FVec F S4x16x1024x512 .f32) (main_arg5 : FVec F S4x16x1024x512 .f32) (main_arg6 : FVec F S4x16x512x1024 .f32) : IVec S90 1 × IVec S90 1 :=
  let main_c : IVec S_ 32 := constantI S_ 32 0#32
  let main_v0 : IVec S90 32 := broadcastInDim S90 ![] bcast_S_S90 main_c
  let main_v1 : IVec S90 1 := cmpi .sge main_arg0 main_v0
  let main_c_0 : IVec S_ 32 := constantI S_ 32 16#32
  let main_v2 : IVec S90 32 := broadcastInDim S90 ![] bcast_S_S90 main_c_0
  let main_v3 : IVec S90 1 := cmpi .slt main_arg0 main_v2
  let main_v4 : IVec S90 1 := andi main_v1 main_v3
  let main_c_1 : IVec S_ 32 := constantI S_ 32 0#32
  let main_v5 : IVec S90 32 := broadcastInDim S90 ![] bcast_S_S90 main_c_1
  let main_v6 : IVec S90 1 := cmpi .sge main_arg1 main_v5
  let main_c_2 : IVec S_ 32 := constantI S_ 32 16#32
  let main_v7 : IVec S90 32 := broadcastInDim S90 ![] bcast_S_S90 main_c_2
  let main_v8 : IVec S90 1 := cmpi .slt main_arg1 main_v7
  let main_v9 : IVec S90 1 := andi main_v6 main_v8
  (main_v4, main_v9)
-- ==== Pre_moved.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S_ : Shape := ⟨0, ![]⟩

class Facts : Prop where
  bcast_S_S16896 : S_.BroadcastsInDim S16896 (![] : Fin 0 → Fin S16896.rank)

variable [Facts]

def fn {F : FTy → Type} [FloatOps F] (main_arg0 : IVec S16896 32) (main_arg1 : FVec F S16896x1024 .f32) (main_arg2 : FVec F S8x6x1024 .f32) (main_arg3 : FVec F S23040x1024 .f32) : IVec S16896 1 :=
  let main_c : IVec S_ 32 := constantI S_ 32 0#32
  let main_v0 : IVec S16896 32 := broadcastInDim S16896 ![] bcast_S_S16896 main_c
  let main_v1 : IVec S16896 1 := cmpi .sge main_arg0 main_v0
  let main_c_0 : IVec S_ 32 := constantI S_ 32 23040#32
  let main_v2 : IVec S16896 32 := broadcastInDim S16896 ![] bcast_S_S16896 main_c_0
  let main_v3 : IVec S16896 1 := cmpi .slt main_arg0 main_v2
  let main_v4 : IVec S16896 1 := andi main_v1 main_v3
  main_v4
-- ==== Pre_placed.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S1024 : Shape := ⟨1, ![1024]⟩
abbrev S_ : Shape := ⟨0, ![]⟩

class Facts : Prop where
  bcast_S_S16896 : S_.BroadcastsInDim S16896 (![] : Fin 0 → Fin S16896.rank)

variable [Facts]

def fn {F : FTy → Type} [FloatOps F] (main_arg0 : IVec S16896 32) (main_arg1 : FVec F S16896x1024 .f32) (main_arg2 : FVec F S8x6x1024 .f32) (main_arg3 : FVec F S23040x1024 .f32) (main_arg4 : FVec F S1024 .f32) : IVec S16896 1 :=
  let main_c : IVec S_ 32 := constantI S_ 32 0#32
  let main_v0 : IVec S16896 32 := broadcastInDim S16896 ![] bcast_S_S16896 main_c
  let main_v1 : IVec S16896 1 := cmpi .sge main_arg0 main_v0
  let main_c_0 : IVec S_ 32 := constantI S_ 32 23040#32
  let main_v2 : IVec S16896 32 := broadcastInDim S16896 ![] bcast_S_S16896 main_c_0
  let main_v3 : IVec S16896 1 := cmpi .slt main_arg0 main_v2
  let main_v4 : IVec S16896 1 := andi main_v1 main_v3
  main_v4
-- ==== Kernel.lean ====
abbrev S90 : Shape := ⟨1, ![90]⟩
abbrev S23040x1152 : Shape := ⟨2, ![23040, 1152]⟩
abbrev S4x16x1024x512 : Shape := ⟨4, ![4, 16, 1024, 512]⟩
abbrev S4x16x512x1024 : Shape := ⟨4, ![4, 16, 512, 1024]⟩
abbrev S_ : Shape := ⟨0, ![]⟩
abbrev S1 : Shape := ⟨1, ![1]⟩
abbrev S89 : Shape := ⟨1, ![89]⟩
abbrev S23040x1024 : Shape := ⟨2, ![23040, 1024]⟩
abbrev S256x1152 : Shape := ⟨2, ![256, 1152]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S512x1024 : Shape := ⟨2, ![512, 1024]⟩
abbrev S256x1 : Shape := ⟨2, ![256, 1]⟩
abbrev S256x512 : Shape := ⟨2, ![256, 512]⟩

abbrev nBuf : Space → Nat
  | .hbm => 22
  | .vmem => 22
  | .smem => 4
  | _ => 0

abbrev bufTy : (tb : Table) → Fin (tcTables nBuf tb) → BufTy
  | .hbm, ⟨0, _⟩ => ⟨S23040x1152, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S_, .i32⟩
  | .hbm, ⟨5, _⟩ => ⟨S1, .i32⟩
  | .hbm, ⟨6, _⟩ => ⟨S89, .i32⟩
  | .hbm, ⟨7, _⟩ => ⟨S89, .i32⟩
  | .hbm, ⟨8, _⟩ => ⟨S89, .i1⟩
  | .hbm, ⟨9, _⟩ => ⟨S89, .i32⟩
  | .hbm, ⟨10, _⟩ => ⟨S90, .i32⟩
  | .hbm, ⟨11, _⟩ => ⟨S_, .i32⟩
  | .hbm, ⟨12, _⟩ => ⟨S1, .i32⟩
  | .hbm, ⟨13, _⟩ => ⟨S89, .i32⟩
  | .hbm, ⟨14, _⟩ => ⟨S89, .i32⟩
  | .hbm, ⟨15, _⟩ => ⟨S89, .i1⟩
  | .hbm, ⟨16, _⟩ => ⟨S89, .i32⟩
  | .hbm, ⟨17, _⟩ => ⟨S90, .i32⟩
  | .hbm, ⟨18, _⟩ => ⟨S_, .i32⟩
  | .hbm, ⟨19, _⟩ => ⟨S90, .i32⟩
  | .hbm, ⟨20, _⟩ => ⟨S90, .i32⟩
  | .hbm, ⟨21, _⟩ => ⟨S23040x1024, .f32⟩
  | .local _ .vmem, ⟨0, _⟩ => ⟨S256x1152, .f32⟩
  | .local _ .vmem, ⟨1, _⟩ => ⟨S256x1152, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S256x1024, .f32⟩
  | .local _ .vmem, ⟨15, _⟩ => ⟨S256x1024, .f32⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S512x1024, .bf16⟩
  | .local _ .smem, ⟨0, _⟩ => ⟨S90, .i32⟩
  | .local _ .smem, ⟨1, _⟩ => ⟨S90, .i32⟩
  | .local _ .smem, ⟨2, _⟩ => ⟨S90, .i32⟩
  | .local _ .smem, ⟨3, _⟩ => ⟨S90, .i32⟩
  | _, _ => ⟨S23040x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v15 : Ref sig .tc := ⟨.hbm, 21, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_v14 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![90], ![false]⟩

abbrev pre0 : Pipeline.Prefetch sig := ⟨4, ![main_arg0.idx, main_arg1.idx, main_arg2.idx, main_v14.idx], fun | 0 => main_arg0.names | 1 => main_arg1.names | 2 => main_arg2.names | 3 => main_v14.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) : BitVec 1 :=
  let c0_i32_7 : BitVec 32 := 0#32
  let v20 : BitVec 1 := Scalar.cmpi .eq v1 c0_i32_7
  let v21 : BitVec 32 := Scalar.extui v20
  let c0_i32_8 : BitVec 32 := 0#32
  let v22 : BitVec 1 := Scalar.cmpi .ne v21 c0_i32_8
  v22

def k0_cond4 (v1 : BitVec 32) : BitVec 1 :=
  let c0_i32_9 : BitVec 32 := 0#32
  let v23 : BitVec 1 := Scalar.cmpi .ne v1 c0_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S90.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S90) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S90 : Shape := ⟨1, ![90]⟩
abbrev S23040x1152 : Shape := ⟨2, ![23040, 1152]⟩
abbrev S4x16x1024x512 : Shape := ⟨4, ![4, 16, 1024, 512]⟩
abbrev S4x16x512x1024 : Shape := ⟨4, ![4, 16, 512, 1024]⟩
abbrev S23040x1024 : Shape := ⟨2, ![23040, 1024]⟩
abbrev S23040x1 : Shape := ⟨2, ![23040, 1]⟩
abbrev S90x256 : Shape := ⟨2, ![90, 256]⟩
abbrev S23040 : Shape := ⟨1, ![23040]⟩
abbrev S16 : Shape := ⟨1, ![16]⟩
abbrev S1x16 : Shape := ⟨2, ![1, 16]⟩
abbrev S_ : Shape := ⟨0, ![]⟩
abbrev S23040x16 : Shape := ⟨2, ![23040, 16]⟩
abbrev S1x1x1024x512 : Shape := ⟨4, ![1, 1, 1024, 512]⟩
abbrev S1024x512 : Shape := ⟨2, ![1024, 512]⟩
abbrev S23040x512 : Shape := ⟨2, ![23040, 512]⟩
abbrev S1x1x512x1024 : Shape := ⟨4, ![1, 1, 512, 1024]⟩
abbrev S512x1024 : Shape := ⟨2, ![512, 1024]⟩

abbrev nBuf : Space → Nat
  | .hbm => 423
  | .vmem => 0
  | .smem => 0
  | _ => 0

abbrev hbmTy0_0 (i : Nat) : BufTy := match i % 128 with
  | 0 => ⟨S90, .i32⟩
  | 1 => ⟨S90, .i32⟩
  | 2 => ⟨S90, .i32⟩
  | 3 => ⟨S23040x1152, .f32⟩
  | 4 => ⟨S4x16x1024x512, .f32⟩
  | 5 => ⟨S4x16x1024x512, .f32⟩
  | 6 => ⟨S4x16x512x1024, .f32⟩
  | 7 => ⟨S23040x1024, .f32⟩
  | 8 => ⟨S23040x1, .f32⟩
  | 9 => ⟨S23040x1, .f32⟩
  | 10 => ⟨S90x256, .i32⟩
  | 11 => ⟨S23040, .i32⟩
  | 12 => ⟨S23040x1, .i32⟩
  | 13 => ⟨S90x256, .i32⟩
  | 14 => ⟨S23040, .i32⟩
  | 15 => ⟨S23040x1, .i32⟩
  | 16 => ⟨S90x256, .i32⟩
  | 17 => ⟨S23040, .i32⟩
  | 18 => ⟨S23040x1, .i32⟩
  | 19 => ⟨S16, .i32⟩
  | 20 => ⟨S1x16, .i32⟩
  | 21 => ⟨S_, .i32⟩
  | 22 => ⟨S23040x1, .i32⟩
  | 23 => ⟨S23040x1, .i1⟩
  | 24 => ⟨S_, .i32⟩
  | 25 => ⟨S23040x1, .i32⟩
  | 26 => ⟨S23040x1, .i1⟩
  | 27 => ⟨S23040x16, .i32⟩
  | 28 => ⟨S23040x16, .i32⟩
  | 29 => ⟨S23040x16, .i1⟩
  | 30 => ⟨S23040x16, .i1⟩
  | 31 => ⟨S23040x16, .i1⟩
  | 32 => ⟨S23040x1, .f32⟩
  | 33 => ⟨S_, .f32⟩
  | 34 => ⟨S_, .f32⟩
  | 35 => ⟨S23040x16, .f32⟩
  | 36 => ⟨S23040x16, .f32⟩
  | 37 => ⟨S23040x16, .f32⟩
  | 38 => ⟨S_, .i32⟩
  | 39 => ⟨S23040x1, .i32⟩
  | 40 => ⟨S23040x1, .i1⟩
  | 41 => ⟨S23040x16, .i32⟩
  | 42 => ⟨S23040x16, .i32⟩
  | 43 => ⟨S23040x16, .i1⟩
  | 44 => ⟨S23040x16, .i1⟩
  | 45 => ⟨S23040x16, .i1⟩
  | 46 => ⟨S23040x1, .f32⟩
  | 47 => ⟨S_, .f32⟩
  | 48 => ⟨S_, .f32⟩
  | 49 => ⟨S23040x16, .f32⟩
  | 50 => ⟨S23040x16, .f32⟩
  | 51 => ⟨S23040x16, .f32⟩
  | 52 => ⟨S23040x16, .f32⟩
  | 53 => ⟨S_, .f32⟩
  | 54 => ⟨S23040x1024, .f32⟩
  | 55 => ⟨S1x1x1024x512, .f32⟩
  | 56 => ⟨S1024x512, .f32⟩
  | 57 => ⟨S23040x512, .f32⟩
  | 58 => ⟨S23040x512, .f32⟩
  | 59 => ⟨S23040x512, .f32⟩
  | 60 => ⟨S_, .f32⟩
  | 61 => ⟨S23040x512, .f32⟩
  | 62 => ⟨S23040x512, .f32⟩
  | 63 => ⟨S_, .f32⟩
  | 64 => ⟨S23040x512, .f32⟩
  | 65 => ⟨S23040x512, .f32⟩
  | 66 => ⟨S23040x512, .f32⟩
  | 67 => ⟨S1x1x1024x512, .f32⟩
  | 68 => ⟨S1024x512, .f32⟩
  | 69 => ⟨S23040x512, .f32⟩
  | 70 => ⟨S23040x512, .f32⟩
  | 71 => ⟨S23040x1, .f32⟩
  | 72 => ⟨S1x1x512x1024, .f32⟩
  | 73 => ⟨S512x1024, .f32⟩
  | 74 => ⟨S23040x1024, .f32⟩
  | 75 => ⟨S23040x1024, .f32⟩
  | 76 => ⟨S23040x1024, .f32⟩
  | 77 => ⟨S23040x1024, .f32⟩
  | 78 => ⟨S1x1x1024x512, .f32⟩
  | 79 => ⟨S1024x512, .f32⟩
  | 80 => ⟨S23040x512, .f32⟩
  | 81 => ⟨S23040x512, .f32⟩
  | 82 => ⟨S23040x512, .f32⟩
  | 83 => ⟨S_, .f32⟩
  | 84 => ⟨S23040x512, .f32⟩
  | 85 => ⟨S23040x512, .f32⟩
  | 86 => ⟨S_, .f32⟩
  | 87 => ⟨S23040x512, .f32⟩
  | 88 => ⟨S23040x512, .f32⟩
  | 89 => ⟨S23040x512, .f32⟩
  | 90 => ⟨S1x1x1024x512, .f32⟩
  | 91 => ⟨S1024x512, .f32⟩
  | 92 => ⟨S23040x512, .f32⟩
  | 93 => ⟨S23040x512, .f32⟩
  | 94 => ⟨S23040x1, .f32⟩
  | 95 => ⟨S1x1x512x1024, .f32⟩
  | 96 => ⟨S512x1024, .f32⟩
  | 97 => ⟨S23040x1024, .f32⟩
  | 98 => ⟨S23040x1024, .f32⟩
  | 99 => ⟨S23040x1024, .f32⟩
  | 100 => ⟨S23040x1024, .f32⟩
  | 101 => ⟨S1x1x1024x512, .f32⟩
  | 102 => ⟨S1024x512, .f32⟩
  | 103 => ⟨S23040x512, .f32⟩
  | 104 => ⟨S23040x512, .f32⟩
  | 105 => ⟨S23040x512, .f32⟩
  | 106 => ⟨S_, .f32⟩
  | 107 => ⟨S23040x512, .f32⟩
  | 108 => ⟨S23040x512, .f32⟩
  | 109 => ⟨S_, .f32⟩
  | 110 => ⟨S23040x512, .f32⟩
  | 111 => ⟨S23040x512, .f32⟩
  | 112 => ⟨S23040x512, .f32⟩
  | 113 => ⟨S1x1x1024x512, .f32⟩
  | 114 => ⟨S1024x512, .f32⟩
  | 115 => ⟨S23040x512, .f32⟩
  | 116 => ⟨S23040x512, .f32⟩
  | 117 => ⟨S23040x1, .f32⟩
  | 118 => ⟨S1x1x512x1024, .f32⟩
  | 119 => ⟨S512x1024, .f32⟩
  | 120 => ⟨S23040x1024, .f32⟩
  | 121 => ⟨S23040x1024, .f32⟩
  | 122 => ⟨S23040x1024, .f32⟩
  | 123 => ⟨S23040x1024, .f32⟩
  | 124 => ⟨S1x1x1024x512, .f32⟩
  | 125 => ⟨S1024x512, .f32⟩
  | 126 => ⟨S23040x512, .f32⟩
  | 127 => ⟨S23040x512, .f32⟩
  | _ => ⟨S90, .i32⟩

abbrev hbmTy0_1 (i : Nat) : BufTy := match i % 128 with
  | 0 => ⟨S23040x512, .f32⟩
  | 1 => ⟨S_, .f32⟩
  | 2 => ⟨S23040x512, .f32⟩
  | 3 => ⟨S23040x512, .f32⟩
  | 4 => ⟨S_, .f32⟩
  | 5 => ⟨S23040x512, .f32⟩
  | 6 => ⟨S23040x512, .f32⟩
  | 7 => ⟨S23040x512, .f32⟩
  | 8 => ⟨S1x1x1024x512, .f32⟩
  | 9 => ⟨S1024x512, .f32⟩
  | 10 => ⟨S23040x512, .f32⟩
  | 11 => ⟨S23040x512, .f32⟩
  | 12 => ⟨S23040x1, .f32⟩
  | 13 => ⟨S1x1x512x1024, .f32⟩
  | 14 => ⟨S512x1024, .f32⟩
  | 15 => ⟨S23040x1024, .f32⟩
  | 16 => ⟨S23040x1024, .f32⟩
  | 17 => ⟨S23040x1024, .f32⟩
  | 18 => ⟨S23040x1024, .f32⟩
  | 19 => ⟨S1x1x1024x512, .f32⟩
  | 20 => ⟨S1024x512, .f32⟩
  | 21 => ⟨S23040x512, .f32⟩
  | 22 => ⟨S23040x512, .f32⟩
  | 23 => ⟨S23040x512, .f32⟩
  | 24 => ⟨S_, .f32⟩
  | 25 => ⟨S23040x512, .f32⟩
  | 26 => ⟨S23040x512, .f32⟩
  | 27 => ⟨S_, .f32⟩
  | 28 => ⟨S23040x512, .f32⟩
  | 29 => ⟨S23040x512, .f32⟩
  | 30 => ⟨S23040x512, .f32⟩
  | 31 => ⟨S1x1x1024x512, .f32⟩
  | 32 => ⟨S1024x512, .f32⟩
  | 33 => ⟨S23040x512, .f32⟩
  | 34 => ⟨S23040x512, .f32⟩
  | 35 => ⟨S23040x1, .f32⟩
  | 36 => ⟨S1x1x512x1024, .f32⟩
  | 37 => ⟨S512x1024, .f32⟩
  | 38 => ⟨S23040x1024, .f32⟩
  | 39 => ⟨S23040x1024, .f32⟩
  | 40 => ⟨S23040x1024, .f32⟩
  | 41 => ⟨S23040x1024, .f32⟩
  | 42 => ⟨S1x1x1024x512, .f32⟩
  | 43 => ⟨S1024x512, .f32⟩
  | 44 => ⟨S23040x512, .f32⟩
  | 45 => ⟨S23040x512, .f32⟩
  | 46 => ⟨S23040x512, .f32⟩
  | 47 => ⟨S_, .f32⟩
  | 48 => ⟨S23040x512, .f32⟩
  | 49 => ⟨S23040x512, .f32⟩
  | 50 => ⟨S_, .f32⟩
  | 51 => ⟨S23040x512, .f32⟩
  | 52 => ⟨S23040x512, .f32⟩
  | 53 => ⟨S23040x512, .f32⟩
  | 54 => ⟨S1x1x1024x512, .f32⟩
  | 55 => ⟨S1024x512, .f32⟩
  | 56 => ⟨S23040x512, .f32⟩
  | 57 => ⟨S23040x512, .f32⟩
  | 58 => ⟨S23040x1, .f32⟩
  | 59 => ⟨S1x1x512x1024, .f32⟩
  | 60 => ⟨S512x1024, .f32⟩
  | 61 => ⟨S23040x1024, .f32⟩
  | 62 => ⟨S23040x1024, .f32⟩
  | 63 => ⟨S23040x1024, .f32⟩
  | 64 => ⟨S23040x1024, .f32⟩
  | 65 => ⟨S1x1x1024x512, .f32⟩
  | 66 => ⟨S1024x512, .f32⟩
  | 67 => ⟨S23040x512, .f32⟩
  | 68 => ⟨S23040x512, .f32⟩
  | 69 => ⟨S23040x512, .f32⟩
  | 70 => ⟨S_, .f32⟩
  | 71 => ⟨S23040x512, .f32⟩
  | 72 => ⟨S23040x512, .f32⟩
  | 73 => ⟨S_, .f32⟩
  | 74 => ⟨S23040x512, .f32⟩
  | 75 => ⟨S23040x512, .f32⟩
  | 76 => ⟨S23040x512, .f32⟩
  | 77 => ⟨S1x1x1024x512, .f32⟩
  | 78 => ⟨S1024x512, .f32⟩
  | 79 => ⟨S23040x512, .f32⟩
  | 80 => ⟨S23040x512, .f32⟩
  | 81 => ⟨S23040x1, .f32⟩
  | 82 => ⟨S1x1x512x1024, .f32⟩
  | 83 => ⟨S512x1024, .f32⟩
  | 84 => ⟨S23040x1024, .f32⟩
  | 85 => ⟨S23040x1024, .f32⟩
  | 86 => ⟨S23040x1024, .f32⟩
  | 87 => ⟨S23040x1024, .f32⟩
  | 88 => ⟨S1x1x1024x512, .f32⟩
  | 89 => ⟨S1024x512, .f32⟩
  | 90 => ⟨S23040x512, .f32⟩
  | 91 => ⟨S23040x512, .f32⟩
  | 92 => ⟨S23040x512, .f32⟩
  | 93 => ⟨S_, .f32⟩
  | 94 => ⟨S23040x512, .f32⟩
  | 95 => ⟨S23040x512, .f32⟩
  | 96 => ⟨S_, .f32⟩
  | 97 => ⟨S23040x512, .f32⟩
  | 98 => ⟨S23040x512, .f32⟩
  | 99 => ⟨S23040x512, .f32⟩
  | 100 => ⟨S1x1x1024x512, .f32⟩
  | 101 => ⟨S1024x512, .f32⟩
  | 102 => ⟨S23040x512, .f32⟩
  | 103 => ⟨S23040x512, .f32⟩
  | 104 => ⟨S23040x1, .f32⟩
  | 105 => ⟨S1x1x512x1024, .f32⟩
  | 106 => ⟨S512x1024, .f32⟩
  | 107 => ⟨S23040x1024, .f32⟩
  | 108 => ⟨S23040x1024, .f32⟩
  | 109 => ⟨S23040x1024, .f32⟩
  | 110 => ⟨S23040x1024, .f32⟩
  | 111 => ⟨S1x1x1024x512, .f32⟩
  | 112 => ⟨S1024x512, .f32⟩
  | 113 => ⟨S23040x512, .f32⟩
  | 114 => ⟨S23040x512, .f32⟩
  | 115 => ⟨S23040x512, .f32⟩
  | 116 => ⟨S_, .f32⟩
  | 117 => ⟨S23040x512, .f32⟩
  | 118 => ⟨S23040x512, .f32⟩
  | 119 => ⟨S_, .f32⟩
  | 120 => ⟨S23040x512, .f32⟩
  | 121 => ⟨S23040x512, .f32⟩
  | 122 => ⟨S23040x512, .f32⟩
  | 123 => ⟨S1x1x1024x512, .f32⟩
  | 124 => ⟨S1024x512, .f32⟩
  | 125 => ⟨S23040x512, .f32⟩
  | 126 => ⟨S23040x512, .f32⟩
  | 127 => ⟨S23040x1, .f32⟩
  | _ => ⟨S90, .i32⟩

abbrev hbmTy0_2 (i : Nat) : BufTy := match i % 128 with
  | 0 => ⟨S1x1x512x1024, .f32⟩
  | 1 => ⟨S512x1024, .f32⟩
  | 2 => ⟨S23040x1024, .f32⟩
  | 3 => ⟨S23040x1024, .f32⟩
  | 4 => ⟨S23040x1024, .f32⟩
  | 5 => ⟨S23040x1024, .f32⟩
  | 6 => ⟨S1x1x1024x512, .f32⟩
  | 7 => ⟨S1024x512, .f32⟩
  | 8 => ⟨S23040x512, .f32⟩
  | 9 => ⟨S23040x512, .f32⟩
  | 10 => ⟨S23040x512, .f32⟩
  | 11 => ⟨S_, .f32⟩
  | 12 => ⟨S23040x512, .f32⟩
  | 13 => ⟨S23040x512, .f32⟩
  | 14 => ⟨S_, .f32⟩
  | 15 => ⟨S23040x512, .f32⟩
  | 16 => ⟨S23040x512, .f32⟩
  | 17 => ⟨S23040x512, .f32⟩
  | 18 => ⟨S1x1x1024x512, .f32⟩
  | 19 => ⟨S1024x512, .f32⟩
  | 20 => ⟨S23040x512, .f32⟩
  | 21 => ⟨S23040x512, .f32⟩
  | 22 => ⟨S23040x1, .f32⟩
  | 23 => ⟨S1x1x512x1024, .f32⟩
  | 24 => ⟨S512x1024, .f32⟩
  | 25 => ⟨S23040x1024, .f32⟩
  | 26 => ⟨S23040x1024, .f32⟩
  | 27 => ⟨S23040x1024, .f32⟩
  | 28 => ⟨S23040x1024, .f32⟩
  | 29 => ⟨S1x1x1024x512, .f32⟩
  | 30 => ⟨S1024x512, .f32⟩
  | 31 => ⟨S23040x512, .f32⟩
  | 32 => ⟨S23040x512, .f32⟩
  | 33 => ⟨S23040x512, .f32⟩
  | 34 => ⟨S_, .f32⟩
  | 35 => ⟨S23040x512, .f32⟩
  | 36 => ⟨S23040x512, .f32⟩
  | 37 => ⟨S_, .f32⟩
  | 38 => ⟨S23040x512, .f32⟩
  | 39 => ⟨S23040x512, .f32⟩
  | 40 => ⟨S23040x512, .f32⟩
  | 41 => ⟨S1x1x1024x512, .f32⟩
  | 42 => ⟨S1024x512, .f32⟩
  | 43 => ⟨S23040x512, .f32⟩
  | 44 => ⟨S23040x512, .f32⟩
  | 45 => ⟨S23040x1, .f32⟩
  | 46 => ⟨S1x1x512x1024, .f32⟩
  | 47 => ⟨S512x1024, .f32⟩
  | 48 => ⟨S23040x1024, .f32⟩
  | 49 => ⟨S23040x1024, .f32⟩
  | 50 => ⟨S23040x1024, .f32⟩
  | 51 => ⟨S23040x1024, .f32⟩
  | 52 => ⟨S1x1x1024x512, .f32⟩
  | 53 => ⟨S1024x512, .f32⟩
  | 54 => ⟨S23040x512, .f32⟩
  | 55 => ⟨S23040x512, .f32⟩
  | 56 => ⟨S23040x512, .f32⟩
  | 57 => ⟨S_, .f32⟩
  | 58 => ⟨S23040x512, .f32⟩
  | 59 => ⟨S23040x512, .f32⟩
  | 60 => ⟨S_, .f32⟩
  | 61 => ⟨S23040x512, .f32⟩
  | 62 => ⟨S23040x512, .f32⟩
  | 63 => ⟨S23040x512, .f32⟩
  | 64 => ⟨S1x1x1024x512, .f32⟩
  | 65 => ⟨S1024x512, .f32⟩
  | 66 => ⟨S23040x512, .f32⟩
  | 67 => ⟨S23040x512, .f32⟩
  | 68 => ⟨S23040x1, .f32⟩
  | 69 => ⟨S1x1x512x1024, .f32⟩
  | 70 => ⟨S512x1024, .f32⟩
  | 71 => ⟨S23040x1024, .f32⟩
  | 72 => ⟨S23040x1024, .f32⟩
  | 73 => ⟨S23040x1024, .f32⟩
  | 74 => ⟨S23040x1024, .f32⟩
  | 75 => ⟨S1x1x1024x512, .f32⟩
  | 76 => ⟨S1024x512, .f32⟩
  | 77 => ⟨S23040x512, .f32⟩
  | 78 => ⟨S23040x512, .f32⟩
  | 79 => ⟨S23040x512, .f32⟩
  | 80 => ⟨S_, .f32⟩
  | 81 => ⟨S23040x512, .f32⟩
  | 82 => ⟨S23040x512, .f32⟩
  | 83 => ⟨S_, .f32⟩
  | 84 => ⟨S23040x512, .f32⟩
  | 85 => ⟨S23040x512, .f32⟩
  | 86 => ⟨S23040x512, .f32⟩
  | 87 => ⟨S1x1x1024x512, .f32⟩
  | 88 => ⟨S1024x512, .f32⟩
  | 89 => ⟨S23040x512, .f32⟩
  | 90 => ⟨S23040x512, .f32⟩
  | 91 => ⟨S23040x1, .f32⟩
  | 92 => ⟨S1x1x512x1024, .f32⟩
  | 93 => ⟨S512x1024, .f32⟩
  | 94 => ⟨S23040x1024, .f32⟩
  | 95 => ⟨S23040x1024, .f32⟩
  | 96 => ⟨S23040x1024, .f32⟩
  | 97 => ⟨S23040x1024, .f32⟩
  | 98 => ⟨S1x1x1024x512, .f32⟩
  | 99 => ⟨S1024x512, .f32⟩
  | 100 => ⟨S23040x512, .f32⟩
  | 101 => ⟨S23040x512, .f32⟩
  | 102 => ⟨S23040x512, .f32⟩
  | 103 => ⟨S_, .f32⟩
  | 104 => ⟨S23040x512, .f32⟩
  | 105 => ⟨S23040x512, .f32⟩
  | 106 => ⟨S_, .f32⟩
  | 107 => ⟨S23040x512, .f32⟩
  | 108 => ⟨S23040x512, .f32⟩
  | 109 => ⟨S23040x512, .f32⟩
  | 110 => ⟨S1x1x1024x512, .f32⟩
  | 111 => ⟨S1024x512, .f32⟩
  | 112 => ⟨S23040x512, .f32⟩
  | 113 => ⟨S23040x512, .f32⟩
  | 114 => ⟨S23040x1, .f32⟩
  | 115 => ⟨S1x1x512x1024, .f32⟩
  | 116 => ⟨S512x1024, .f32⟩
  | 117 => ⟨S23040x1024, .f32⟩
  | 118 => ⟨S23040x1024, .f32⟩
  | 119 => ⟨S23040x1024, .f32⟩
  | 120 => ⟨S23040x1024, .f32⟩
  | 121 => ⟨S1x1x1024x512, .f32⟩
  | 122 => ⟨S1024x512, .f32⟩
  | 123 => ⟨S23040x512, .f32⟩
  | 124 => ⟨S23040x512, .f32⟩
  | 125 => ⟨S23040x512, .f32⟩
  | 126 => ⟨S_, .f32⟩
  | 127 => ⟨S23040x512, .f32⟩
  | _ => ⟨S90, .i32⟩

abbrev hbmTy0_3 (i : Nat) : BufTy := match i % 128 with
  | 0 => ⟨S23040x512, .f32⟩
  | 1 => ⟨S_, .f32⟩
  | 2 => ⟨S23040x512, .f32⟩
  | 3 => ⟨S23040x512, .f32⟩
  | 4 => ⟨S23040x512, .f32⟩
  | 5 => ⟨S1x1x1024x512, .f32⟩
  | 6 => ⟨S1024x512, .f32⟩
  | 7 => ⟨S23040x512, .f32⟩
  | 8 => ⟨S23040x512, .f32⟩
  | 9 => ⟨S23040x1, .f32⟩
  | 10 => ⟨S1x1x512x1024, .f32⟩
  | 11 => ⟨S512x1024, .f32⟩
  | 12 => ⟨S23040x1024, .f32⟩
  | 13 => ⟨S23040x1024, .f32⟩
  | 14 => ⟨S23040x1024, .f32⟩
  | 15 => ⟨S23040x1024, .f32⟩
  | 16 => ⟨S1x1x1024x512, .f32⟩
  | 17 => ⟨S1024x512, .f32⟩
  | 18 => ⟨S23040x512, .f32⟩
  | 19 => ⟨S23040x512, .f32⟩
  | 20 => ⟨S23040x512, .f32⟩
  | 21 => ⟨S_, .f32⟩
  | 22 => ⟨S23040x512, .f32⟩
  | 23 => ⟨S23040x512, .f32⟩
  | 24 => ⟨S_, .f32⟩
  | 25 => ⟨S23040x512, .f32⟩
  | 26 => ⟨S23040x512, .f32⟩
  | 27 => ⟨S23040x512, .f32⟩
  | 28 => ⟨S1x1x1024x512, .f32⟩
  | 29 => ⟨S1024x512, .f32⟩
  | 30 => ⟨S23040x512, .f32⟩
  | 31 => ⟨S23040x512, .f32⟩
  | 32 => ⟨S23040x1, .f32⟩
  | 33 => ⟨S1x1x512x1024, .f32⟩
  | 34 => ⟨S512x1024, .f32⟩
  | 35 => ⟨S23040x1024, .f32⟩
  | 36 => ⟨S23040x1024, .f32⟩
  | 37 => ⟨S23040x1024, .f32⟩
  | 38 => ⟨S23040x1024, .f32⟩
  | _ => ⟨S90, .i32⟩

abbrev hbmTy (i : Nat) : BufTy := match i / 128 with
  | 0 => hbmTy0_0 i
  | 1 => hbmTy0_1 i
  | 2 => hbmTy0_2 i
  | 3 => hbmTy0_3 i
  | _ => ⟨S90, .i32⟩

abbrev bufTy : (tb : Table) → Fin (tcTables nBuf tb) → BufTy
  | .hbm, ⟨i, _⟩ => hbmTy i
  | _, _ => ⟨S90, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call4_v0 : Ref sig .tc := ⟨.hbm, 58, rfl⟩
abbrev main_call4_v1 : Ref sig .tc := ⟨.hbm, 59, rfl⟩
abbrev main_call4_cst : Ref sig .tc := ⟨.hbm, 60, rfl⟩
abbrev main_call4_v2 : Ref sig .tc := ⟨.hbm, 61, rfl⟩
abbrev main_call4_v3 : Ref sig .tc := ⟨.hbm, 62, rfl⟩
abbrev main_call4_cst_0 : Ref sig .tc := ⟨.hbm, 63, rfl⟩
abbrev main_call4_v4 : Ref sig .tc := ⟨.hbm, 64, rfl⟩
abbrev main_call4_v5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call5_v0 : Ref sig .tc := ⟨.hbm, 81, rfl⟩
abbrev main_call5_v1 : Ref sig .tc := ⟨.hbm, 82, rfl⟩
abbrev main_call5_cst : Ref sig .tc := ⟨.hbm, 83, rfl⟩
abbrev main_call5_v2 : Ref sig .tc := ⟨.hbm, 84, rfl⟩
abbrev main_call5_v3 : Ref sig .tc := ⟨.hbm, 85, rfl⟩
abbrev main_call5_cst_0 : Ref sig .tc := ⟨.hbm, 86, rfl⟩
abbrev main_call5_v4 : Ref sig .tc := ⟨.hbm, 87, rfl⟩
abbrev main_call5_v5 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call6_v0 : Ref sig .tc := ⟨.hbm, 104, rfl⟩
abbrev main_call6_v1 : Ref sig .tc := ⟨.hbm, 105, rfl⟩
abbrev main_call6_cst : Ref sig .tc := ⟨.hbm, 106, rfl⟩
abbrev main_call6_v2 : Ref sig .tc := ⟨.hbm, 107, rfl⟩
abbrev main_call6_v3 : Ref sig .tc := ⟨.hbm, 108, rfl⟩
abbrev main_call6_cst_0 : Ref sig .tc := ⟨.hbm, 109, rfl⟩
abbrev main_call6_v4 : Ref sig .tc := ⟨.hbm, 110, rfl⟩
abbrev main_call6_v5 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call7_v0 : Ref sig .tc := ⟨.hbm, 127, rfl⟩
abbrev main_call7_v1 : Ref sig .tc := ⟨.hbm, 128, rfl⟩
abbrev main_call7_cst : Ref sig .tc := ⟨.hbm, 129, rfl⟩
abbrev main_call7_v2 : Ref sig .tc := ⟨.hbm, 130, rfl⟩
abbrev main_call7_v3 : Ref sig .tc := ⟨.hbm, 131, rfl⟩
abbrev main_call7_cst_0 : Ref sig .tc := ⟨.hbm, 132, rfl⟩
abbrev main_call7_v4 : Ref sig .tc := ⟨.hbm, 133, rfl⟩
abbrev main_call7_v5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call8_v0 : Ref sig .tc := ⟨.hbm, 150, rfl⟩
abbrev main_call8_v1 : Ref sig .tc := ⟨.hbm, 151, rfl⟩
abbrev main_call8_cst : Ref sig .tc := ⟨.hbm, 152, rfl⟩
abbrev main_call8_v2 : Ref sig .tc := ⟨.hbm, 153, rfl⟩
abbrev main_call8_v3 : Ref sig .tc := ⟨.hbm, 154, rfl⟩
abbrev main_call8_cst_0 : Ref sig .tc := ⟨.hbm, 155, rfl⟩
abbrev main_call8_v4 : Ref sig .tc := ⟨.hbm, 156, rfl⟩
abbrev main_call8_v5 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_call9_v0 : Ref sig .tc := ⟨.hbm, 173, rfl⟩
abbrev main_call9_v1 : Ref sig .tc := ⟨.hbm, 174, rfl⟩
abbrev main_call9_cst : Ref sig .tc := ⟨.hbm, 175, rfl⟩
abbrev main_call9_v2 : Ref sig .tc := ⟨.hbm, 176, rfl⟩
abbrev main_call9_v3 : Ref sig .tc := ⟨.hbm, 177, rfl⟩
abbrev main_call9_cst_0 : Ref sig .tc := ⟨.hbm, 178, rfl⟩
abbrev main_call9_v4 : Ref sig .tc := ⟨.hbm, 179, rfl⟩
abbrev main_call9_v5 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_call11_v0 : Ref sig .tc := ⟨.hbm, 219, rfl⟩
abbrev main_call11_v1 : Ref sig .tc := ⟨.hbm, 220, rfl⟩
abbrev main_call11_cst : Ref sig .tc := ⟨.hbm, 221, rfl⟩
abbrev main_call11_v2 : Ref sig .tc := ⟨.hbm, 222, rfl⟩
abbrev main_call11_v3 : Ref sig .tc := ⟨.hbm, 223, rfl⟩
abbrev main_call11_cst_0 : Ref sig .tc := ⟨.hbm, 224, rfl⟩
abbrev main_call11_v4 : Ref sig .tc := ⟨.hbm, 225, rfl⟩
abbrev main_call11_v5 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_call12_v0 : Ref sig .tc := ⟨.hbm, 242, rfl⟩
abbrev main_call12_v1 : Ref sig .tc := ⟨.hbm, 243, rfl⟩
abbrev main_call12_cst : Ref sig .tc := ⟨.hbm, 244, rfl⟩
abbrev main_call12_v2 : Ref sig .tc := ⟨.hbm, 245, rfl⟩
abbrev main_call12_v3 : Ref sig .tc := ⟨.hbm, 246, rfl⟩
abbrev main_call12_cst_0 : Ref sig .tc := ⟨.hbm, 247, rfl⟩
abbrev main_call12_v4 : Ref sig .tc := ⟨.hbm, 248, rfl⟩
abbrev main_call12_v5 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_call13_v0 : Ref sig .tc := ⟨.hbm, 265, rfl⟩
abbrev main_call13_v1 : Ref sig .tc := ⟨.hbm, 266, rfl⟩
abbrev main_call13_cst : Ref sig .tc := ⟨.hbm, 267, rfl⟩
abbrev main_call13_v2 : Ref sig .tc := ⟨.hbm, 268, rfl⟩
abbrev main_call13_v3 : Ref sig .tc := ⟨.hbm, 269, rfl⟩
abbrev main_call13_cst_0 : Ref sig .tc := ⟨.hbm, 270, rfl⟩
abbrev main_call13_v4 : Ref sig .tc := ⟨.hbm, 271, rfl⟩
abbrev main_call13_v5 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_call14_v0 : Ref sig .tc := ⟨.hbm, 288, rfl⟩
abbrev main_call14_v1 : Ref sig .tc := ⟨.hbm, 289, rfl⟩
abbrev main_call14_cst : Ref sig .tc := ⟨.hbm, 290, rfl⟩
abbrev main_call14_v2 : Ref sig .tc := ⟨.hbm, 291, rfl⟩
abbrev main_call14_v3 : Ref sig .tc := ⟨.hbm, 292, rfl⟩
abbrev main_call14_cst_0 : Ref sig .tc := ⟨.hbm, 293, rfl⟩
abbrev main_call14_v4 : Ref sig .tc := ⟨.hbm, 294, rfl⟩
abbrev main_call14_v5 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_call15_v0 : Ref sig .tc := ⟨.hbm, 311, rfl⟩
abbrev main_call15_v1 : Ref sig .tc := ⟨.hbm, 312, rfl⟩
abbrev main_call15_cst : Ref sig .tc := ⟨.hbm, 313, rfl⟩
abbrev main_call15_v2 : Ref sig .tc := ⟨.hbm, 314, rfl⟩
abbrev main_call15_v3 : Ref sig .tc := ⟨.hbm, 315, rfl⟩
abbrev main_call15_cst_0 : Ref sig .tc := ⟨.hbm, 316, rfl⟩
abbrev main_call15_v4 : Ref sig .tc := ⟨.hbm, 317, rfl⟩
abbrev main_call15_v5 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_call16_v0 : Ref sig .tc := ⟨.hbm, 334, rfl⟩
abbrev main_call16_v1 : Ref sig .tc := ⟨.hbm, 335, rfl⟩
abbrev main_call16_cst : Ref sig .tc := ⟨.hbm, 336, rfl⟩
abbrev main_call16_v2 : Ref sig .tc := ⟨.hbm, 337, rfl⟩
abbrev main_call16_v3 : Ref sig .tc := ⟨.hbm, 338, rfl⟩
abbrev main_call16_cst_0 : Ref sig .tc := ⟨.hbm, 339, rfl⟩
abbrev main_call16_v4 : Ref sig .tc := ⟨.hbm, 340, rfl⟩
abbrev main_call16_v5 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_call17_v0 : Ref sig .tc := ⟨.hbm, 357, rfl⟩
abbrev main_call17_v1 : Ref sig .tc := ⟨.hbm, 358, rfl⟩
abbrev main_call17_cst : Ref sig .tc := ⟨.hbm, 359, rfl⟩
abbrev main_call17_v2 : Ref sig .tc := ⟨.hbm, 360, rfl⟩
abbrev main_call17_v3 : Ref sig .tc := ⟨.hbm, 361, rfl⟩
abbrev main_call17_cst_0 : Ref sig .tc := ⟨.hbm, 362, rfl⟩
abbrev main_call17_v4 : Ref sig .tc := ⟨.hbm, 363, rfl⟩
abbrev main_call17_v5 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_call18_v0 : Ref sig .tc := ⟨.hbm, 380, rfl⟩
abbrev main_call18_v1 : Ref sig .tc := ⟨.hbm, 381, rfl⟩
abbrev main_call18_cst : Ref sig .tc := ⟨.hbm, 382, rfl⟩
abbrev main_call18_v2 : Ref sig .tc := ⟨.hbm, 383, rfl⟩
abbrev main_call18_v3 : Ref sig .tc := ⟨.hbm, 384, rfl⟩
abbrev main_call18_cst_0 : Ref sig .tc := ⟨.hbm, 385, rfl⟩
abbrev main_call18_v4 : Ref sig .tc := ⟨.hbm, 386, rfl⟩
abbrev main_call18_v5 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_v263 : Ref sig .tc := ⟨.hbm, 402, rfl⟩
abbrev main_call19_v0 : Ref sig .tc := ⟨.hbm, 403, rfl⟩
abbrev main_call19_v1 : Ref sig .tc := ⟨.hbm, 404, rfl⟩
abbrev main_call19_cst : Ref sig .tc := ⟨.hbm, 405, rfl⟩
abbrev main_call19_v2 : Ref sig .tc := ⟨.hbm, 406, rfl⟩
abbrev main_call19_v3 : Ref sig .tc := ⟨.hbm, 407, rfl⟩
abbrev main_call19_cst_0 : Ref sig .tc := ⟨.hbm, 408, rfl⟩
abbrev main_call19_v4 : Ref sig .tc := ⟨.hbm, 409, rfl⟩
abbrev main_call19_v5 : Ref sig .tc := ⟨.hbm, 410, rfl⟩
abbrev main_v264 : Ref sig .tc := ⟨.hbm, 411, rfl⟩
abbrev main_v265 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩

abbrev nD : Nat := 1
abbrev τ : Topo := Topo.v7x

variable {F : FTy → Type} [FloatOps F]
-- ==== Kernel2.lean ====
abbrev S16896x1024 : Shape := ⟨2, ![16896, 1024]⟩
abbrev S8x6x1024 : Shape := ⟨3, ![8, 6, 1024]⟩
abbrev S1024 : Shape := ⟨1, ![1024]⟩
abbrev S1024x2560 : Shape := ⟨2, ![1024, 2560]⟩
abbrev S1x1024 : Shape := ⟨2, ![1, 1024]⟩
abbrev S16896x512 : Shape := ⟨2, ![16896, 512]⟩
abbrev S256x1024 : Shape := ⟨2, ![256, 1024]⟩
abbrev S1x6x1024 : Shape := ⟨3, ![1, 6, 1024]⟩
abbrev S256x512 : Shape := ⟨2, ![256, 512]⟩
abbrev S6x1024 : Shape := ⟨2, ![6, 1024]⟩
abbrev S256 : Shape := ⟨1, ![256]⟩
abbrev S256x1 : Shape := ⟨2, ![256, 1]⟩
abbrev S256x2560 : Shape := ⟨2, ![256, 2560]⟩

abbrev nBuf : Space → Nat
  | .hbm => 9
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S1x1024, .f32⟩
  | .hbm, ⟨5, _⟩ => ⟨S1024x2560, .bf16⟩
  | .hbm, ⟨6, _⟩ => ⟨S16896x512, .f32⟩
  | .hbm, ⟨7, _⟩ => ⟨S16896x512, .f32⟩
  | .hbm, ⟨8, _⟩ => ⟨S16896x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16896x1024 : Shape := ⟨2, ![16896, 1024]⟩
abbrev S8x6x1024 : Shape := ⟨3, ![8, 6, 1024]⟩
abbrev S1024 : Shape := ⟨1, ![1024]⟩
abbrev S1024x2560 : Shape := ⟨2, ![1024, 2560]⟩
abbrev S2x8448x1024 : Shape := ⟨3, ![2, 8448, 1024]⟩
abbrev S2x256x1024 : Shape := ⟨3, ![2, 256, 1024]⟩
abbrev S1x6x1024 : Shape := ⟨3, ![1, 6, 1024]⟩
abbrev S2x8192x1024 : Shape := ⟨3, ![2, 8192, 1024]⟩
abbrev S2x6x1024 : Shape := ⟨3, ![2, 6, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2560 : Shape := ⟨3, ![2, 256, 2560]⟩
abbrev S2x256x512 : Shape := ⟨3, ![2, 256, 512]⟩
abbrev S2x256x1536 : Shape := ⟨3, ![2, 256, 1536]⟩
abbrev S2x8192 : Shape := ⟨2, ![2, 8192]⟩
abbrev S2x8192x1 : Shape := ⟨3, ![2, 8192, 1]⟩
abbrev S2x1x1024 : Shape := ⟨3, ![2, 1, 1024]⟩
abbrev S2x8192x2560 : Shape := ⟨3, ![2, 8192, 2560]⟩
abbrev S2x8192x512 : Shape := ⟨3, ![2, 8192, 512]⟩
abbrev S2x8192x1536 : Shape := ⟨3, ![2, 8192, 1536]⟩
abbrev S2x8448x512 : Shape := ⟨3, ![2, 8448, 512]⟩
abbrev S16896x512 : Shape := ⟨2, ![16896, 512]⟩

abbrev nBuf : Space → Nat
  | .hbm => 99
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S2x8448x1024, .f32⟩
  | .hbm, ⟨5, _⟩ => ⟨S2x256x1024, .f32⟩
  | .hbm, ⟨6, _⟩ => ⟨S1x6x1024, .f32⟩
  | .hbm, ⟨7, _⟩ => ⟨S2x8192x1024, .f32⟩
  | .hbm, ⟨8, _⟩ => ⟨S2x6x1024, .f32⟩
  | .hbm, ⟨9, _⟩ => ⟨S2x256x1024, .f32⟩
  | .hbm, ⟨10, _⟩ => ⟨S_, .f32⟩
  | .hbm, ⟨11, _⟩ => ⟨S2x256, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S1x1x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S2x256x2560, .f32⟩
  | .hbm, ⟨35, _⟩ => ⟨S2x256x512, .f32⟩
  | .hbm, ⟨36, _⟩ => ⟨S2x256x512, .f32⟩
  | .hbm, ⟨37, _⟩ => ⟨S2x256x512, .f32⟩
  | .hbm, ⟨38, _⟩ => ⟨S2x256x512, .f32⟩
  | .hbm, ⟨39, _⟩ => ⟨S_, .f32⟩
  | .hbm, ⟨40, _⟩ => ⟨S2x256x512, .f32⟩
  | .hbm, ⟨41, _⟩ => ⟨S2x256x512, .f32⟩
  | .hbm, ⟨42, _⟩ => ⟨S_, .f32⟩
  | .hbm, ⟨43, _⟩ => ⟨S2x256x512, .f32⟩
  | .hbm, ⟨44, _⟩ => ⟨S2x256x512, .f32⟩
  | .hbm, ⟨45, _⟩ => ⟨S2x256x512, .f32⟩
  | .hbm, ⟨46, _⟩ => ⟨S2x256x1536, .f32⟩
  | .hbm, ⟨47, _⟩ => ⟨S2x256x512, .f32⟩
  | .hbm, ⟨48, _⟩ => ⟨S2x256x512, .f32⟩
  | .hbm, ⟨49, _⟩ => ⟨S2x256x512, .f32⟩
  | .hbm, ⟨50, _⟩ => ⟨S2x256x512, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S2x1x1024, .f32⟩
  | .hbm, ⟨68, _⟩ => ⟨S2x1x1024, .f32⟩
  | .hbm, ⟨69, _⟩ => ⟨S_, .f32⟩
  | .hbm, ⟨70, _⟩ => ⟨S2x1x1024, .f32⟩
  | .hbm, ⟨71, _⟩ => ⟨S2x1x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x2560, .f32⟩
  | .hbm, ⟨77, _⟩ => ⟨S2x8192x512, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S_, .f32⟩
  | .hbm, ⟨82, _⟩ => ⟨S2x8192x512, .f32⟩
  | .hbm, ⟨83, _⟩ => ⟨S2x8192x512, .f32⟩
  | .hbm, ⟨84, _⟩ => ⟨S_, .f32⟩
  | .hbm, ⟨85, _⟩ => ⟨S2x8192x512, .f32⟩
  | .hbm, ⟨86, _⟩ => ⟨S2x8192x512, .f32⟩
  | .hbm, ⟨87, _⟩ => ⟨S2x8192x512, .f32⟩
  | .hbm, ⟨88, _⟩ => ⟨S2x8192x1536, .f32⟩
  | .hbm, ⟨89, _⟩ => ⟨S2x8192x512, .f32⟩
  | .hbm, ⟨90, _⟩ => ⟨S2x8192x512, .f32⟩
  | .hbm, ⟨91, _⟩ => ⟨S2x8192x512, .f32⟩
  | .hbm, ⟨92, _⟩ => ⟨S2x8192x512, .f32⟩
  | .hbm, ⟨93, _⟩ => ⟨S2x8448x512, .f32⟩
  | .hbm, ⟨94, _⟩ => ⟨S16896x512, .f32⟩
  | .hbm, ⟨95, _⟩ => ⟨S2x8448x512, .f32⟩
  | .hbm, ⟨96, _⟩ => ⟨S16896x512, .f32⟩
  | .hbm, ⟨97, _⟩ => ⟨S2x8448x512, .f32⟩
  | .hbm, ⟨98, _⟩ => ⟨S16896x512, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_cst_10 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Kernel3.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S1024 : Shape := ⟨1, ![1024]⟩
abbrev S1x1024 : Shape := ⟨2, ![1, 1024]⟩
abbrev S2x8192x1024 : Shape := ⟨3, ![2, 8192, 1024]⟩
abbrev S256x1024 : Shape := ⟨2, ![256, 1024]⟩
abbrev S1x6x1024 : Shape := ⟨3, ![1, 6, 1024]⟩
abbrev S1x256x1024 : Shape := ⟨3, ![1, 256, 1024]⟩
abbrev S_ : Shape := ⟨0, ![]⟩
abbrev S1 : Shape := ⟨1, ![1]⟩
abbrev S6x1024 : Shape := ⟨2, ![6, 1024]⟩
abbrev S256 : Shape := ⟨1, ![256]⟩
abbrev S256x1 : Shape := ⟨2, ![256, 1]⟩

abbrev nBuf : Space → Nat
  | .hbm => 6
  | .vmem => 8
  | .smem => 1
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S23040x1024, .f32⟩
  | .hbm, ⟨3, _⟩ => ⟨S1024, .f32⟩
  | .hbm, ⟨4, _⟩ => ⟨S1x1024, .f32⟩
  | .hbm, ⟨5, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | .local _ .vmem, ⟨7, _⟩ => ⟨S256x1024, .f32⟩
  | .local _ .smem, ⟨0, _⟩ => ⟨S16896, .i32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32 : BitVec 32 := 32#32
  let v28 : BitVec 32 := Scalar.muli arg9 c32_i32
  let c0_i32_18 : BitVec 32 := 0#32
  let v29 : BitVec 32 := Scalar.addi v28 c0_i32_18
  let v30 : BitVec 32 := Scalar.addi v0 v29
  let v31 : Index := Scalar.indexCast v30
  ![v31.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v28 : BitVec 32 := Scalar.muli arg9 c32_i32
  let c0_i32_18 : BitVec 32 := 0#32
  let v29 : BitVec 32 := Scalar.addi v28 c0_i32_18
  let c0_i32_19 : BitVec 32 := 0#32
  ![v29.toNat, 0]
def k0_off3 (v32 : BitVec 32) : Fin 2 → Nat :=
  let c0_i32_20 : BitVec 32 := 0#32
  ![v32.toNat, 0]

def k0_chk1 (v32 : BitVec 32) : Prop :=
  (∀ a, (k0_off3 v32) a + S1x1024.size a ≤ S23040x1024.size a)
theorem k0_off3_inb : ∀ (v32 : BitVec 32) (k0_hw1 : k0_chk1 v32), ∀ a, (k0_off3 v32) a + S1x1024.size a ≤ S23040x1024.size a := fun v32 k0_hw1 => k0_hw1

def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_21 : BitVec 32 := 32#32
  let v35 : BitVec 32 := Scalar.muli arg9 c32_i32_21
  let c1_i32_22 : BitVec 32 := 1#32
  let v36 : BitVec 32 := Scalar.addi v35 c1_i32_22
  let v37 : BitVec 32 := Scalar.addi v0 v36
  let v38 : Index := Scalar.indexCast v37
  ![v38.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_21 : BitVec 32 := 32#32
  let v35 : BitVec 32 := Scalar.muli arg9 c32_i32_21
  let c1_i32_22 : BitVec 32 := 1#32
  let v36 : BitVec 32 := Scalar.addi v35 c1_i32_22
  let c0_i32_23 : BitVec 32 := 0#32
  ![v36.toNat, 0]
def k0_off6 (v39 : BitVec 32) : Fin 2 → Nat :=
  let c0_i32_24 : BitVec 32 := 0#32
  ![v39.toNat, 0]

def k0_chk2 (v39 : BitVec 32) : Prop :=
  (∀ a, (k0_off6 v39) a + S1x1024.size a ≤ S23040x1024.size a)
theorem k0_off6_inb : ∀ (v39 : BitVec 32) (k0_hw2 : k0_chk2 v39), ∀ a, (k0_off6 v39) a + S1x1024.size a ≤ S23040x1024.size a := fun v39 k0_hw2 => k0_hw2

def k0_off7 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_25 : BitVec 32 := 32#32
  let v42 : BitVec 32 := Scalar.muli arg9 c32_i32_25
  let c2_i32 : BitVec 32 := 2#32
  let v43 : BitVec 32 := Scalar.addi v42 c2_i32
  let v44 : BitVec 32 := Scalar.addi v0 v43
  let v45 : Index := Scalar.indexCast v44
  ![v45.toNat]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_25 : BitVec 32 := 32#32
  let v42 : BitVec 32 := Scalar.muli arg9 c32_i32_25
  let c2_i32 : BitVec 32 := 2#32
  let v43 : BitVec 32 := Scalar.addi v42 c2_i32
  let c0_i32_26 : BitVec 32 := 0#32
  ![v43.toNat, 0]
def k0_off9 (v46 : BitVec 32) : Fin 2 → Nat :=
  let c0_i32_27 : BitVec 32 := 0#32
  ![v46.toNat, 0]

def k0_chk3 (v46 : BitVec 32) : Prop :=
  (∀ a, (k0_off9 v46) a + S1x1024.size a ≤ S23040x1024.size a)
theorem k0_off9_inb : ∀ (v46 : BitVec 32) (k0_hw3 : k0_chk3 v46), ∀ a, (k0_off9 v46) a + S1x1024.size a ≤ S23040x1024.size a := fun v46 k0_hw3 => k0_hw3

def k0_off10 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_28 : BitVec 32 := 32#32
  let v49 : BitVec 32 := Scalar.muli arg9 c32_i32_28
  let c3_i32 : BitVec 32 := 3#32
  let v50 : BitVec 32 := Scalar.addi v49 c3_i32
  let v51 : BitVec 32 := Scalar.addi v0 v50
  let v52 : Index := Scalar.indexCast v51
  ![v52.toNat]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_28 : BitVec 32 := 32#32
  let v49 : BitVec 32 := Scalar.muli arg9 c32_i32_28
  let c3_i32 : BitVec 32 := 3#32
  let v50 : BitVec 32 := Scalar.addi v49 c3_i32
  let c0_i32_29 : BitVec 32 := 0#32
  ![v50.toNat, 0]
def k0_off12 (v53 : BitVec 32) : Fin 2 → Nat :=
  let c0_i32_30 : BitVec 32 := 0#32
  ![v53.toNat, 0]

def k0_chk4 (v53 : BitVec 32) : Prop :=
  (∀ a, (k0_off12 v53) a + S1x1024.size a ≤ S23040x1024.size a)
theorem k0_off12_inb : ∀ (v53 : BitVec 32) (k0_hw4 : k0_chk4 v53), ∀ a, (k0_off12 v53) a + S1x1024.size a ≤ S23040x1024.size a := fun v53 k0_hw4 => k0_hw4

def k0_off13 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_31 : BitVec 32 := 32#32
  let v56 : BitVec 32 := Scalar.muli arg9 c32_i32_31
  let c4_i32 : BitVec 32 := 4#32
  let v57 : BitVec 32 := Scalar.addi v56 c4_i32
  let v58 : BitVec 32 := Scalar.addi v0 v57
  let v59 : Index := Scalar.indexCast v58
  ![v59.toNat]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_31 : BitVec 32 := 32#32
  let v56 : BitVec 32 := Scalar.muli arg9 c32_i32_31
  let c4_i32 : BitVec 32 := 4#32
  let v57 : BitVec 32 := Scalar.addi v56 c4_i32
  let c0_i32_32 : BitVec 32 := 0#32
  ![v57.toNat, 0]
def k0_off15 (v60 : BitVec 32) : Fin 2 → Nat :=
  let c0_i32_33 : BitVec 32 := 0#32
  ![v60.toNat, 0]

def k0_chk5 (v60 : BitVec 32) : Prop :=
  (∀ a, (k0_off15 v60) a + S1x1024.size a ≤ S23040x1024.size a)
theorem k0_off15_inb : ∀ (v60 : BitVec 32) (k0_hw5 : k0_chk5 v60), ∀ a, (k0_off15 v60) a + S1x1024.size a ≤ S23040x1024.size a := fun v60 k0_hw5 => k0_hw5

def k0_off16 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_34 : BitVec 32 := 32#32
  let v63 : BitVec 32 := Scalar.muli arg9 c32_i32_34
  let c5_i32 : BitVec 32 := 5#32
  let v64 : BitVec 32 := Scalar.addi v63 c5_i32
  let v65 : BitVec 32 := Scalar.addi v0 v64
  let v66 : Index := Scalar.indexCast v65
  ![v66.toNat]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_34 : BitVec 32 := 32#32
  let v63 : BitVec 32 := Scalar.muli arg9 c32_i32_34
  let c5_i32 : BitVec 32 := 5#32
  let v64 : BitVec 32 := Scalar.addi v63 c5_i32
  let c0_i32_35 : BitVec 32 := 0#32
  ![v64.toNat, 0]
def k0_off18 (v67 : BitVec 32) : Fin 2 → Nat :=
  let c0_i32_36 : BitVec 32 := 0#32
  ![v67.toNat, 0]

def k0_chk6 (v67 : BitVec 32) : Prop :=
  (∀ a, (k0_off18 v67) a + S1x1024.size a ≤ S23040x1024.size a)
theorem k0_off18_inb : ∀ (v67 : BitVec 32) (k0_hw6 : k0_chk6 v67), ∀ a, (k0_off18 v67) a + S1x1024.size a ≤ S23040x1024.size a := fun v67 k0_hw6 => k0_hw6

def k0_off19 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_37 : BitVec 32 := 32#32
  let v70 : BitVec 32 := Scalar.muli arg9 c32_i32_37
  let c6_i32 : BitVec 32 := 6#32
  let v71 : BitVec 32 := Scalar.addi v70 c6_i32
  let v72 : BitVec 32 := Scalar.addi v0 v71
  let v73 : Index := Scalar.indexCast v72
  ![v73.toNat]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_37 : BitVec 32 := 32#32
  let v70 : BitVec 32 := Scalar.muli arg9 c32_i32_37
  let c6_i32 : BitVec 32 := 6#32
  let v71 : BitVec 32 := Scalar.addi v70 c6_i32
  let c0_i32_38 : BitVec 32 := 0#32
  ![v71.toNat, 0]
def k0_off21 (v74 : BitVec 32) : Fin 2 → Nat :=
  let c0_i32_39 : BitVec 32 := 0#32
  ![v74.toNat, 0]

def k0_chk7 (v74 : BitVec 32) : Prop :=
  (∀ a, (k0_off21 v74) a + S1x1024.size a ≤ S23040x1024.size a)
theorem k0_off21_inb : ∀ (v74 : BitVec 32) (k0_hw7 : k0_chk7 v74), ∀ a, (k0_off21 v74) a + S1x1024.size a ≤ S23040x1024.size a := fun v74 k0_hw7 => k0_hw7

def k0_off22 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_40 : BitVec 32 := 32#32
  let v77 : BitVec 32 := Scalar.muli arg9 c32_i32_40
  let c7_i32 : BitVec 32 := 7#32
  let v78 : BitVec 32 := Scalar.addi v77 c7_i32
  let v79 : BitVec 32 := Scalar.addi v0 v78
  let v80 : Index := Scalar.indexCast v79
  ![v80.toNat]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_40 : BitVec 32 := 32#32
  let v77 : BitVec 32 := Scalar.muli arg9 c32_i32_40
  let c7_i32 : BitVec 32 := 7#32
  let v78 : BitVec 32 := Scalar.addi v77 c7_i32
  let c0_i32_41 : BitVec 32 := 0#32
  ![v78.toNat, 0]
def k0_off24 (v81 : BitVec 32) : Fin 2 → Nat :=
  let c0_i32_42 : BitVec 32 := 0#32
  ![v81.toNat, 0]

def k0_chk8 (v81 : BitVec 32) : Prop :=
  (∀ a, (k0_off24 v81) a + S1x1024.size a ≤ S23040x1024.size a)
theorem k0_off24_inb : ∀ (v81 : BitVec 32) (k0_hw8 : k0_chk8 v81), ∀ a, (k0_off24 v81) a + S1x1024.size a ≤ S23040x1024.size a := fun v81 k0_hw8 => k0_hw8

def k0_off25 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_43 : BitVec 32 := 32#32
  let v84 : BitVec 32 := Scalar.muli arg9 c32_i32_43
  let c8_i32_44 : BitVec 32 := 8#32
  let v85 : BitVec 32 := Scalar.addi v84 c8_i32_44
  let v86 : BitVec 32 := Scalar.addi v0 v85
  let v87 : Index := Scalar.indexCast v86
  ![v87.toNat]
def k0_off26 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_43 : BitVec 32 := 32#32
  let v84 : BitVec 32 := Scalar.muli arg9 c32_i32_43
  let c8_i32_44 : BitVec 32 := 8#32
  let v85 : BitVec 32 := Scalar.addi v84 c8_i32_44
  let c0_i32_45 : BitVec 32 := 0#32
  ![v85.toNat, 0]
def k0_off27 (v88 : BitVec 32) : Fin 2 → Nat :=
  let c0_i32_46 : BitVec 32 := 0#32
  ![v88.toNat, 0]

def k0_chk9 (v88 : BitVec 32) : Prop :=
  (∀ a, (k0_off27 v88) a + S1x1024.size a ≤ S23040x1024.size a)
theorem k0_off27_inb : ∀ (v88 : BitVec 32) (k0_hw9 : k0_chk9 v88), ∀ a, (k0_off27 v88) a + S1x1024.size a ≤ S23040x1024.size a := fun v88 k0_hw9 => k0_hw9

def k0_off28 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_47 : BitVec 32 := 32#32
  let v91 : BitVec 32 := Scalar.muli arg9 c32_i32_47
  let c9_i32 : BitVec 32 := 9#32
  let v92 : BitVec 32 := Scalar.addi v91 c9_i32
  let v93 : BitVec 32 := Scalar.addi v0 v92
  let v94 : Index := Scalar.indexCast v93
  ![v94.toNat]
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_47 : BitVec 32 := 32#32
  let v91 : BitVec 32 := Scalar.muli arg9 c32_i32_47
  let c9_i32 : BitVec 32 := 9#32
  let v92 : BitVec 32 := Scalar.addi v91 c9_i32
  let c0_i32_48 : BitVec 32 := 0#32
  ![v92.toNat, 0]
def k0_off30 (v95 : BitVec 32) : Fin 2 → Nat :=
  let c0_i32_49 : BitVec 32 := 0#32
  ![v95.toNat, 0]

def k0_chk10 (v95 : BitVec 32) : Prop :=
  (∀ a, (k0_off30 v95) a + S1x1024.size a ≤ S23040x1024.size a)
theorem k0_off30_inb : ∀ (v95 : BitVec 32) (k0_hw10 : k0_chk10 v95), ∀ a, (k0_off30 v95) a + S1x1024.size a ≤ S23040x1024.size a := fun v95 k0_hw10 => k0_hw10

def k0_off31 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_50 : BitVec 32 := 32#32
  let v98 : BitVec 32 := Scalar.muli arg9 c32_i32_50
  let c10_i32 : BitVec 32 := 10#32
  let v99 : BitVec 32 := Scalar.addi v98 c10_i32
  let v100 : BitVec 32 := Scalar.addi v0 v99
  let v101 : Index := Scalar.indexCast v100
  ![v101.toNat]
def k0_off32 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_50 : BitVec 32 := 32#32
  let v98 : BitVec 32 := Scalar.muli arg9 c32_i32_50
  let c10_i32 : BitVec 32 := 10#32
  let v99 : BitVec 32 := Scalar.addi v98 c10_i32
  let c0_i32_51 : BitVec 32 := 0#32
  ![v99.toNat, 0]
def k0_off33 (v102 : BitVec 32) : Fin 2 → Nat :=
  let c0_i32_52 : BitVec 32 := 0#32
  ![v102.toNat, 0]

def k0_chk11 (v102 : BitVec 32) : Prop :=
  (∀ a, (k0_off33 v102) a + S1x1024.size a ≤ S23040x1024.size a)
theorem k0_off33_inb : ∀ (v102 : BitVec 32) (k0_hw11 : k0_chk11 v102), ∀ a, (k0_off33 v102) a + S1x1024.size a ≤ S23040x1024.size a := fun v102 k0_hw11 => k0_hw11

def k0_off34 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_53 : BitVec 32 := 32#32
  let v105 : BitVec 32 := Scalar.muli arg9 c32_i32_53
  let c11_i32 : BitVec 32 := 11#32
  let v106 : BitVec 32 := Scalar.addi v105 c11_i32
  let v107 : BitVec 32 := Scalar.addi v0 v106
  let v108 : Index := Scalar.indexCast v107
  ![v108.toNat]
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_53 : BitVec 32 := 32#32
  let v105 : BitVec 32 := Scalar.muli arg9 c32_i32_53
  let c11_i32 : BitVec 32 := 11#32
  let v106 : BitVec 32 := Scalar.addi v105 c11_i32
  let c0_i32_54 : BitVec 32 := 0#32
  ![v106.toNat, 0]
def k0_off36 (v109 : BitVec 32) : Fin 2 → Nat :=
  let c0_i32_55 : BitVec 32 := 0#32
  ![v109.toNat, 0]

def k0_chk12 (v109 : BitVec 32) : Prop :=
  (∀ a, (k0_off36 v109) a + S1x1024.size a ≤ S23040x1024.size a)
theorem k0_off36_inb : ∀ (v109 : BitVec 32) (k0_hw12 : k0_chk12 v109), ∀ a, (k0_off36 v109) a + S1x1024.size a ≤ S23040x1024.size a := fun v109 k0_hw12 => k0_hw12

def k0_off37 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_56 : BitVec 32 := 32#32
  let v112 : BitVec 32 := Scalar.muli arg9 c32_i32_56
  let c12_i32 : BitVec 32 := 12#32
  let v113 : BitVec 32 := Scalar.addi v112 c12_i32
  let v114 : BitVec 32 := Scalar.addi v0 v113
  let v115 : Index := Scalar.indexCast v114
  ![v115.toNat]
def k0_off38 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_56 : BitVec 32 := 32#32
  let v112 : BitVec 32 := Scalar.muli arg9 c32_i32_56
  let c12_i32 : BitVec 32 := 12#32
  let v113 : BitVec 32 := Scalar.addi v112 c12_i32
  let c0_i32_57 : BitVec 32 := 0#32
  ![v113.toNat, 0]
def k0_off39 (v116 : BitVec 32) : Fin 2 → Nat :=
  let c0_i32_58 : BitVec 32 := 0#32
  ![v116.toNat, 0]

def k0_chk13 (v116 : BitVec 32) : Prop :=
  (∀ a, (k0_off39 v116) a + S1x1024.size a ≤ S23040x1024.size a)
theorem k0_off39_inb : ∀ (v116 : BitVec 32) (k0_hw13 : k0_chk13 v116), ∀ a, (k0_off39 v116) a + S1x1024.size a ≤ S23040x1024.size a := fun v116 k0_hw13 => k0_hw13

def k0_off40 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_59 : BitVec 32 := 32#32
  let v119 : BitVec 32 := Scalar.muli arg9 c32_i32_59
  let c13_i32 : BitVec 32 := 13#32
  let v120 : BitVec 32 := Scalar.addi v119 c13_i32
  let v121 : BitVec 32 := Scalar.addi v0 v120
  let v122 : Index := Scalar.indexCast v121
  ![v122.toNat]
def k0_off41 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_59 : BitVec 32 := 32#32
  let v119 : BitVec 32 := Scalar.muli arg9 c32_i32_59
  let c13_i32 : BitVec 32 := 13#32
  let v120 : BitVec 32 := Scalar.addi v119 c13_i32
  let c0_i32_60 : BitVec 32 := 0#32
  ![v120.toNat, 0]
def k0_off42 (v123 : BitVec 32) : Fin 2 → Nat :=
  let c0_i32_61 : BitVec 32 := 0#32
  ![v123.toNat, 0]

def k0_chk14 (v123 : BitVec 32) : Prop :=
  (∀ a, (k0_off42 v123) a + S1x1024.size a ≤ S23040x1024.size a)
theorem k0_off42_inb : ∀ (v123 : BitVec 32) (k0_hw14 : k0_chk14 v123), ∀ a, (k0_off42 v123) a + S1x1024.size a ≤ S23040x1024.size a := fun v123 k0_hw14 => k0_hw14

def k0_off43 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_62 : BitVec 32 := 32#32
  let v126 : BitVec 32 := Scalar.muli arg9 c32_i32_62
  let c14_i32 : BitVec 32 := 14#32
  let v127 : BitVec 32 := Scalar.addi v126 c14_i32
  let v128 : BitVec 32 := Scalar.addi v0 v127
  let v129 : Index := Scalar.indexCast v128
  ![v129.toNat]
def k0_off44 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_62 : BitVec 32 := 32#32
  let v126 : BitVec 32 := Scalar.muli arg9 c32_i32_62
  let c14_i32 : BitVec 32 := 14#32
  let v127 : BitVec 32 := Scalar.addi v126 c14_i32
  let c0_i32_63 : BitVec 32 := 0#32
  ![v127.toNat, 0]
def k0_off45 (v130 : BitVec 32) : Fin 2 → Nat :=
  let c0_i32_64 : BitVec 32 := 0#32
  ![v130.toNat, 0]

def k0_chk15 (v130 : BitVec 32) : Prop :=
  (∀ a, (k0_off45 v130) a + S1x1024.size a ≤ S23040x1024.size a)
theorem k0_off45_inb : ∀ (v130 : BitVec 32) (k0_hw15 : k0_chk15 v130), ∀ a, (k0_off45 v130) a + S1x1024.size a ≤ S23040x1024.size a := fun v130 k0_hw15 => k0_hw15

def k0_off46 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_65 : BitVec 32 := 32#32
  let v133 : BitVec 32 := Scalar.muli arg9 c32_i32_65
  let c15_i32 : BitVec 32 := 15#32
  let v134 : BitVec 32 := Scalar.addi v133 c15_i32
  let v135 : BitVec 32 := Scalar.addi v0 v134
  let v136 : Index := Scalar.indexCast v135
  ![v136.toNat]
def k0_off47 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_65 : BitVec 32 := 32#32
  let v133 : BitVec 32 := Scalar.muli arg9 c32_i32_65
  let c15_i32 : BitVec 32 := 15#32
  let v134 : BitVec 32 := Scalar.addi v133 c15_i32
  let c0_i32_66 : BitVec 32 := 0#32
  ![v134.toNat, 0]
def k0_off48 (v137 : BitVec 32) : Fin 2 → Nat :=
  let c0_i32_67 : BitVec 32 := 0#32
  ![v137.toNat, 0]

def k0_chk16 (v137 : BitVec 32) : Prop :=
  (∀ a, (k0_off48 v137) a + S1x1024.size a ≤ S23040x1024.size a)
theorem k0_off48_inb : ∀ (v137 : BitVec 32) (k0_hw16 : k0_chk16 v137), ∀ a, (k0_off48 v137) a + S1x1024.size a ≤ S23040x1024.size a := fun v137 k0_hw16 => k0_hw16

def k0_off49 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_68 : BitVec 32 := 32#32
  let v140 : BitVec 32 := Scalar.muli arg9 c32_i32_68
  let c16_i32 : BitVec 32 := 16#32
  let v141 : BitVec 32 := Scalar.addi v140 c16_i32
  let v142 : BitVec 32 := Scalar.addi v0 v141
  let v143 : Index := Scalar.indexCast v142
  ![v143.toNat]
def k0_off50 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_68 : BitVec 32 := 32#32
  let v140 : BitVec 32 := Scalar.muli arg9 c32_i32_68
  let c16_i32 : BitVec 32 := 16#32
  let v141 : BitVec 32 := Scalar.addi v140 c16_i32
  let c0_i32_69 : BitVec 32 := 0#32
  ![v141.toNat, 0]
def k0_off51 (v144 : BitVec 32) : Fin 2 → Nat :=
  let c0_i32_70 : BitVec 32 := 0#32
  ![v144.toNat, 0]

def k0_chk17 (v144 : BitVec 32) : Prop :=
  (∀ a, (k0_off51 v144) a + S1x1024.size a ≤ S23040x1024.size a)
theorem k0_off51_inb : ∀ (v144 : BitVec 32) (k0_hw17 : k0_chk17 v144), ∀ a, (k0_off51 v144) a + S1x1024.size a ≤ S23040x1024.size a := fun v144 k0_hw17 => k0_hw17

def k0_off52 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_71 : BitVec 32 := 32#32
  let v147 : BitVec 32 := Scalar.muli arg9 c32_i32_71
  let c17_i32 : BitVec 32 := 17#32
  let v148 : BitVec 32 := Scalar.addi v147 c17_i32
  let v149 : BitVec 32 := Scalar.addi v0 v148
  let v150 : Index := Scalar.indexCast v149
  ![v150.toNat]
def k0_off53 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_71 : BitVec 32 := 32#32
  let v147 : BitVec 32 := Scalar.muli arg9 c32_i32_71
  let c17_i32 : BitVec 32 := 17#32
  let v148 : BitVec 32 := Scalar.addi v147 c17_i32
  let c0_i32_72 : BitVec 32 := 0#32
  ![v148.toNat, 0]
def k0_off54 (v151 : BitVec 32) : Fin 2 → Nat :=
  let c0_i32_73 : BitVec 32 := 0#32
  ![v151.toNat, 0]

def k0_chk18 (v151 : BitVec 32) : Prop :=
  (∀ a, (k0_off54 v151) a + S1x1024.size a ≤ S23040x1024.size a)
theorem k0_off54_inb : ∀ (v151 : BitVec 32) (k0_hw18 : k0_chk18 v151), ∀ a, (k0_off54 v151) a + S1x1024.size a ≤ S23040x1024.size a := fun v151 k0_hw18 => k0_hw18

def k0_off55 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_74 : BitVec 32 := 32#32
  let v154 : BitVec 32 := Scalar.muli arg9 c32_i32_74
  let c18_i32 : BitVec 32 := 18#32
  let v155 : BitVec 32 := Scalar.addi v154 c18_i32
  let v156 : BitVec 32 := Scalar.addi v0 v155
  let v157 : Index := Scalar.indexCast v156
  ![v157.toNat]
def k0_off56 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_74 : BitVec 32 := 32#32
  let v154 : BitVec 32 := Scalar.muli arg9 c32_i32_74
  let c18_i32 : BitVec 32 := 18#32
  let v155 : BitVec 32 := Scalar.addi v154 c18_i32
  let c0_i32_75 : BitVec 32 := 0#32
  ![v155.toNat, 0]
def k0_off57 (v158 : BitVec 32) : Fin 2 → Nat :=
  let c0_i32_76 : BitVec 32 := 0#32
  ![v158.toNat, 0]

def k0_chk19 (v158 : BitVec 32) : Prop :=
  (∀ a, (k0_off57 v158) a + S1x1024.size a ≤ S23040x1024.size a)
theorem k0_off57_inb : ∀ (v158 : BitVec 32) (k0_hw19 : k0_chk19 v158), ∀ a, (k0_off57 v158) a + S1x1024.size a ≤ S23040x1024.size a := fun v158 k0_hw19 => k0_hw19

def k0_off58 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_77 : BitVec 32 := 32#32
  let v161 : BitVec 32 := Scalar.muli arg9 c32_i32_77
  let c19_i32 : BitVec 32 := 19#32
  let v162 : BitVec 32 := Scalar.addi v161 c19_i32
  let v163 : BitVec 32 := Scalar.addi v0 v162
  let v164 : Index := Scalar.indexCast v163
  ![v164.toNat]
def k0_off59 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_77 : BitVec 32 := 32#32
  let v161 : BitVec 32 := Scalar.muli arg9 c32_i32_77
  let c19_i32 : BitVec 32 := 19#32
  let v162 : BitVec 32 := Scalar.addi v161 c19_i32
  let c0_i32_78 : BitVec 32 := 0#32
  ![v162.toNat, 0]
def k0_off60 (v165 : BitVec 32) : Fin 2 → Nat :=
  let c0_i32_79 : BitVec 32 := 0#32
  ![v165.toNat, 0]

def k0_chk20 (v165 : BitVec 32) : Prop :=
  (∀ a, (k0_off60 v165) a + S1x1024.size a ≤ S23040x1024.size a)
theorem k0_off60_inb : ∀ (v165 : BitVec 32) (k0_hw20 : k0_chk20 v165), ∀ a, (k0_off60 v165) a + S1x1024.size a ≤ S23040x1024.size a := fun v165 k0_hw20 => k0_hw20

def k0_off61 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_80 : BitVec 32 := 32#32
  let v168 : BitVec 32 := Scalar.muli arg9 c32_i32_80
  let c20_i32 : BitVec 32 := 20#32
  let v169 : BitVec 32 := Scalar.addi v168 c20_i32
  let v170 : BitVec 32 := Scalar.addi v0 v169
  let v171 : Index := Scalar.indexCast v170
  ![v171.toNat]
def k0_off62 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_80 : BitVec 32 := 32#32
  let v168 : BitVec 32 := Scalar.muli arg9 c32_i32_80
  let c20_i32 : BitVec 32 := 20#32
  let v169 : BitVec 32 := Scalar.addi v168 c20_i32
  let c0_i32_81 : BitVec 32 := 0#32
  ![v169.toNat, 0]
def k0_off63 (v172 : BitVec 32) : Fin 2 → Nat :=
  let c0_i32_82 : BitVec 32 := 0#32
  ![v172.toNat, 0]

def k0_chk21 (v172 : BitVec 32) : Prop :=
  (∀ a, (k0_off63 v172) a + S1x1024.size a ≤ S23040x1024.size a)
theorem k0_off63_inb : ∀ (v172 : BitVec 32) (k0_hw21 : k0_chk21 v172), ∀ a, (k0_off63 v172) a + S1x1024.size a ≤ S23040x1024.size a := fun v172 k0_hw21 => k0_hw21

def k0_off64 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_83 : BitVec 32 := 32#32
  let v175 : BitVec 32 := Scalar.muli arg9 c32_i32_83
  let c21_i32 : BitVec 32 := 21#32
  let v176 : BitVec 32 := Scalar.addi v175 c21_i32
  let v177 : BitVec 32 := Scalar.addi v0 v176
  let v178 : Index := Scalar.indexCast v177
  ![v178.toNat]
def k0_off65 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_83 : BitVec 32 := 32#32
  let v175 : BitVec 32 := Scalar.muli arg9 c32_i32_83
  let c21_i32 : BitVec 32 := 21#32
  let v176 : BitVec 32 := Scalar.addi v175 c21_i32
  let c0_i32_84 : BitVec 32 := 0#32
  ![v176.toNat, 0]
def k0_off66 (v179 : BitVec 32) : Fin 2 → Nat :=
  let c0_i32_85 : BitVec 32 := 0#32
  ![v179.toNat, 0]

def k0_chk22 (v179 : BitVec 32) : Prop :=
  (∀ a, (k0_off66 v179) a + S1x1024.size a ≤ S23040x1024.size a)
theorem k0_off66_inb : ∀ (v179 : BitVec 32) (k0_hw22 : k0_chk22 v179), ∀ a, (k0_off66 v179) a + S1x1024.size a ≤ S23040x1024.size a := fun v179 k0_hw22 => k0_hw22

def k0_off67 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_86 : BitVec 32 := 32#32
  let v182 : BitVec 32 := Scalar.muli arg9 c32_i32_86
  let c22_i32 : BitVec 32 := 22#32
  let v183 : BitVec 32 := Scalar.addi v182 c22_i32
  let v184 : BitVec 32 := Scalar.addi v0 v183
  let v185 : Index := Scalar.indexCast v184
  ![v185.toNat]
def k0_off68 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_86 : BitVec 32 := 32#32
  let v182 : BitVec 32 := Scalar.muli arg9 c32_i32_86
  let c22_i32 : BitVec 32 := 22#32
  let v183 : BitVec 32 := Scalar.addi v182 c22_i32
  let c0_i32_87 : BitVec 32 := 0#32
  ![v183.toNat, 0]
def k0_off69 (v186 : BitVec 32) : Fin 2 → Nat :=
  let c0_i32_88 : BitVec 32 := 0#32
  ![v186.toNat, 0]

def k0_chk23 (v186 : BitVec 32) : Prop :=
  (∀ a, (k0_off69 v186) a + S1x1024.size a ≤ S23040x1024.size a)
theorem k0_off69_inb : ∀ (v186 : BitVec 32) (k0_hw23 : k0_chk23 v186), ∀ a, (k0_off69 v186) a + S1x1024.size a ≤ S23040x1024.size a := fun v186 k0_hw23 => k0_hw23

def k0_off70 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_89 : BitVec 32 := 32#32
  let v189 : BitVec 32 := Scalar.muli arg9 c32_i32_89
  let c23_i32 : BitVec 32 := 23#32
  let v190 : BitVec 32 := Scalar.addi v189 c23_i32
  let v191 : BitVec 32 := Scalar.addi v0 v190
  let v192 : Index := Scalar.indexCast v191
  ![v192.toNat]
def k0_off71 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_89 : BitVec 32 := 32#32
  let v189 : BitVec 32 := Scalar.muli arg9 c32_i32_89
  let c23_i32 : BitVec 32 := 23#32
  let v190 : BitVec 32 := Scalar.addi v189 c23_i32
  let c0_i32_90 : BitVec 32 := 0#32
  ![v190.toNat, 0]
def k0_off72 (v193 : BitVec 32) : Fin 2 → Nat :=
  let c0_i32_91 : BitVec 32 := 0#32
  ![v193.toNat, 0]

def k0_chk24 (v193 : BitVec 32) : Prop :=
  (∀ a, (k0_off72 v193) a + S1x1024.size a ≤ S23040x1024.size a)
theorem k0_off72_inb : ∀ (v193 : BitVec 32) (k0_hw24 : k0_chk24 v193), ∀ a, (k0_off72 v193) a + S1x1024.size a ≤ S23040x1024.size a := fun v193 k0_hw24 => k0_hw24

def k0_off73 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_92 : BitVec 32 := 32#32
  let v196 : BitVec 32 := Scalar.muli arg9 c32_i32_92
  let c24_i32 : BitVec 32 := 24#32
  let v197 : BitVec 32 := Scalar.addi v196 c24_i32
  let v198 : BitVec 32 := Scalar.addi v0 v197
  let v199 : Index := Scalar.indexCast v198
  ![v199.toNat]
def k0_off74 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_92 : BitVec 32 := 32#32
  let v196 : BitVec 32 := Scalar.muli arg9 c32_i32_92
  let c24_i32 : BitVec 32 := 24#32
  let v197 : BitVec 32 := Scalar.addi v196 c24_i32
  let c0_i32_93 : BitVec 32 := 0#32
  ![v197.toNat, 0]
def k0_off75 (v200 : BitVec 32) : Fin 2 → Nat :=
  let c0_i32_94 : BitVec 32 := 0#32
  ![v200.toNat, 0]

def k0_chk25 (v200 : BitVec 32) : Prop :=
  (∀ a, (k0_off75 v200) a + S1x1024.size a ≤ S23040x1024.size a)
theorem k0_off75_inb : ∀ (v200 : BitVec 32) (k0_hw25 : k0_chk25 v200), ∀ a, (k0_off75 v200) a + S1x1024.size a ≤ S23040x1024.size a := fun v200 k0_hw25 => k0_hw25

def k0_off76 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_95 : BitVec 32 := 32#32
  let v203 : BitVec 32 := Scalar.muli arg9 c32_i32_95
  let c25_i32 : BitVec 32 := 25#32
  let v204 : BitVec 32 := Scalar.addi v203 c25_i32
  let v205 : BitVec 32 := Scalar.addi v0 v204
  let v206 : Index := Scalar.indexCast v205
  ![v206.toNat]
def k0_off77 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_95 : BitVec 32 := 32#32
  let v203 : BitVec 32 := Scalar.muli arg9 c32_i32_95
  let c25_i32 : BitVec 32 := 25#32
  let v204 : BitVec 32 := Scalar.addi v203 c25_i32
  let c0_i32_96 : BitVec 32 := 0#32
  ![v204.toNat, 0]
def k0_off78 (v207 : BitVec 32) : Fin 2 → Nat :=
  let c0_i32_97 : BitVec 32 := 0#32
  ![v207.toNat, 0]

def k0_chk26 (v207 : BitVec 32) : Prop :=
  (∀ a, (k0_off78 v207) a + S1x1024.size a ≤ S23040x1024.size a)
theorem k0_off78_inb : ∀ (v207 : BitVec 32) (k0_hw26 : k0_chk26 v207), ∀ a, (k0_off78 v207) a + S1x1024.size a ≤ S23040x1024.size a := fun v207 k0_hw26 => k0_hw26

def k0_off79 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_98 : BitVec 32 := 32#32
  let v210 : BitVec 32 := Scalar.muli arg9 c32_i32_98
  let c26_i32 : BitVec 32 := 26#32
  let v211 : BitVec 32 := Scalar.addi v210 c26_i32
  let v212 : BitVec 32 := Scalar.addi v0 v211
  let v213 : Index := Scalar.indexCast v212
  ![v213.toNat]
def k0_off80 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_98 : BitVec 32 := 32#32
  let v210 : BitVec 32 := Scalar.muli arg9 c32_i32_98
  let c26_i32 : BitVec 32 := 26#32
  let v211 : BitVec 32 := Scalar.addi v210 c26_i32
  let c0_i32_99 : BitVec 32 := 0#32
  ![v211.toNat, 0]
def k0_off81 (v214 : BitVec 32) : Fin 2 → Nat :=
  let c0_i32_100 : BitVec 32 := 0#32
  ![v214.toNat, 0]

def k0_chk27 (v214 : BitVec 32) : Prop :=
  (∀ a, (k0_off81 v214) a + S1x1024.size a ≤ S23040x1024.size a)
theorem k0_off81_inb : ∀ (v214 : BitVec 32) (k0_hw27 : k0_chk27 v214), ∀ a, (k0_off81 v214) a + S1x1024.size a ≤ S23040x1024.size a := fun v214 k0_hw27 => k0_hw27

def k0_off82 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_101 : BitVec 32 := 32#32
  let v217 : BitVec 32 := Scalar.muli arg9 c32_i32_101
  let c27_i32 : BitVec 32 := 27#32
  let v218 : BitVec 32 := Scalar.addi v217 c27_i32
  let v219 : BitVec 32 := Scalar.addi v0 v218
  let v220 : Index := Scalar.indexCast v219
  ![v220.toNat]
def k0_off83 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_101 : BitVec 32 := 32#32
  let v217 : BitVec 32 := Scalar.muli arg9 c32_i32_101
  let c27_i32 : BitVec 32 := 27#32
  let v218 : BitVec 32 := Scalar.addi v217 c27_i32
  let c0_i32_102 : BitVec 32 := 0#32
  ![v218.toNat, 0]
def k0_off84 (v221 : BitVec 32) : Fin 2 → Nat :=
  let c0_i32_103 : BitVec 32 := 0#32
  ![v221.toNat, 0]

def k0_chk28 (v221 : BitVec 32) : Prop :=
  (∀ a, (k0_off84 v221) a + S1x1024.size a ≤ S23040x1024.size a)
theorem k0_off84_inb : ∀ (v221 : BitVec 32) (k0_hw28 : k0_chk28 v221), ∀ a, (k0_off84 v221) a + S1x1024.size a ≤ S23040x1024.size a := fun v221 k0_hw28 => k0_hw28

def k0_off85 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_104 : BitVec 32 := 32#32
  let v224 : BitVec 32 := Scalar.muli arg9 c32_i32_104
  let c28_i32 : BitVec 32 := 28#32
  let v225 : BitVec 32 := Scalar.addi v224 c28_i32
  let v226 : BitVec 32 := Scalar.addi v0 v225
  let v227 : Index := Scalar.indexCast v226
  ![v227.toNat]
def k0_off86 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_104 : BitVec 32 := 32#32
  let v224 : BitVec 32 := Scalar.muli arg9 c32_i32_104
  let c28_i32 : BitVec 32 := 28#32
  let v225 : BitVec 32 := Scalar.addi v224 c28_i32
  let c0_i32_105 : BitVec 32 := 0#32
  ![v225.toNat, 0]
def k0_off87 (v228 : BitVec 32) : Fin 2 → Nat :=
  let c0_i32_106 : BitVec 32 := 0#32
  ![v228.toNat, 0]

def k0_chk29 (v228 : BitVec 32) : Prop :=
  (∀ a, (k0_off87 v228) a + S1x1024.size a ≤ S23040x1024.size a)
theorem k0_off87_inb : ∀ (v228 : BitVec 32) (k0_hw29 : k0_chk29 v228), ∀ a, (k0_off87 v228) a + S1x1024.size a ≤ S23040x1024.size a := fun v228 k0_hw29 => k0_hw29

def k0_off88 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_107 : BitVec 32 := 32#32
  let v231 : BitVec 32 := Scalar.muli arg9 c32_i32_107
  let c29_i32 : BitVec 32 := 29#32
  let v232 : BitVec 32 := Scalar.addi v231 c29_i32
  let v233 : BitVec 32 := Scalar.addi v0 v232
  let v234 : Index := Scalar.indexCast v233
  ![v234.toNat]
def k0_off89 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_107 : BitVec 32 := 32#32
  let v231 : BitVec 32 := Scalar.muli arg9 c32_i32_107
  let c29_i32 : BitVec 32 := 29#32
  let v232 : BitVec 32 := Scalar.addi v231 c29_i32
  let c0_i32_108 : BitVec 32 := 0#32
  ![v232.toNat, 0]
def k0_off90 (v235 : BitVec 32) : Fin 2 → Nat :=
  let c0_i32_109 : BitVec 32 := 0#32
  ![v235.toNat, 0]

def k0_chk30 (v235 : BitVec 32) : Prop :=
  (∀ a, (k0_off90 v235) a + S1x1024.size a ≤ S23040x1024.size a)
theorem k0_off90_inb : ∀ (v235 : BitVec 32) (k0_hw30 : k0_chk30 v235), ∀ a, (k0_off90 v235) a + S1x1024.size a ≤ S23040x1024.size a := fun v235 k0_hw30 => k0_hw30

def k0_off91 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_110 : BitVec 32 := 32#32
  let v238 : BitVec 32 := Scalar.muli arg9 c32_i32_110
  let c30_i32 : BitVec 32 := 30#32
  let v239 : BitVec 32 := Scalar.addi v238 c30_i32
  let v240 : BitVec 32 := Scalar.addi v0 v239
  let v241 : Index := Scalar.indexCast v240
  ![v241.toNat]
def k0_off92 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_110 : BitVec 32 := 32#32
  let v238 : BitVec 32 := Scalar.muli arg9 c32_i32_110
  let c30_i32 : BitVec 32 := 30#32
  let v239 : BitVec 32 := Scalar.addi v238 c30_i32
  let c0_i32_111 : BitVec 32 := 0#32
  ![v239.toNat, 0]
def k0_off93 (v242 : BitVec 32) : Fin 2 → Nat :=
  let c0_i32_112 : BitVec 32 := 0#32
  ![v242.toNat, 0]

def k0_chk31 (v242 : BitVec 32) : Prop :=
  (∀ a, (k0_off93 v242) a + S1x1024.size a ≤ S23040x1024.size a)
theorem k0_off93_inb : ∀ (v242 : BitVec 32) (k0_hw31 : k0_chk31 v242), ∀ a, (k0_off93 v242) a + S1x1024.size a ≤ S23040x1024.size a := fun v242 k0_hw31 => k0_hw31

def k0_off94 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c32_i32_113 : BitVec 32 := 32#32
  let v245 : BitVec 32 := Scalar.muli arg9 c32_i32_113
  let c31_i32 : BitVec 32 := 31#32
  let v246 : BitVec 32 := Scalar.addi v245 c31_i32
  let v247 : BitVec 32 := Scalar.addi v0 v246
  let v248 : Index := Scalar.indexCast v247
  ![v248.toNat]
def k0_off95 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32_113 : BitVec 32 := 32#32
  let v245 : BitVec 32 := Scalar.muli arg9 c32_i32_113
  let c31_i32 : BitVec 32 := 31#32
  let v246 : BitVec 32 := Scalar.addi v245 c31_i32
  let c0_i32_114 : BitVec 32 := 0#32
  ![v246.toNat, 0]
def k0_off96 (v249 : BitVec 32) : Fin 2 → Nat :=
  let c0_i32_115 : BitVec 32 := 0#32
  ![v249.toNat, 0]

def k0_chk32 (v249 : BitVec 32) : Prop :=
  (∀ a, (k0_off96 v249) a + S1x1024.size a ≤ S23040x1024.size a)
theorem k0_off96_inb : ∀ (v249 : BitVec 32) (k0_hw32 : k0_chk32 v249), ∀ a, (k0_off96 v249) a + S1x1024.size a ≤ S23040x1024.size a := fun v249 k0_hw32 => k0_hw32

@[reducible] def k0_t2_loop : Scf.Loop 32 :=
  let c0_i32_1 : BitVec 32 := 0#32
  let c256_i32_2 : BitVec 32 := 256#32
  let v2 : BitVec 32 := Scalar.addi c0_i32_1 c256_i32_2
  let c1_i32_3 : BitVec 32 := 1#32
  ⟨c0_i32_1, v2, c1_i32_3⟩
def k0_off97 (i : grid0.Coords) (k0_t2 : Fin k0_t2_loop.trips) : Fin 1 → Nat :=
  let arg0 : BitVec 32 := BitVec.ofNat 32 (i 0).val
  let c256_i32 : BitVec 32 := 256#32
  let v0 : BitVec 32 := Scalar.muli arg0 c256_i32
  let c0_i32_1 : BitVec 32 := 0#32
  let c1_i32_3 : BitVec 32 := 1#32
  let arg9 : BitVec 32 := Scf.iv c0_i32_1 c1_i32_3 k0_t2
  let v28 : BitVec 32 := Scalar.addi v0 arg9
  let v29 : Index := Scalar.indexCast v28
  ![v29.toNat]
def k0_off98 (k0_t2 : Fin k0_t2_loop.trips) : Fin 2 → Nat :=
  let c0_i32_1 : BitVec 32 := 0#32
  let c1_i32_3 : BitVec 32 := 1#32
  let arg9 : BitVec 32 := Scf.iv c0_i32_1 c1_i32_3 k0_t2
  let c0_i32_18 : BitVec 32 := 0#32
  ![arg9.toNat, 0]
def k0_off99 (v30 : BitVec 32) : Fin 2 → Nat :=
  let c0_i32_19 : BitVec 32 := 0#32
  ![v30.toNat, 0]

def k0_chk33 (v30 : BitVec 32) : Prop :=
  (∀ a, (k0_off99 v30) a + S1x1024.size a ≤ S23040x1024.size a)
theorem k0_off99_inb : ∀ (v30 : BitVec 32) (k0_hw33 : k0_chk33 v30), ∀ a, (k0_off99 v30) a + S1x1024.size a ≤ S23040x1024.size a := fun v30 k0_hw33 => k0_hw33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c0_i32_12 : BitVec 32 := 0#32
  let c0_i32_13 : BitVec 32 := 0#32
  ![v16.toNat, v28.toNat, c0_i32_12.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S1024 : Shape := ⟨1, ![1024]⟩
abbrev S2x8448x1024 : Shape := ⟨3, ![2, 8448, 1024]⟩
abbrev S2x8192x1024 : Shape := ⟨3, ![2, 8192, 1024]⟩
abbrev S_ : Shape := ⟨0, ![]⟩
abbrev S16896x1 : Shape := ⟨2, ![16896, 1]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16896, .i32⟩
  | .hbm, ⟨1, _⟩ => ⟨S16896x1024, .f32⟩
  | .hbm, ⟨2, _⟩ => ⟨S8x6x1024, .f32⟩
  | .hbm, ⟨3, _⟩ => ⟨S23040x1024, .f32⟩
  | .hbm, ⟨4, _⟩ => ⟨S1024, .f32⟩
  | .hbm, ⟨5, _⟩ => ⟨S2x8448x1024, .f32⟩
  | .hbm, ⟨6, _⟩ => ⟨S2x8192x1024, .f32⟩
  | .hbm, ⟨7, _⟩ => ⟨S_, .i32⟩
  | .hbm, ⟨8, _⟩ => ⟨S16896, .i32⟩
  | .hbm, ⟨9, _⟩ => ⟨S16896, .i1⟩
  | .hbm, ⟨10, _⟩ => ⟨S_, .i32⟩
  | .hbm, ⟨11, _⟩ => ⟨S16896, .i32⟩
  | .hbm, ⟨12, _⟩ => ⟨S16896, .i32⟩
  | .hbm, ⟨13, _⟩ => ⟨S16896, .i32⟩
  | .hbm, ⟨14, _⟩ => ⟨S16896x1, .i32⟩
  | .hbm, ⟨15, _⟩ => ⟨S16896x1024, .f32⟩
  | .hbm, ⟨16, _⟩ => ⟨S2x8448x1024, .f32⟩
  | .hbm, ⟨17, _⟩ => ⟨S2x8192x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | _, _ => ⟨S16896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x256x1024 : Shape := ⟨3, ![2, 256, 1024]⟩
abbrev S8x6x1024 : Shape := ⟨3, ![8, 6, 1024]⟩
abbrev S1024 : Shape := ⟨1, ![1024]⟩
abbrev S1024x2560 : Shape := ⟨2, ![1024, 2560]⟩
abbrev S1x1024 : Shape := ⟨2, ![1, 1024]⟩
abbrev S16896x512 : Shape := ⟨2, ![16896, 512]⟩
abbrev S1x256x1024 : Shape := ⟨3, ![1, 256, 1024]⟩
abbrev S1x6x1024 : Shape := ⟨3, ![1, 6, 1024]⟩
abbrev S256x512 : Shape := ⟨2, ![256, 512]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S8x6x1024, .f32⟩
  | .hbm, ⟨3, _⟩ => ⟨S1024, .f32⟩
  | .hbm, ⟨4, _⟩ => ⟨S1024x2560, .f32⟩
  | .hbm, ⟨5, _⟩ => ⟨S1x1024, .f32⟩
  | .hbm, ⟨6, _⟩ => ⟨S1024x2560, .bf16⟩
  | .hbm, ⟨7, _⟩ => ⟨S16896x512, .f32⟩
  | .hbm, ⟨8, _⟩ => ⟨S16896x512, .f32⟩
  | .hbm, ⟨9, _⟩ => ⟨S16896x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x2560, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c0_i32_12 : BitVec 32 := 0#32
  let c0_i32_13 : BitVec 32 := 0#32
  ![v16.toNat, v28.toNat, c0_i32_12.toNat]

def cc0_transform_1 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x8192x1024 : Shape := ⟨3, ![2, 8192, 1024]⟩
abbrev S2x256x1024 : Shape := ⟨3, ![2, 256, 1024]⟩
abbrev S8x6x1024 : Shape := ⟨3, ![8, 6, 1024]⟩
abbrev S1024 : Shape := ⟨1, ![1024]⟩
abbrev S1024x2560 : Shape := ⟨2, ![1024, 2560]⟩
abbrev S1x6x1024 : Shape := ⟨3, ![1, 6, 1024]⟩
abbrev S2x6x1024 : Shape := ⟨3, ![2, 6, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2560 : Shape := ⟨3, ![2, 256, 2560]⟩
abbrev S2x256x512 : Shape := ⟨3, ![2, 256, 512]⟩
abbrev S2x256x1536 : Shape := ⟨3, ![2, 256, 1536]⟩
abbrev S2x8192 : Shape := ⟨2, ![2, 8192]⟩
abbrev S2x8192x1 : Shape := ⟨3, ![2, 8192, 1]⟩
abbrev S2x1x1024 : Shape := ⟨3, ![2, 1, 1024]⟩
abbrev S2x8192x2560 : Shape := ⟨3, ![2, 8192, 2560]⟩
abbrev S2x8192x512 : Shape := ⟨3, ![2, 8192, 512]⟩
abbrev S2x8192x1536 : Shape := ⟨3, ![2, 8192, 1536]⟩
abbrev S2x8448x512 : Shape := ⟨3, ![2, 8448, 512]⟩
abbrev S16896x512 : Shape := ⟨2, ![16896, 512]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S8x6x1024, .f32⟩
  | .hbm, ⟨3, _⟩ => ⟨S1024, .f32⟩
  | .hbm, ⟨4, _⟩ => ⟨S1024x2560, .f32⟩
  | .hbm, ⟨5, _⟩ => ⟨S1x6x1024, .f32⟩
  | .hbm, ⟨6, _⟩ => ⟨S2x6x1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S1x1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S2x256x2560, .f32⟩
  | .hbm, ⟨33, _⟩ => ⟨S2x256x512, .f32⟩
  | .hbm, ⟨34, _⟩ => ⟨S2x256x512, .f32⟩
  | .hbm, ⟨35, _⟩ => ⟨S2x256x512, .f32⟩
  | .hbm, ⟨36, _⟩ => ⟨S2x256x512, .f32⟩
  | .hbm, ⟨37, _⟩ => ⟨S_, .f32⟩
  | .hbm, ⟨38, _⟩ => ⟨S2x256x512, .f32⟩
  | .hbm, ⟨39, _⟩ => ⟨S2x256x512, .f32⟩
  | .hbm, ⟨40, _⟩ => ⟨S_, .f32⟩
  | .hbm, ⟨41, _⟩ => ⟨S2x256x512, .f32⟩
  | .hbm, ⟨42, _⟩ => ⟨S2x256x512, .f32⟩
  | .hbm, ⟨43, _⟩ => ⟨S2x256x512, .f32⟩
  | .hbm, ⟨44, _⟩ => ⟨S2x256x1536, .f32⟩
  | .hbm, ⟨45, _⟩ => ⟨S2x256x512, .f32⟩
  | .hbm, ⟨46, _⟩ => ⟨S2x256x512, .f32⟩
  | .hbm, ⟨47, _⟩ => ⟨S2x256x512, .f32⟩
  | .hbm, ⟨48, _⟩ => ⟨S2x256x512, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S2x1x1024, .f32⟩
  | .hbm, ⟨66, _⟩ => ⟨S2x1x1024, .f32⟩
  | .hbm, ⟨67, _⟩ => ⟨S_, .f32⟩
  | .hbm, ⟨68, _⟩ => ⟨S2x1x1024, .f32⟩
  | .hbm, ⟨69, _⟩ => ⟨S2x1x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x2560, .f32⟩
  | .hbm, ⟨75, _⟩ => ⟨S2x8192x512, .f32⟩
  | .hbm, ⟨76, _⟩ => ⟨S2x8192x512, .f32⟩
  | .hbm, ⟨77, _⟩ => ⟨S2x8192x512, .f32⟩
  | .hbm, ⟨78, _⟩ => ⟨S2x8192x512, .f32⟩
  | .hbm, ⟨79, _⟩ => ⟨S_, .f32⟩
  | .hbm, ⟨80, _⟩ => ⟨S2x8192x512, .f32⟩
  | .hbm, ⟨81, _⟩ => ⟨S2x8192x512, .f32⟩
  | .hbm, ⟨82, _⟩ => ⟨S_, .f32⟩
  | .hbm, ⟨83, _⟩ => ⟨S2x8192x512, .f32⟩
  | .hbm, ⟨84, _⟩ => ⟨S2x8192x512, .f32⟩
  | .hbm, ⟨85, _⟩ => ⟨S2x8192x512, .f32⟩
  | .hbm, ⟨86, _⟩ => ⟨S2x8192x1536, .f32⟩
  | .hbm, ⟨87, _⟩ => ⟨S2x8192x512, .f32⟩
  | .hbm, ⟨88, _⟩ => ⟨S2x8192x512, .f32⟩
  | .hbm, ⟨89, _⟩ => ⟨S2x8192x512, .f32⟩
  | .hbm, ⟨90, _⟩ => ⟨S2x8192x512, .f32⟩
  | .hbm, ⟨91, _⟩ => ⟨S2x8448x512, .f32⟩
  | .hbm, ⟨92, _⟩ => ⟨S16896x512, .f32⟩
  | .hbm, ⟨93, _⟩ => ⟨S2x8448x512, .f32⟩
  | .hbm, ⟨94, _⟩ => ⟨S16896x512, .f32⟩
  | .hbm, ⟨95, _⟩ => ⟨S2x8448x512, .f32⟩
  | .hbm, ⟨96, _⟩ => ⟨S16896x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S4x1x6144 : Shape := ⟨3, ![4, 1, 6144]⟩
abbrev S_ : Shape := ⟨0, ![]⟩
abbrev S2x4x6144 : Shape := ⟨3, ![2, 4, 6144]⟩
abbrev S4x2x6144 : Shape := ⟨3, ![4, 2, 6144]⟩
abbrev S1x1024 : Shape := ⟨2, ![1, 1024]⟩
abbrev S1x4x6144 : Shape := ⟨3, ![1, 4, 6144]⟩
abbrev S4x5x6144 : Shape := ⟨3, ![4, 5, 6144]⟩
abbrev S4x8x6144 : Shape := ⟨3, ![4, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S4x1x6144, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x4x6144, .f32⟩
  | .hbm, ⟨15, _⟩ => ⟨S4x2x6144, .f32⟩
  | .hbm, ⟨16, _⟩ => ⟨S4x2x6144, .f32⟩
  | .hbm, ⟨17, _⟩ => ⟨S4x2x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S1x4x6144, .f32⟩
  | .hbm, ⟨29, _⟩ => ⟨S4x1x6144, .f32⟩
  | .hbm, ⟨30, _⟩ => ⟨S4x1x6144, .f32⟩
  | .hbm, ⟨31, _⟩ => ⟨S4x5x6144, .f32⟩
  | .hbm, ⟨32, _⟩ => ⟨S4x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel6.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S1536x1024 : Shape := ⟨2, ![1536, 1024]⟩
abbrev S_ : Shape := ⟨0, ![]⟩
abbrev S1 : Shape := ⟨1, ![1]⟩
abbrev S1x1024 : Shape := ⟨2, ![1, 1024]⟩
abbrev S1x6x1024 : Shape := ⟨3, ![1, 6, 1024]⟩
abbrev S1x1x1024 : Shape := ⟨3, ![1, 1, 1024]⟩
abbrev S256x1024 : Shape := ⟨2, ![256, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S23040x1024, .f32⟩
  | .hbm, ⟨3, _⟩ => ⟨S16896x1024, .f32⟩
  | .local _ .vmem, ⟨0, _⟩ => ⟨S1536x1024, .f32⟩
  | .local _ .vmem, ⟨1, _⟩ => ⟨S1536x1024, .f32⟩
  | .local _ .vmem, ⟨2, _⟩ => ⟨S8x6x1024, .f32⟩
  | .local _ .vmem, ⟨3, _⟩ => ⟨S1536x1024, .f32⟩
  | .local _ .vmem, ⟨4, _⟩ => ⟨S1536x1024, .f32⟩
  | .local _ .vmem, ⟨5, _⟩ => ⟨S1536x1024, .f32⟩
  | .local _ .smem, ⟨0, _⟩ => ⟨S16896, .i32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c48_i32 : BitVec 32 := 48#32
  let v1 : BitVec 32 := Scalar.addi c0_i32 c48_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32 : BitVec 32 := 32#32
  let v249 : BitVec 32 := Scalar.muli arg8 c32_i32
  let c0_i32_143 : BitVec 32 := 0#32
  let v250 : BitVec 32 := Scalar.addi v249 c0_i32_143
  let v251 : BitVec 32 := Scalar.addi v0 v250
  let v252 : Index := Scalar.indexCast v251
  ![v252.toNat]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v249 : BitVec 32 := Scalar.muli arg8 c32_i32
  let c0_i32_143 : BitVec 32 := 0#32
  let v250 : BitVec 32 := Scalar.addi v249 c0_i32_143
  let c0_i32_144 : BitVec 32 := 0#32
  ![v250.toNat, 0]
def k0_off3 (v253 : BitVec 32) : Fin 2 → Nat :=
  let c0_i32_145 : BitVec 32 := 0#32
  ![v253.toNat, 0]

def k0_chk1 (v253 : BitVec 32) : Prop :=
  (∀ a, (k0_off3 v253) a + S1x1024.size a ≤ S23040x1024.size a)
theorem k0_off3_inb : ∀ (v253 : BitVec 32) (k0_hw1 : k0_chk1 v253), ∀ a, (k0_off3 v253) a + S1x1024.size a ≤ S23040x1024.size a := fun v253 k0_hw1 => k0_hw1

def k0_off4 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_146 : BitVec 32 := 32#32
  let v256 : BitVec 32 := Scalar.muli arg8 c32_i32_146
  let c1_i32_147 : BitVec 32 := 1#32
  let v257 : BitVec 32 := Scalar.addi v256 c1_i32_147
  let v258 : BitVec 32 := Scalar.addi v0 v257
  let v259 : Index := Scalar.indexCast v258
  ![v259.toNat]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_146 : BitVec 32 := 32#32
  let v256 : BitVec 32 := Scalar.muli arg8 c32_i32_146
  let c1_i32_147 : BitVec 32 := 1#32
  let v257 : BitVec 32 := Scalar.addi v256 c1_i32_147
  let c0_i32_148 : BitVec 32 := 0#32
  ![v257.toNat, 0]
def k0_off6 (v260 : BitVec 32) : Fin 2 → Nat :=
  let c0_i32_149 : BitVec 32 := 0#32
  ![v260.toNat, 0]

def k0_chk2 (v260 : BitVec 32) : Prop :=
  (∀ a, (k0_off6 v260) a + S1x1024.size a ≤ S23040x1024.size a)
theorem k0_off6_inb : ∀ (v260 : BitVec 32) (k0_hw2 : k0_chk2 v260), ∀ a, (k0_off6 v260) a + S1x1024.size a ≤ S23040x1024.size a := fun v260 k0_hw2 => k0_hw2

def k0_off7 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_150 : BitVec 32 := 32#32
  let v263 : BitVec 32 := Scalar.muli arg8 c32_i32_150
  let c2_i32_151 : BitVec 32 := 2#32
  let v264 : BitVec 32 := Scalar.addi v263 c2_i32_151
  let v265 : BitVec 32 := Scalar.addi v0 v264
  let v266 : Index := Scalar.indexCast v265
  ![v266.toNat]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_150 : BitVec 32 := 32#32
  let v263 : BitVec 32 := Scalar.muli arg8 c32_i32_150
  let c2_i32_151 : BitVec 32 := 2#32
  let v264 : BitVec 32 := Scalar.addi v263 c2_i32_151
  let c0_i32_152 : BitVec 32 := 0#32
  ![v264.toNat, 0]
def k0_off9 (v267 : BitVec 32) : Fin 2 → Nat :=
  let c0_i32_153 : BitVec 32 := 0#32
  ![v267.toNat, 0]

def k0_chk3 (v267 : BitVec 32) : Prop :=
  (∀ a, (k0_off9 v267) a + S1x1024.size a ≤ S23040x1024.size a)
theorem k0_off9_inb : ∀ (v267 : BitVec 32) (k0_hw3 : k0_chk3 v267), ∀ a, (k0_off9 v267) a + S1x1024.size a ≤ S23040x1024.size a := fun v267 k0_hw3 => k0_hw3

def k0_off10 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_154 : BitVec 32 := 32#32
  let v270 : BitVec 32 := Scalar.muli arg8 c32_i32_154
  let c3_i32_155 : BitVec 32 := 3#32
  let v271 : BitVec 32 := Scalar.addi v270 c3_i32_155
  let v272 : BitVec 32 := Scalar.addi v0 v271
  let v273 : Index := Scalar.indexCast v272
  ![v273.toNat]
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_154 : BitVec 32 := 32#32
  let v270 : BitVec 32 := Scalar.muli arg8 c32_i32_154
  let c3_i32_155 : BitVec 32 := 3#32
  let v271 : BitVec 32 := Scalar.addi v270 c3_i32_155
  let c0_i32_156 : BitVec 32 := 0#32
  ![v271.toNat, 0]
def k0_off12 (v274 : BitVec 32) : Fin 2 → Nat :=
  let c0_i32_157 : BitVec 32 := 0#32
  ![v274.toNat, 0]

def k0_chk4 (v274 : BitVec 32) : Prop :=
  (∀ a, (k0_off12 v274) a + S1x1024.size a ≤ S23040x1024.size a)
theorem k0_off12_inb : ∀ (v274 : BitVec 32) (k0_hw4 : k0_chk4 v274), ∀ a, (k0_off12 v274) a + S1x1024.size a ≤ S23040x1024.size a := fun v274 k0_hw4 => k0_hw4

def k0_off13 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_158 : BitVec 32 := 32#32
  let v277 : BitVec 32 := Scalar.muli arg8 c32_i32_158
  let c4_i32_159 : BitVec 32 := 4#32
  let v278 : BitVec 32 := Scalar.addi v277 c4_i32_159
  let v279 : BitVec 32 := Scalar.addi v0 v278
  let v280 : Index := Scalar.indexCast v279
  ![v280.toNat]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_158 : BitVec 32 := 32#32
  let v277 : BitVec 32 := Scalar.muli arg8 c32_i32_158
  let c4_i32_159 : BitVec 32 := 4#32
  let v278 : BitVec 32 := Scalar.addi v277 c4_i32_159
  let c0_i32_160 : BitVec 32 := 0#32
  ![v278.toNat, 0]
def k0_off15 (v281 : BitVec 32) : Fin 2 → Nat :=
  let c0_i32_161 : BitVec 32 := 0#32
  ![v281.toNat, 0]

def k0_chk5 (v281 : BitVec 32) : Prop :=
  (∀ a, (k0_off15 v281) a + S1x1024.size a ≤ S23040x1024.size a)
theorem k0_off15_inb : ∀ (v281 : BitVec 32) (k0_hw5 : k0_chk5 v281), ∀ a, (k0_off15 v281) a + S1x1024.size a ≤ S23040x1024.size a := fun v281 k0_hw5 => k0_hw5

def k0_off16 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_162 : BitVec 32 := 32#32
  let v284 : BitVec 32 := Scalar.muli arg8 c32_i32_162
  let c5_i32_163 : BitVec 32 := 5#32
  let v285 : BitVec 32 := Scalar.addi v284 c5_i32_163
  let v286 : BitVec 32 := Scalar.addi v0 v285
  let v287 : Index := Scalar.indexCast v286
  ![v287.toNat]
def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_162 : BitVec 32 := 32#32
  let v284 : BitVec 32 := Scalar.muli arg8 c32_i32_162
  let c5_i32_163 : BitVec 32 := 5#32
  let v285 : BitVec 32 := Scalar.addi v284 c5_i32_163
  let c0_i32_164 : BitVec 32 := 0#32
  ![v285.toNat, 0]
def k0_off18 (v288 : BitVec 32) : Fin 2 → Nat :=
  let c0_i32_165 : BitVec 32 := 0#32
  ![v288.toNat, 0]

def k0_chk6 (v288 : BitVec 32) : Prop :=
  (∀ a, (k0_off18 v288) a + S1x1024.size a ≤ S23040x1024.size a)
theorem k0_off18_inb : ∀ (v288 : BitVec 32) (k0_hw6 : k0_chk6 v288), ∀ a, (k0_off18 v288) a + S1x1024.size a ≤ S23040x1024.size a := fun v288 k0_hw6 => k0_hw6

def k0_off19 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_166 : BitVec 32 := 32#32
  let v291 : BitVec 32 := Scalar.muli arg8 c32_i32_166
  let c6_i32_167 : BitVec 32 := 6#32
  let v292 : BitVec 32 := Scalar.addi v291 c6_i32_167
  let v293 : BitVec 32 := Scalar.addi v0 v292
  let v294 : Index := Scalar.indexCast v293
  ![v294.toNat]
def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_166 : BitVec 32 := 32#32
  let v291 : BitVec 32 := Scalar.muli arg8 c32_i32_166
  let c6_i32_167 : BitVec 32 := 6#32
  let v292 : BitVec 32 := Scalar.addi v291 c6_i32_167
  let c0_i32_168 : BitVec 32 := 0#32
  ![v292.toNat, 0]
def k0_off21 (v295 : BitVec 32) : Fin 2 → Nat :=
  let c0_i32_169 : BitVec 32 := 0#32
  ![v295.toNat, 0]

def k0_chk7 (v295 : BitVec 32) : Prop :=
  (∀ a, (k0_off21 v295) a + S1x1024.size a ≤ S23040x1024.size a)
theorem k0_off21_inb : ∀ (v295 : BitVec 32) (k0_hw7 : k0_chk7 v295), ∀ a, (k0_off21 v295) a + S1x1024.size a ≤ S23040x1024.size a := fun v295 k0_hw7 => k0_hw7

def k0_off22 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_170 : BitVec 32 := 32#32
  let v298 : BitVec 32 := Scalar.muli arg8 c32_i32_170
  let c7_i32 : BitVec 32 := 7#32
  let v299 : BitVec 32 := Scalar.addi v298 c7_i32
  let v300 : BitVec 32 := Scalar.addi v0 v299
  let v301 : Index := Scalar.indexCast v300
  ![v301.toNat]
def k0_off23 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_170 : BitVec 32 := 32#32
  let v298 : BitVec 32 := Scalar.muli arg8 c32_i32_170
  let c7_i32 : BitVec 32 := 7#32
  let v299 : BitVec 32 := Scalar.addi v298 c7_i32
  let c0_i32_171 : BitVec 32 := 0#32
  ![v299.toNat, 0]
def k0_off24 (v302 : BitVec 32) : Fin 2 → Nat :=
  let c0_i32_172 : BitVec 32 := 0#32
  ![v302.toNat, 0]

def k0_chk8 (v302 : BitVec 32) : Prop :=
  (∀ a, (k0_off24 v302) a + S1x1024.size a ≤ S23040x1024.size a)
theorem k0_off24_inb : ∀ (v302 : BitVec 32) (k0_hw8 : k0_chk8 v302), ∀ a, (k0_off24 v302) a + S1x1024.size a ≤ S23040x1024.size a := fun v302 k0_hw8 => k0_hw8

def k0_off25 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_173 : BitVec 32 := 32#32
  let v305 : BitVec 32 := Scalar.muli arg8 c32_i32_173
  let c8_i32 : BitVec 32 := 8#32
  let v306 : BitVec 32 := Scalar.addi v305 c8_i32
  let v307 : BitVec 32 := Scalar.addi v0 v306
  let v308 : Index := Scalar.indexCast v307
  ![v308.toNat]
def k0_off26 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_173 : BitVec 32 := 32#32
  let v305 : BitVec 32 := Scalar.muli arg8 c32_i32_173
  let c8_i32 : BitVec 32 := 8#32
  let v306 : BitVec 32 := Scalar.addi v305 c8_i32
  let c0_i32_174 : BitVec 32 := 0#32
  ![v306.toNat, 0]
def k0_off27 (v309 : BitVec 32) : Fin 2 → Nat :=
  let c0_i32_175 : BitVec 32 := 0#32
  ![v309.toNat, 0]

def k0_chk9 (v309 : BitVec 32) : Prop :=
  (∀ a, (k0_off27 v309) a + S1x1024.size a ≤ S23040x1024.size a)
theorem k0_off27_inb : ∀ (v309 : BitVec 32) (k0_hw9 : k0_chk9 v309), ∀ a, (k0_off27 v309) a + S1x1024.size a ≤ S23040x1024.size a := fun v309 k0_hw9 => k0_hw9

def k0_off28 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_176 : BitVec 32 := 32#32
  let v312 : BitVec 32 := Scalar.muli arg8 c32_i32_176
  let c9_i32 : BitVec 32 := 9#32
  let v313 : BitVec 32 := Scalar.addi v312 c9_i32
  let v314 : BitVec 32 := Scalar.addi v0 v313
  let v315 : Index := Scalar.indexCast v314
  ![v315.toNat]
def k0_off29 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_176 : BitVec 32 := 32#32
  let v312 : BitVec 32 := Scalar.muli arg8 c32_i32_176
  let c9_i32 : BitVec 32 := 9#32
  let v313 : BitVec 32 := Scalar.addi v312 c9_i32
  let c0_i32_177 : BitVec 32 := 0#32
  ![v313.toNat, 0]
def k0_off30 (v316 : BitVec 32) : Fin 2 → Nat :=
  let c0_i32_178 : BitVec 32 := 0#32
  ![v316.toNat, 0]

def k0_chk10 (v316 : BitVec 32) : Prop :=
  (∀ a, (k0_off30 v316) a + S1x1024.size a ≤ S23040x1024.size a)
theorem k0_off30_inb : ∀ (v316 : BitVec 32) (k0_hw10 : k0_chk10 v316), ∀ a, (k0_off30 v316) a + S1x1024.size a ≤ S23040x1024.size a := fun v316 k0_hw10 => k0_hw10

def k0_off31 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_179 : BitVec 32 := 32#32
  let v319 : BitVec 32 := Scalar.muli arg8 c32_i32_179
  let c10_i32 : BitVec 32 := 10#32
  let v320 : BitVec 32 := Scalar.addi v319 c10_i32
  let v321 : BitVec 32 := Scalar.addi v0 v320
  let v322 : Index := Scalar.indexCast v321
  ![v322.toNat]
def k0_off32 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_179 : BitVec 32 := 32#32
  let v319 : BitVec 32 := Scalar.muli arg8 c32_i32_179
  let c10_i32 : BitVec 32 := 10#32
  let v320 : BitVec 32 := Scalar.addi v319 c10_i32
  let c0_i32_180 : BitVec 32 := 0#32
  ![v320.toNat, 0]
def k0_off33 (v323 : BitVec 32) : Fin 2 → Nat :=
  let c0_i32_181 : BitVec 32 := 0#32
  ![v323.toNat, 0]

def k0_chk11 (v323 : BitVec 32) : Prop :=
  (∀ a, (k0_off33 v323) a + S1x1024.size a ≤ S23040x1024.size a)
theorem k0_off33_inb : ∀ (v323 : BitVec 32) (k0_hw11 : k0_chk11 v323), ∀ a, (k0_off33 v323) a + S1x1024.size a ≤ S23040x1024.size a := fun v323 k0_hw11 => k0_hw11

def k0_off34 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_182 : BitVec 32 := 32#32
  let v326 : BitVec 32 := Scalar.muli arg8 c32_i32_182
  let c11_i32 : BitVec 32 := 11#32
  let v327 : BitVec 32 := Scalar.addi v326 c11_i32
  let v328 : BitVec 32 := Scalar.addi v0 v327
  let v329 : Index := Scalar.indexCast v328
  ![v329.toNat]
def k0_off35 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_182 : BitVec 32 := 32#32
  let v326 : BitVec 32 := Scalar.muli arg8 c32_i32_182
  let c11_i32 : BitVec 32 := 11#32
  let v327 : BitVec 32 := Scalar.addi v326 c11_i32
  let c0_i32_183 : BitVec 32 := 0#32
  ![v327.toNat, 0]
def k0_off36 (v330 : BitVec 32) : Fin 2 → Nat :=
  let c0_i32_184 : BitVec 32 := 0#32
  ![v330.toNat, 0]

def k0_chk12 (v330 : BitVec 32) : Prop :=
  (∀ a, (k0_off36 v330) a + S1x1024.size a ≤ S23040x1024.size a)
theorem k0_off36_inb : ∀ (v330 : BitVec 32) (k0_hw12 : k0_chk12 v330), ∀ a, (k0_off36 v330) a + S1x1024.size a ≤ S23040x1024.size a := fun v330 k0_hw12 => k0_hw12

def k0_off37 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_185 : BitVec 32 := 32#32
  let v333 : BitVec 32 := Scalar.muli arg8 c32_i32_185
  let c12_i32 : BitVec 32 := 12#32
  let v334 : BitVec 32 := Scalar.addi v333 c12_i32
  let v335 : BitVec 32 := Scalar.addi v0 v334
  let v336 : Index := Scalar.indexCast v335
  ![v336.toNat]
def k0_off38 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_185 : BitVec 32 := 32#32
  let v333 : BitVec 32 := Scalar.muli arg8 c32_i32_185
  let c12_i32 : BitVec 32 := 12#32
  let v334 : BitVec 32 := Scalar.addi v333 c12_i32
  let c0_i32_186 : BitVec 32 := 0#32
  ![v334.toNat, 0]
def k0_off39 (v337 : BitVec 32) : Fin 2 → Nat :=
  let c0_i32_187 : BitVec 32 := 0#32
  ![v337.toNat, 0]

def k0_chk13 (v337 : BitVec 32) : Prop :=
  (∀ a, (k0_off39 v337) a + S1x1024.size a ≤ S23040x1024.size a)
theorem k0_off39_inb : ∀ (v337 : BitVec 32) (k0_hw13 : k0_chk13 v337), ∀ a, (k0_off39 v337) a + S1x1024.size a ≤ S23040x1024.size a := fun v337 k0_hw13 => k0_hw13

def k0_off40 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_188 : BitVec 32 := 32#32
  let v340 : BitVec 32 := Scalar.muli arg8 c32_i32_188
  let c13_i32 : BitVec 32 := 13#32
  let v341 : BitVec 32 := Scalar.addi v340 c13_i32
  let v342 : BitVec 32 := Scalar.addi v0 v341
  let v343 : Index := Scalar.indexCast v342
  ![v343.toNat]
def k0_off41 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_188 : BitVec 32 := 32#32
  let v340 : BitVec 32 := Scalar.muli arg8 c32_i32_188
  let c13_i32 : BitVec 32 := 13#32
  let v341 : BitVec 32 := Scalar.addi v340 c13_i32
  let c0_i32_189 : BitVec 32 := 0#32
  ![v341.toNat, 0]
def k0_off42 (v344 : BitVec 32) : Fin 2 → Nat :=
  let c0_i32_190 : BitVec 32 := 0#32
  ![v344.toNat, 0]

def k0_chk14 (v344 : BitVec 32) : Prop :=
  (∀ a, (k0_off42 v344) a + S1x1024.size a ≤ S23040x1024.size a)
theorem k0_off42_inb : ∀ (v344 : BitVec 32) (k0_hw14 : k0_chk14 v344), ∀ a, (k0_off42 v344) a + S1x1024.size a ≤ S23040x1024.size a := fun v344 k0_hw14 => k0_hw14

def k0_off43 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_191 : BitVec 32 := 32#32
  let v347 : BitVec 32 := Scalar.muli arg8 c32_i32_191
  let c14_i32 : BitVec 32 := 14#32
  let v348 : BitVec 32 := Scalar.addi v347 c14_i32
  let v349 : BitVec 32 := Scalar.addi v0 v348
  let v350 : Index := Scalar.indexCast v349
  ![v350.toNat]
def k0_off44 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_191 : BitVec 32 := 32#32
  let v347 : BitVec 32 := Scalar.muli arg8 c32_i32_191
  let c14_i32 : BitVec 32 := 14#32
  let v348 : BitVec 32 := Scalar.addi v347 c14_i32
  let c0_i32_192 : BitVec 32 := 0#32
  ![v348.toNat, 0]
def k0_off45 (v351 : BitVec 32) : Fin 2 → Nat :=
  let c0_i32_193 : BitVec 32 := 0#32
  ![v351.toNat, 0]

def k0_chk15 (v351 : BitVec 32) : Prop :=
  (∀ a, (k0_off45 v351) a + S1x1024.size a ≤ S23040x1024.size a)
theorem k0_off45_inb : ∀ (v351 : BitVec 32) (k0_hw15 : k0_chk15 v351), ∀ a, (k0_off45 v351) a + S1x1024.size a ≤ S23040x1024.size a := fun v351 k0_hw15 => k0_hw15

def k0_off46 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_194 : BitVec 32 := 32#32
  let v354 : BitVec 32 := Scalar.muli arg8 c32_i32_194
  let c15_i32 : BitVec 32 := 15#32
  let v355 : BitVec 32 := Scalar.addi v354 c15_i32
  let v356 : BitVec 32 := Scalar.addi v0 v355
  let v357 : Index := Scalar.indexCast v356
  ![v357.toNat]
def k0_off47 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_194 : BitVec 32 := 32#32
  let v354 : BitVec 32 := Scalar.muli arg8 c32_i32_194
  let c15_i32 : BitVec 32 := 15#32
  let v355 : BitVec 32 := Scalar.addi v354 c15_i32
  let c0_i32_195 : BitVec 32 := 0#32
  ![v355.toNat, 0]
def k0_off48 (v358 : BitVec 32) : Fin 2 → Nat :=
  let c0_i32_196 : BitVec 32 := 0#32
  ![v358.toNat, 0]

def k0_chk16 (v358 : BitVec 32) : Prop :=
  (∀ a, (k0_off48 v358) a + S1x1024.size a ≤ S23040x1024.size a)
theorem k0_off48_inb : ∀ (v358 : BitVec 32) (k0_hw16 : k0_chk16 v358), ∀ a, (k0_off48 v358) a + S1x1024.size a ≤ S23040x1024.size a := fun v358 k0_hw16 => k0_hw16

def k0_off49 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_197 : BitVec 32 := 32#32
  let v361 : BitVec 32 := Scalar.muli arg8 c32_i32_197
  let c16_i32 : BitVec 32 := 16#32
  let v362 : BitVec 32 := Scalar.addi v361 c16_i32
  let v363 : BitVec 32 := Scalar.addi v0 v362
  let v364 : Index := Scalar.indexCast v363
  ![v364.toNat]
def k0_off50 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_197 : BitVec 32 := 32#32
  let v361 : BitVec 32 := Scalar.muli arg8 c32_i32_197
  let c16_i32 : BitVec 32 := 16#32
  let v362 : BitVec 32 := Scalar.addi v361 c16_i32
  let c0_i32_198 : BitVec 32 := 0#32
  ![v362.toNat, 0]
def k0_off51 (v365 : BitVec 32) : Fin 2 → Nat :=
  let c0_i32_199 : BitVec 32 := 0#32
  ![v365.toNat, 0]

def k0_chk17 (v365 : BitVec 32) : Prop :=
  (∀ a, (k0_off51 v365) a + S1x1024.size a ≤ S23040x1024.size a)
theorem k0_off51_inb : ∀ (v365 : BitVec 32) (k0_hw17 : k0_chk17 v365), ∀ a, (k0_off51 v365) a + S1x1024.size a ≤ S23040x1024.size a := fun v365 k0_hw17 => k0_hw17

def k0_off52 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_200 : BitVec 32 := 32#32
  let v368 : BitVec 32 := Scalar.muli arg8 c32_i32_200
  let c17_i32 : BitVec 32 := 17#32
  let v369 : BitVec 32 := Scalar.addi v368 c17_i32
  let v370 : BitVec 32 := Scalar.addi v0 v369
  let v371 : Index := Scalar.indexCast v370
  ![v371.toNat]
def k0_off53 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_200 : BitVec 32 := 32#32
  let v368 : BitVec 32 := Scalar.muli arg8 c32_i32_200
  let c17_i32 : BitVec 32 := 17#32
  let v369 : BitVec 32 := Scalar.addi v368 c17_i32
  let c0_i32_201 : BitVec 32 := 0#32
  ![v369.toNat, 0]
def k0_off54 (v372 : BitVec 32) : Fin 2 → Nat :=
  let c0_i32_202 : BitVec 32 := 0#32
  ![v372.toNat, 0]

def k0_chk18 (v372 : BitVec 32) : Prop :=
  (∀ a, (k0_off54 v372) a + S1x1024.size a ≤ S23040x1024.size a)
theorem k0_off54_inb : ∀ (v372 : BitVec 32) (k0_hw18 : k0_chk18 v372), ∀ a, (k0_off54 v372) a + S1x1024.size a ≤ S23040x1024.size a := fun v372 k0_hw18 => k0_hw18

def k0_off55 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_203 : BitVec 32 := 32#32
  let v375 : BitVec 32 := Scalar.muli arg8 c32_i32_203
  let c18_i32 : BitVec 32 := 18#32
  let v376 : BitVec 32 := Scalar.addi v375 c18_i32
  let v377 : BitVec 32 := Scalar.addi v0 v376
  let v378 : Index := Scalar.indexCast v377
  ![v378.toNat]
def k0_off56 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_203 : BitVec 32 := 32#32
  let v375 : BitVec 32 := Scalar.muli arg8 c32_i32_203
  let c18_i32 : BitVec 32 := 18#32
  let v376 : BitVec 32 := Scalar.addi v375 c18_i32
  let c0_i32_204 : BitVec 32 := 0#32
  ![v376.toNat, 0]
def k0_off57 (v379 : BitVec 32) : Fin 2 → Nat :=
  let c0_i32_205 : BitVec 32 := 0#32
  ![v379.toNat, 0]

def k0_chk19 (v379 : BitVec 32) : Prop :=
  (∀ a, (k0_off57 v379) a + S1x1024.size a ≤ S23040x1024.size a)
theorem k0_off57_inb : ∀ (v379 : BitVec 32) (k0_hw19 : k0_chk19 v379), ∀ a, (k0_off57 v379) a + S1x1024.size a ≤ S23040x1024.size a := fun v379 k0_hw19 => k0_hw19

def k0_off58 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_206 : BitVec 32 := 32#32
  let v382 : BitVec 32 := Scalar.muli arg8 c32_i32_206
  let c19_i32 : BitVec 32 := 19#32
  let v383 : BitVec 32 := Scalar.addi v382 c19_i32
  let v384 : BitVec 32 := Scalar.addi v0 v383
  let v385 : Index := Scalar.indexCast v384
  ![v385.toNat]
def k0_off59 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_206 : BitVec 32 := 32#32
  let v382 : BitVec 32 := Scalar.muli arg8 c32_i32_206
  let c19_i32 : BitVec 32 := 19#32
  let v383 : BitVec 32 := Scalar.addi v382 c19_i32
  let c0_i32_207 : BitVec 32 := 0#32
  ![v383.toNat, 0]
def k0_off60 (v386 : BitVec 32) : Fin 2 → Nat :=
  let c0_i32_208 : BitVec 32 := 0#32
  ![v386.toNat, 0]

def k0_chk20 (v386 : BitVec 32) : Prop :=
  (∀ a, (k0_off60 v386) a + S1x1024.size a ≤ S23040x1024.size a)
theorem k0_off60_inb : ∀ (v386 : BitVec 32) (k0_hw20 : k0_chk20 v386), ∀ a, (k0_off60 v386) a + S1x1024.size a ≤ S23040x1024.size a := fun v386 k0_hw20 => k0_hw20

def k0_off61 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_209 : BitVec 32 := 32#32
  let v389 : BitVec 32 := Scalar.muli arg8 c32_i32_209
  let c20_i32 : BitVec 32 := 20#32
  let v390 : BitVec 32 := Scalar.addi v389 c20_i32
  let v391 : BitVec 32 := Scalar.addi v0 v390
  let v392 : Index := Scalar.indexCast v391
  ![v392.toNat]
def k0_off62 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_209 : BitVec 32 := 32#32
  let v389 : BitVec 32 := Scalar.muli arg8 c32_i32_209
  let c20_i32 : BitVec 32 := 20#32
  let v390 : BitVec 32 := Scalar.addi v389 c20_i32
  let c0_i32_210 : BitVec 32 := 0#32
  ![v390.toNat, 0]
def k0_off63 (v393 : BitVec 32) : Fin 2 → Nat :=
  let c0_i32_211 : BitVec 32 := 0#32
  ![v393.toNat, 0]

def k0_chk21 (v393 : BitVec 32) : Prop :=
  (∀ a, (k0_off63 v393) a + S1x1024.size a ≤ S23040x1024.size a)
theorem k0_off63_inb : ∀ (v393 : BitVec 32) (k0_hw21 : k0_chk21 v393), ∀ a, (k0_off63 v393) a + S1x1024.size a ≤ S23040x1024.size a := fun v393 k0_hw21 => k0_hw21

def k0_off64 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_212 : BitVec 32 := 32#32
  let v396 : BitVec 32 := Scalar.muli arg8 c32_i32_212
  let c21_i32 : BitVec 32 := 21#32
  let v397 : BitVec 32 := Scalar.addi v396 c21_i32
  let v398 : BitVec 32 := Scalar.addi v0 v397
  let v399 : Index := Scalar.indexCast v398
  ![v399.toNat]
def k0_off65 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_212 : BitVec 32 := 32#32
  let v396 : BitVec 32 := Scalar.muli arg8 c32_i32_212
  let c21_i32 : BitVec 32 := 21#32
  let v397 : BitVec 32 := Scalar.addi v396 c21_i32
  let c0_i32_213 : BitVec 32 := 0#32
  ![v397.toNat, 0]
def k0_off66 (v400 : BitVec 32) : Fin 2 → Nat :=
  let c0_i32_214 : BitVec 32 := 0#32
  ![v400.toNat, 0]

def k0_chk22 (v400 : BitVec 32) : Prop :=
  (∀ a, (k0_off66 v400) a + S1x1024.size a ≤ S23040x1024.size a)
theorem k0_off66_inb : ∀ (v400 : BitVec 32) (k0_hw22 : k0_chk22 v400), ∀ a, (k0_off66 v400) a + S1x1024.size a ≤ S23040x1024.size a := fun v400 k0_hw22 => k0_hw22

def k0_off67 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_215 : BitVec 32 := 32#32
  let v403 : BitVec 32 := Scalar.muli arg8 c32_i32_215
  let c22_i32 : BitVec 32 := 22#32
  let v404 : BitVec 32 := Scalar.addi v403 c22_i32
  let v405 : BitVec 32 := Scalar.addi v0 v404
  let v406 : Index := Scalar.indexCast v405
  ![v406.toNat]
def k0_off68 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_215 : BitVec 32 := 32#32
  let v403 : BitVec 32 := Scalar.muli arg8 c32_i32_215
  let c22_i32 : BitVec 32 := 22#32
  let v404 : BitVec 32 := Scalar.addi v403 c22_i32
  let c0_i32_216 : BitVec 32 := 0#32
  ![v404.toNat, 0]
def k0_off69 (v407 : BitVec 32) : Fin 2 → Nat :=
  let c0_i32_217 : BitVec 32 := 0#32
  ![v407.toNat, 0]

def k0_chk23 (v407 : BitVec 32) : Prop :=
  (∀ a, (k0_off69 v407) a + S1x1024.size a ≤ S23040x1024.size a)
theorem k0_off69_inb : ∀ (v407 : BitVec 32) (k0_hw23 : k0_chk23 v407), ∀ a, (k0_off69 v407) a + S1x1024.size a ≤ S23040x1024.size a := fun v407 k0_hw23 => k0_hw23

def k0_off70 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_218 : BitVec 32 := 32#32
  let v410 : BitVec 32 := Scalar.muli arg8 c32_i32_218
  let c23_i32 : BitVec 32 := 23#32
  let v411 : BitVec 32 := Scalar.addi v410 c23_i32
  let v412 : BitVec 32 := Scalar.addi v0 v411
  let v413 : Index := Scalar.indexCast v412
  ![v413.toNat]
def k0_off71 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_218 : BitVec 32 := 32#32
  let v410 : BitVec 32 := Scalar.muli arg8 c32_i32_218
  let c23_i32 : BitVec 32 := 23#32
  let v411 : BitVec 32 := Scalar.addi v410 c23_i32
  let c0_i32_219 : BitVec 32 := 0#32
  ![v411.toNat, 0]
def k0_off72 (v414 : BitVec 32) : Fin 2 → Nat :=
  let c0_i32_220 : BitVec 32 := 0#32
  ![v414.toNat, 0]

def k0_chk24 (v414 : BitVec 32) : Prop :=
  (∀ a, (k0_off72 v414) a + S1x1024.size a ≤ S23040x1024.size a)
theorem k0_off72_inb : ∀ (v414 : BitVec 32) (k0_hw24 : k0_chk24 v414), ∀ a, (k0_off72 v414) a + S1x1024.size a ≤ S23040x1024.size a := fun v414 k0_hw24 => k0_hw24

def k0_off73 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_221 : BitVec 32 := 32#32
  let v417 : BitVec 32 := Scalar.muli arg8 c32_i32_221
  let c24_i32 : BitVec 32 := 24#32
  let v418 : BitVec 32 := Scalar.addi v417 c24_i32
  let v419 : BitVec 32 := Scalar.addi v0 v418
  let v420 : Index := Scalar.indexCast v419
  ![v420.toNat]
def k0_off74 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_221 : BitVec 32 := 32#32
  let v417 : BitVec 32 := Scalar.muli arg8 c32_i32_221
  let c24_i32 : BitVec 32 := 24#32
  let v418 : BitVec 32 := Scalar.addi v417 c24_i32
  let c0_i32_222 : BitVec 32 := 0#32
  ![v418.toNat, 0]
def k0_off75 (v421 : BitVec 32) : Fin 2 → Nat :=
  let c0_i32_223 : BitVec 32 := 0#32
  ![v421.toNat, 0]

def k0_chk25 (v421 : BitVec 32) : Prop :=
  (∀ a, (k0_off75 v421) a + S1x1024.size a ≤ S23040x1024.size a)
theorem k0_off75_inb : ∀ (v421 : BitVec 32) (k0_hw25 : k0_chk25 v421), ∀ a, (k0_off75 v421) a + S1x1024.size a ≤ S23040x1024.size a := fun v421 k0_hw25 => k0_hw25

def k0_off76 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_224 : BitVec 32 := 32#32
  let v424 : BitVec 32 := Scalar.muli arg8 c32_i32_224
  let c25_i32 : BitVec 32 := 25#32
  let v425 : BitVec 32 := Scalar.addi v424 c25_i32
  let v426 : BitVec 32 := Scalar.addi v0 v425
  let v427 : Index := Scalar.indexCast v426
  ![v427.toNat]
def k0_off77 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_224 : BitVec 32 := 32#32
  let v424 : BitVec 32 := Scalar.muli arg8 c32_i32_224
  let c25_i32 : BitVec 32 := 25#32
  let v425 : BitVec 32 := Scalar.addi v424 c25_i32
  let c0_i32_225 : BitVec 32 := 0#32
  ![v425.toNat, 0]
def k0_off78 (v428 : BitVec 32) : Fin 2 → Nat :=
  let c0_i32_226 : BitVec 32 := 0#32
  ![v428.toNat, 0]

def k0_chk26 (v428 : BitVec 32) : Prop :=
  (∀ a, (k0_off78 v428) a + S1x1024.size a ≤ S23040x1024.size a)
theorem k0_off78_inb : ∀ (v428 : BitVec 32) (k0_hw26 : k0_chk26 v428), ∀ a, (k0_off78 v428) a + S1x1024.size a ≤ S23040x1024.size a := fun v428 k0_hw26 => k0_hw26

def k0_off79 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_227 : BitVec 32 := 32#32
  let v431 : BitVec 32 := Scalar.muli arg8 c32_i32_227
  let c26_i32 : BitVec 32 := 26#32
  let v432 : BitVec 32 := Scalar.addi v431 c26_i32
  let v433 : BitVec 32 := Scalar.addi v0 v432
  let v434 : Index := Scalar.indexCast v433
  ![v434.toNat]
def k0_off80 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_227 : BitVec 32 := 32#32
  let v431 : BitVec 32 := Scalar.muli arg8 c32_i32_227
  let c26_i32 : BitVec 32 := 26#32
  let v432 : BitVec 32 := Scalar.addi v431 c26_i32
  let c0_i32_228 : BitVec 32 := 0#32
  ![v432.toNat, 0]
def k0_off81 (v435 : BitVec 32) : Fin 2 → Nat :=
  let c0_i32_229 : BitVec 32 := 0#32
  ![v435.toNat, 0]

def k0_chk27 (v435 : BitVec 32) : Prop :=
  (∀ a, (k0_off81 v435) a + S1x1024.size a ≤ S23040x1024.size a)
theorem k0_off81_inb : ∀ (v435 : BitVec 32) (k0_hw27 : k0_chk27 v435), ∀ a, (k0_off81 v435) a + S1x1024.size a ≤ S23040x1024.size a := fun v435 k0_hw27 => k0_hw27

def k0_off82 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_230 : BitVec 32 := 32#32
  let v438 : BitVec 32 := Scalar.muli arg8 c32_i32_230
  let c27_i32 : BitVec 32 := 27#32
  let v439 : BitVec 32 := Scalar.addi v438 c27_i32
  let v440 : BitVec 32 := Scalar.addi v0 v439
  let v441 : Index := Scalar.indexCast v440
  ![v441.toNat]
def k0_off83 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_230 : BitVec 32 := 32#32
  let v438 : BitVec 32 := Scalar.muli arg8 c32_i32_230
  let c27_i32 : BitVec 32 := 27#32
  let v439 : BitVec 32 := Scalar.addi v438 c27_i32
  let c0_i32_231 : BitVec 32 := 0#32
  ![v439.toNat, 0]
def k0_off84 (v442 : BitVec 32) : Fin 2 → Nat :=
  let c0_i32_232 : BitVec 32 := 0#32
  ![v442.toNat, 0]

def k0_chk28 (v442 : BitVec 32) : Prop :=
  (∀ a, (k0_off84 v442) a + S1x1024.size a ≤ S23040x1024.size a)
theorem k0_off84_inb : ∀ (v442 : BitVec 32) (k0_hw28 : k0_chk28 v442), ∀ a, (k0_off84 v442) a + S1x1024.size a ≤ S23040x1024.size a := fun v442 k0_hw28 => k0_hw28

def k0_off85 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_233 : BitVec 32 := 32#32
  let v445 : BitVec 32 := Scalar.muli arg8 c32_i32_233
  let c28_i32 : BitVec 32 := 28#32
  let v446 : BitVec 32 := Scalar.addi v445 c28_i32
  let v447 : BitVec 32 := Scalar.addi v0 v446
  let v448 : Index := Scalar.indexCast v447
  ![v448.toNat]
def k0_off86 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_233 : BitVec 32 := 32#32
  let v445 : BitVec 32 := Scalar.muli arg8 c32_i32_233
  let c28_i32 : BitVec 32 := 28#32
  let v446 : BitVec 32 := Scalar.addi v445 c28_i32
  let c0_i32_234 : BitVec 32 := 0#32
  ![v446.toNat, 0]
def k0_off87 (v449 : BitVec 32) : Fin 2 → Nat :=
  let c0_i32_235 : BitVec 32 := 0#32
  ![v449.toNat, 0]

def k0_chk29 (v449 : BitVec 32) : Prop :=
  (∀ a, (k0_off87 v449) a + S1x1024.size a ≤ S23040x1024.size a)
theorem k0_off87_inb : ∀ (v449 : BitVec 32) (k0_hw29 : k0_chk29 v449), ∀ a, (k0_off87 v449) a + S1x1024.size a ≤ S23040x1024.size a := fun v449 k0_hw29 => k0_hw29

def k0_off88 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_236 : BitVec 32 := 32#32
  let v452 : BitVec 32 := Scalar.muli arg8 c32_i32_236
  let c29_i32 : BitVec 32 := 29#32
  let v453 : BitVec 32 := Scalar.addi v452 c29_i32
  let v454 : BitVec 32 := Scalar.addi v0 v453
  let v455 : Index := Scalar.indexCast v454
  ![v455.toNat]
def k0_off89 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_236 : BitVec 32 := 32#32
  let v452 : BitVec 32 := Scalar.muli arg8 c32_i32_236
  let c29_i32 : BitVec 32 := 29#32
  let v453 : BitVec 32 := Scalar.addi v452 c29_i32
  let c0_i32_237 : BitVec 32 := 0#32
  ![v453.toNat, 0]
def k0_off90 (v456 : BitVec 32) : Fin 2 → Nat :=
  let c0_i32_238 : BitVec 32 := 0#32
  ![v456.toNat, 0]

def k0_chk30 (v456 : BitVec 32) : Prop :=
  (∀ a, (k0_off90 v456) a + S1x1024.size a ≤ S23040x1024.size a)
theorem k0_off90_inb : ∀ (v456 : BitVec 32) (k0_hw30 : k0_chk30 v456), ∀ a, (k0_off90 v456) a + S1x1024.size a ≤ S23040x1024.size a := fun v456 k0_hw30 => k0_hw30

def k0_off91 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_239 : BitVec 32 := 32#32
  let v459 : BitVec 32 := Scalar.muli arg8 c32_i32_239
  let c30_i32 : BitVec 32 := 30#32
  let v460 : BitVec 32 := Scalar.addi v459 c30_i32
  let v461 : BitVec 32 := Scalar.addi v0 v460
  let v462 : Index := Scalar.indexCast v461
  ![v462.toNat]
def k0_off92 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_239 : BitVec 32 := 32#32
  let v459 : BitVec 32 := Scalar.muli arg8 c32_i32_239
  let c30_i32 : BitVec 32 := 30#32
  let v460 : BitVec 32 := Scalar.addi v459 c30_i32
  let c0_i32_240 : BitVec 32 := 0#32
  ![v460.toNat, 0]
def k0_off93 (v463 : BitVec 32) : Fin 2 → Nat :=
  let c0_i32_241 : BitVec 32 := 0#32
  ![v463.toNat, 0]

def k0_chk31 (v463 : BitVec 32) : Prop :=
  (∀ a, (k0_off93 v463) a + S1x1024.size a ≤ S23040x1024.size a)
theorem k0_off93_inb : ∀ (v463 : BitVec 32) (k0_hw31 : k0_chk31 v463), ∀ a, (k0_off93 v463) a + S1x1024.size a ≤ S23040x1024.size a := fun v463 k0_hw31 => k0_hw31

def k0_off94 (i : grid0.Coords) (k0_t1 : Fin k0_t1_loop.trips) : Fin 1 → Nat :=
  let arg0 : BitVec 32 := BitVec.ofNat 32 (i 0).val
  let c1536_i32 : BitVec 32 := 1536#32
  let v0 : BitVec 32 := Scalar.muli arg0 c1536_i32
  let c0_i32 : BitVec 32 := 0#32
  let c1_i32 : BitVec 32 := 1#32
  let arg8 : BitVec 32 := Scf.iv c0_i32 c1_i32 k0_t1
  let c32_i32_242 : BitVec 32 := 32#32
  let v466 : BitVec 32 := Scalar.muli arg8 c32_i32_242
  let c31_i32 : BitVec 32 := 31#32
  let v467 : BitVec 32 := Scalar.addi v466 c31_i32
  let v468 : BitVec 32 := Scalar.addi v0 v467
  let v469 : Index := Scalar.indexCast v468
  ![v469.toNat]
def k0_off95 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_242 : BitVec 32 := 32#32
  let v466 : BitVec 32 := Scalar.muli arg8 c32_i32_242
  let c31_i32 : BitVec 32 := 31#32
  let v467 : BitVec 32 := Scalar.addi v466 c31_i32
  let c0_i32_243 : BitVec 32 := 0#32
  ![v467.toNat, 0]
def k0_off96 (v470 : BitVec 32) : Fin 2 → Nat :=
  let c0_i32_244 : BitVec 32 := 0#32
  ![v470.toNat, 0]

def k0_chk32 (v470 : BitVec 32) : Prop :=
  (∀ a, (k0_off96 v470) a + S1x1024.size a ≤ S23040x1024.size a)
theorem k0_off96_inb : ∀ (v470 : BitVec 32) (k0_hw32 : k0_chk32 v470), ∀ a, (k0_off96 v470) a + S1x1024.size a ≤ S23040x1024.size a := fun v470 k0_hw32 => k0_hw32

@[reducible] def k0_t2_loop : Scf.Loop 32 :=
  let c0_i32_1 : BitVec 32 := 0#32
  let c1536_i32_2 : BitVec 32 := 1536#32
  let v2 : BitVec 32 := Scalar.addi c0_i32_1 c1536_i32_2
  let c1_i32_3 : BitVec 32 := 1#32
  ⟨c0_i32_1, v2, c1_i32_3⟩
def k0_off97 (i : grid0.Coords) (k0_t2 : Fin k0_t2_loop.trips) : Fin 1 → Nat :=
  let arg0 : BitVec 32 := BitVec.ofNat 32 (i 0).val
  let c1536_i32 : BitVec 32 := 1536#32
  let v0 : BitVec 32 := Scalar.muli arg0 c1536_i32
  let c0_i32_1 : BitVec 32 := 0#32
  let c1_i32_3 : BitVec 32 := 1#32
  let arg8 : BitVec 32 := Scf.iv c0_i32_1 c1_i32_3 k0_t2
  let v249 : BitVec 32 := Scalar.addi v0 arg8
  let v250 : Index := Scalar.indexCast v249
  ![v250.toNat]
def k0_off98 (k0_t2 : Fin k0_t2_loop.trips) : Fin 2 → Nat :=
  let c0_i32_1 : BitVec 32 := 0#32
  let c1_i32_3 : BitVec 32 := 1#32
  let arg8 : BitVec 32 := Scf.iv c0_i32_1 c1_i32_3 k0_t2
  let c0_i32_143 : BitVec 32 := 0#32
  ![arg8.toNat, 0]
def k0_off99 (v251 : BitVec 32) : Fin 2 → Nat :=
  let c0_i32_144 : BitVec 32 := 0#32
  ![v251.toNat, 0]

def k0_chk33 (v251 : BitVec 32) : Prop :=
  (∀ a, (k0_off99 v251) a + S1x1024.size a ≤ S23040x1024.size a)
theorem k0_off99_inb : ∀ (v251 : BitVec 32) (k0_hw33 : k0_chk33 v251), ∀ a, (k0_off99 v251) a + S1x1024.size a ≤ S23040x1024.size a := fun v251 k0_hw33 => k0_hw33

def k0_off100 (i : grid0.Coords) (c0_i32_5 : BitVec 32) : Fin 3 → Nat :=
  let arg0 : BitVec 32 := BitVec.ofNat 32 (i 0).val
  let c6_i32 : BitVec 32 := 6#32
  let v3 : BitVec 32 := Scalar.muli arg0 c6_i32
  let v4 : BitVec 32 := Scalar.addi v3 c0_i32_5
  let c33_i32 : BitVec 32 := 33#32
  let c0_i32_6 : BitVec 32 := 0#32
  let v5 : BitVec 1 := Scalar.cmpi .eq c33_i32 c0_i32_6
  let c1_i32_7 : BitVec 32 := 1#32
  let v6 : BitVec 32 := Scalar.select v5 c1_i32_7 c33_i32
  let v7 : BitVec 32 := Scalar.remsi v4 v6
  let c0_i32_9 : BitVec 32 := 0#32
  let v9 : BitVec 1 := Scalar.cmpi .slt v7 c0_i32_9
  let c0_i32_10 : BitVec 32 := 0#32
  let v10 : BitVec 1 := Scalar.cmpi .slt v6 c0_i32_10
  let v11 : BitVec 1 := Scalar.xori v9 v10
  let c0_i32_8 : BitVec 32 := 0#32
  let v8 : BitVec 1 := Scalar.cmpi .ne v7 c0_i32_8
  let v12 : BitVec 1 := Scalar.andi v11 v8
  let v13 : BitVec 32 := Scalar.addi v7 v6
  let v14 : BitVec 32 := Scalar.select v12 v13 v7
  let c0_i32_11 : BitVec 32 := 0#32
  let v15 : BitVec 1 := Scalar.cmpi .eq v14 c0_i32_11
  let c2_i32 : BitVec 32 := 2#32
  let c0_i32_13 : BitVec 32 := 0#32
  let v17 : BitVec 1 := Scalar.cmpi .sgt v4 c0_i32_13
  let v18 : BitVec 32 := Scalar.extui v17
  let c0_i32_14 : BitVec 32 := 0#32
  let v19 : BitVec 1 := Scalar.cmpi .slt v4 c0_i32_14
  let v20 : BitVec 32 := Scalar.extui v19
  let v21 : BitVec 32 := Scalar.subi v18 v20
  let c33_i32_12 : BitVec 32 := 33#32
  let c0_i32_15 : BitVec 32 := 0#32
  let v22 : BitVec 1 := Scalar.cmpi .sgt c33_i32_12 c0_i32_15
  let v23 : BitVec 32 := Scalar.extui v22
  let c0_i32_16 : BitVec 32 := 0#32
  let v24 : BitVec 1 := Scalar.cmpi .slt c33_i32_12 c0_i32_16
  let v25 : BitVec 32 := Scalar.extui v24
  let v26 : BitVec 32 := Scalar.subi v23 v25
  let v27 : BitVec 1 := Scalar.cmpi .ne v21 v26
  let v28 : BitVec 32 := Scalar.remsi v4 c33_i32_12
  let c0_i32_17 : BitVec 32 := 0#32
  let v29 : BitVec 1 := Scalar.cmpi .ne v28 c0_i32_17
  let v30 : BitVec 1 := Scalar.andi v27 v29
  let v16 : BitVec 32 := Scalar.divsi v4 c33_i32_12
  let c1_i32_18 : BitVec 32 := 1#32
  let v31 : BitVec 32 := Scalar.subi v16 c1_i32_18
  let v32 : BitVec 32 := Scalar.select v30 v31 v16
  let v33 : BitVec 32 := Scalar.select v15 c2_i32 v32
  let v34 : Index := Scalar.indexCast v33
  let c0 : Index := 0#32
  let c0_19 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16896 : Shape := ⟨1, ![16896]⟩
abbrev S16896x1024 : Shape := ⟨2, ![16896, 1024]⟩
abbrev S8x6x1024 : Shape := ⟨3, ![8, 6, 1024]⟩
abbrev S23040x1024 : Shape := ⟨2, ![23040, 1024]⟩
abbrev S2x8448x1024 : Shape := ⟨3, ![2, 8448, 1024]⟩
abbrev S_ : Shape := ⟨0, ![]⟩
abbrev S16896x1 : Shape := ⟨2, ![16896, 1]⟩
abbrev S2x256x1024 : Shape := ⟨3, ![2, 256, 1024]⟩
abbrev S1x1x1024 : Shape := ⟨3, ![1, 1, 1024]⟩
abbrev S1024 : Shape := ⟨1, ![1024]⟩
abbrev S2x8192x1024 : Shape := ⟨3, ![2, 8192, 1024]⟩
abbrev S2x1x1024 : Shape := ⟨3, ![2, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16896, .i32⟩
  | .hbm, ⟨1, _⟩ => ⟨S16896x1024, .f32⟩
  | .hbm, ⟨2, _⟩ => ⟨S8x6x1024, .f32⟩
  | .hbm, ⟨3, _⟩ => ⟨S23040x1024, .f32⟩
  | .hbm, ⟨4, _⟩ => ⟨S2x8448x1024, .f32⟩
  | .hbm, ⟨5, _⟩ => ⟨S_, .i32⟩
  | .hbm, ⟨6, _⟩ => ⟨S16896, .i32⟩
  | .hbm, ⟨7, _⟩ => ⟨S16896, .i1⟩
  | .hbm, ⟨8, _⟩ => ⟨S_, .i32⟩
  | .hbm, ⟨9, _⟩ => ⟨S16896, .i32⟩
  | .hbm, ⟨10, _⟩ => ⟨S16896, .i32⟩
  | .hbm, ⟨11, _⟩ => ⟨S16896, .i32⟩
  | .hbm, ⟨12, _⟩ => ⟨S16896x1, .i32⟩
  | .hbm, ⟨13, _⟩ => ⟨S16896x1024, .f32⟩
  | .hbm, ⟨14, _⟩ => ⟨S2x8448x1024, .f32⟩
  | .hbm, ⟨15, _⟩ => ⟨S2x256x1024, .f32⟩
  | .hbm, ⟨16, _⟩ => ⟨S1x1x1024, .f32⟩
  | .hbm, ⟨17, _⟩ => ⟨S1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S2x8192x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8448x1024, .f32⟩
  | .hbm, ⟨30, _⟩ => ⟨S16896x1024, .f32⟩
  | _, _ => ⟨S16896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel7.lean ====
abbrev S16896x1024 : Shape := ⟨2, ![16896, 1024]⟩
abbrev S8x6x1024 : Shape := ⟨3, ![8, 6, 1024]⟩
abbrev S1024 : Shape := ⟨1, ![1024]⟩
abbrev S1024x1184 : Shape := ⟨2, ![1024, 1184]⟩
abbrev S384 : Shape := ⟨1, ![384]⟩
abbrev S384x1024 : Shape := ⟨2, ![384, 1024]⟩
abbrev S256 : Shape := ⟨1, ![256]⟩
abbrev S256x1024 : Shape := ⟨2, ![256, 1024]⟩
abbrev S256x640 : Shape := ⟨2, ![256, 640]⟩
abbrev S8448x128 : Shape := ⟨2, ![8448, 128]⟩
abbrev S32 : Shape := ⟨1, ![32]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S32x1 : Shape := ⟨2, ![32, 1]⟩
abbrev S1024x512 : Shape := ⟨2, ![1024, 512]⟩
abbrev S1024x1408 : Shape := ⟨2, ![1024, 1408]⟩
abbrev S1x1024 : Shape := ⟨2, ![1, 1024]⟩
abbrev S1x384 : Shape := ⟨2, ![1, 384]⟩
abbrev S1x256 : Shape := ⟨2, ![1, 256]⟩
abbrev S8x80 : Shape := ⟨2, ![8, 80]⟩
abbrev S1 : Shape := ⟨1, ![1]⟩
abbrev S8 : Shape := ⟨1, ![8]⟩
abbrev S1x640 : Shape := ⟨2, ![1, 640]⟩
abbrev S66x1024x256 : Shape := ⟨3, ![66, 1024, 256]⟩
abbrev S66x640x256 : Shape := ⟨3, ![66, 640, 256]⟩
abbrev S16896x512 : Shape := ⟨2, ![16896, 512]⟩
abbrev S1x6x1024 : Shape := ⟨3, ![1, 6, 1024]⟩
abbrev S256x128 : Shape := ⟨2, ![256, 128]⟩
abbrev S1x1024x256 : Shape := ⟨3, ![1, 1024, 256]⟩
abbrev S1x640x256 : Shape := ⟨3, ![1, 640, 256]⟩
abbrev S256x512 : Shape := ⟨2, ![256, 512]⟩
abbrev S6x1024 : Shape := ⟨2, ![6, 1024]⟩
abbrev S256x1 : Shape := ⟨2, ![256, 1]⟩
abbrev S256x1408 : Shape := ⟨2, ![256, 1408]⟩
abbrev S256x384 : Shape := ⟨2, ![256, 384]⟩
abbrev S256x256 : Shape := ⟨2, ![256, 256]⟩
abbrev S640x256 : Shape := ⟨2, ![640, 256]⟩
abbrev S128x256 : Shape := ⟨2, ![128, 256]⟩
abbrev S1x128x256 : Shape := ⟨3, ![1, 128, 256]⟩

abbrev nBuf : Space → Nat
  | .hbm => 46
  | .vmem => 25
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x1184, .f32⟩
  | .hbm, ⟨4, _⟩ => ⟨S384, .f32⟩
  | .hbm, ⟨5, _⟩ => ⟨S384x1024, .bf16⟩
  | .hbm, ⟨6, _⟩ => ⟨S384x1024, .bf16⟩
  | .hbm, ⟨7, _⟩ => ⟨S256, .f32⟩
  | .hbm, ⟨8, _⟩ => ⟨S256x1024, .bf16⟩
  | .hbm, ⟨9, _⟩ => ⟨S256x640, .bf16⟩
  | .hbm, ⟨10, _⟩ => ⟨S8448x128, .f32⟩
  | .hbm, ⟨11, _⟩ => ⟨S8448x128, .f32⟩
  | .hbm, ⟨12, _⟩ => ⟨S32, .i32⟩
  | .hbm, ⟨13, _⟩ => ⟨S1024x32, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S1024x32, .f32⟩
  | .hbm, ⟨18, _⟩ => ⟨S1024x640, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S1024x32, .f32⟩
  | .hbm, ⟨28, _⟩ => ⟨S1024x512, .f32⟩
  | .hbm, ⟨29, _⟩ => ⟨S1024x1408, .f32⟩
  | .hbm, ⟨30, _⟩ => ⟨S1024x1408, .bf16⟩
  | .hbm, ⟨31, _⟩ => ⟨S1x1024, .f32⟩
  | .hbm, ⟨32, _⟩ => ⟨S1x384, .f32⟩
  | .hbm, ⟨33, _⟩ => ⟨S1x256, .f32⟩
  | .hbm, ⟨34, _⟩ => ⟨S_, .f32⟩
  | .hbm, ⟨35, _⟩ => ⟨S8x80, .f32⟩
  | .hbm, ⟨36, _⟩ => ⟨S_, .i32⟩
  | .hbm, ⟨37, _⟩ => ⟨S1, .i32⟩
  | .hbm, ⟨38, _⟩ => ⟨S_, .f32⟩
  | .hbm, ⟨39, _⟩ => ⟨S8, .f32⟩
  | .hbm, ⟨40, _⟩ => ⟨S8x80, .f32⟩
  | .hbm, ⟨41, _⟩ => ⟨S1x640, .f32⟩
  | .hbm, ⟨42, _⟩ => ⟨S66x1024x256, .bf16⟩
  | .hbm, ⟨43, _⟩ => ⟨S16896x1024, .bf16⟩
  | .hbm, ⟨44, _⟩ => ⟨S66x640x256, .bf16⟩
  | .hbm, ⟨45, _⟩ => ⟨S16896x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1408, .bf16⟩
  | .local _ .vmem, ⟨6, _⟩ => ⟨S1x384, .f32⟩
  | .local _ .vmem, ⟨7, _⟩ => ⟨S384x1024, .bf16⟩
  | .local _ .vmem, ⟨8, _⟩ => ⟨S384x1024, .bf16⟩
  | .local _ .vmem, ⟨9, _⟩ => ⟨S1x256, .f32⟩
  | .local _ .vmem, ⟨10, _⟩ => ⟨S256x1024, .bf16⟩
  | .local _ .vmem, ⟨11, _⟩ => ⟨S256x640, .bf16⟩
  | .local _ .vmem, ⟨12, _⟩ => ⟨S1x640, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x1024x256, .bf16⟩
  | .local _ .vmem, ⟨18, _⟩ => ⟨S1x1024x256, .bf16⟩
  | .local _ .vmem, ⟨19, _⟩ => ⟨S256x1024, .bf16⟩
  | .local _ .vmem, ⟨20, _⟩ => ⟨S256x1024, .bf16⟩
  | .local _ .vmem, ⟨21, _⟩ => ⟨S1x640x256, .bf16⟩
  | .local _ .vmem, ⟨22, _⟩ => ⟨S1x640x256, .bf16⟩
  | .local _ .vmem, ⟨23, _⟩ => ⟨S256x512, .f32⟩
  | .local _ .vmem, ⟨24, _⟩ => ⟨S256x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x640 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x640x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S16896x1024 : Shape := ⟨2, ![16896, 1024]⟩
abbrev S8x6x1024 : Shape := ⟨3, ![8, 6, 1024]⟩
abbrev S1024 : Shape := ⟨1, ![1024]⟩
abbrev S1024x1184 : Shape := ⟨2, ![1024, 1184]⟩
abbrev S384 : Shape := ⟨1, ![384]⟩
abbrev S384x1024 : Shape := ⟨2, ![384, 1024]⟩
abbrev S256 : Shape := ⟨1, ![256]⟩
abbrev S256x1024 : Shape := ⟨2, ![256, 1024]⟩
abbrev S256x640 : Shape := ⟨2, ![256, 640]⟩
abbrev S8448x128 : Shape := ⟨2, ![8448, 128]⟩
abbrev S2x8448x1024 : Shape := ⟨3, ![2, 8448, 1024]⟩
abbrev S2x256x1024 : Shape := ⟨3, ![2, 256, 1024]⟩
abbrev S1x6x1024 : Shape := ⟨3, ![1, 6, 1024]⟩
abbrev S2x8192x1024 : Shape := ⟨3, ![2, 8192, 1024]⟩
abbrev S2x6x1024 : Shape := ⟨3, ![2, 6, 1024]⟩
abbrev S1024x512 : Shape := ⟨2, ![1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x8192 : Shape := ⟨2, ![2, 8192]⟩
abbrev S2x8192x1 : Shape := ⟨3, ![2, 8192, 1]⟩
abbrev S2x1x1024 : Shape := ⟨3, ![2, 1, 1024]⟩
abbrev S2x8192x512 : Shape := ⟨3, ![2, 8192, 512]⟩
abbrev S2x8448x512 : Shape := ⟨3, ![2, 8448, 512]⟩
abbrev S16896x512 : Shape := ⟨2, ![16896, 512]⟩

abbrev nBuf : Space → Nat
  | .hbm => 72
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x1184, .f32⟩
  | .hbm, ⟨4, _⟩ => ⟨S384, .f32⟩
  | .hbm, ⟨5, _⟩ => ⟨S384x1024, .bf16⟩
  | .hbm, ⟨6, _⟩ => ⟨S384x1024, .bf16⟩
  | .hbm, ⟨7, _⟩ => ⟨S256, .f32⟩
  | .hbm, ⟨8, _⟩ => ⟨S256x1024, .bf16⟩
  | .hbm, ⟨9, _⟩ => ⟨S256x640, .bf16⟩
  | .hbm, ⟨10, _⟩ => ⟨S8448x128, .f32⟩
  | .hbm, ⟨11, _⟩ => ⟨S8448x128, .f32⟩
  | .hbm, ⟨12, _⟩ => ⟨S2x8448x1024, .f32⟩
  | .hbm, ⟨13, _⟩ => ⟨S2x256x1024, .f32⟩
  | .hbm, ⟨14, _⟩ => ⟨S1x6x1024, .f32⟩
  | .hbm, ⟨15, _⟩ => ⟨S2x8192x1024, .f32⟩
  | .hbm, ⟨16, _⟩ => ⟨S2x6x1024, .f32⟩
  | .hbm, ⟨17, _⟩ => ⟨S1024x512, .f32⟩
  | .hbm, ⟨18, _⟩ => ⟨S2x256x1024, .f32⟩
  | .hbm, ⟨19, _⟩ => ⟨S_, .f32⟩
  | .hbm, ⟨20, _⟩ => ⟨S2x256, .f32⟩
  | .hbm, ⟨21, _⟩ => ⟨S2x256x1, .f32⟩
  | .hbm, ⟨22, _⟩ => ⟨S_, .f32⟩
  | .hbm, ⟨23, _⟩ => ⟨S2x256x1, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S2x256x1, .f32⟩
  | .hbm, ⟨29, _⟩ => ⟨S2x256x1024, .f32⟩
  | .hbm, ⟨30, _⟩ => ⟨S2x256x1024, .f32⟩
  | .hbm, ⟨31, _⟩ => ⟨S1x1x1024, .f32⟩
  | .hbm, ⟨32, _⟩ => ⟨S2x256x1024, .f32⟩
  | .hbm, ⟨33, _⟩ => ⟨S2x256x1024, .f32⟩
  | .hbm, ⟨34, _⟩ => ⟨S1x1x1024, .f32⟩
  | .hbm, ⟨35, _⟩ => ⟨S1x1x1024, .f32⟩
  | .hbm, ⟨36, _⟩ => ⟨S_, .f32⟩
  | .hbm, ⟨37, _⟩ => ⟨S1x1x1024, .f32⟩
  | .hbm, ⟨38, _⟩ => ⟨S1x1x1024, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S2x256x1024, .f32⟩
  | .hbm, ⟨43, _⟩ => ⟨S2x256x512, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S2x1x1024, .f32⟩
  | .hbm, ⟨61, _⟩ => ⟨S2x1x1024, .f32⟩
  | .hbm, ⟨62, _⟩ => ⟨S_, .f32⟩
  | .hbm, ⟨63, _⟩ => ⟨S2x1x1024, .f32⟩
  | .hbm, ⟨64, _⟩ => ⟨S2x1x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x512, .f32⟩
  | .hbm, ⟨70, _⟩ => ⟨S2x8448x512, .f32⟩
  | .hbm, ⟨71, _⟩ => ⟨S16896x512, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.BodyI.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one index of a single word read from a table. -/
abbrev i0 : S1.Idx := Shape.Idx.first (s := S1) (numel1_S1.symm ▸ Nat.one_pos)

/-- The word of table `x` for grid point `i`. -/
def wordAt (x : Vec F S90 .i32) (i : grid0.Coords) : BitVec 32 :=
  View.ld (Val := Elt F) (e' := .i32) x (Rect.unit (s := S90) (k0_off1 i) S1.size (k0_off1_inb i)) i0

/-- Whether the word `w` of the `fresh` table asks for the first expert's weights to be reloaded: its lowest bit, by
    the remainder the body computes. -/
def isA (w : BitVec 32) : BitVec 1 :=
  let v4 : BitVec 1 := Scalar.cmpi .eq 2#32 0#32
  let v5 : BitVec 32 := Scalar.select v4 1#32 2#32
  let v6 : BitVec 32 := Scalar.remsi w v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 1#32
  let v15 : BitVec 32 := Scalar.extui v14
  Scalar.cmpi .ne v15 0#32

/-- Whether it asks for the second expert's weights to be reloaded: two or more. -/
def isB (w : BitVec 32) : BitVec 1 :=
  Scalar.cmpi .ne (Scalar.extui (Scalar.cmpi .sge w 2#32) : BitVec 32) 0#32

/-- The new contents of a kept buffer: `p` where the flag is set, else what it held. -/
def keep {α : Type} (b : BitVec 1) (p y : α) : α := if b = 1#1 then p else y

/-- The tile the body leaves in the output buffer: zeros for an empty tile, else the two experts' gated products. -/
def outv (s : BitVec 32) (X : Vec F S256x1152 .f32) (a1 a3 : Vec F S1024x512 .bf16) (a2 : Vec F S512x1024 .bf16)
    (b1 b3 : Vec F S1024x512 .bf16) (b2 : Vec F S512x1024 .bf16) : FVec F S256x1024 .f32 :=
  let h : Vec F S256x1024 .f32 := View.ld (Val := Elt F) (e' := .f32) X (Rect.unit (s := S256x1152) ![0, 0] S256x1024.size inb_S256x1152_S256x1024_0_0)
  let lo : Vec F S256x1 .f32 := View.ld (Val := Elt F) (e' := .f32) X (Rect.unit (s := S256x1152) ![0, 1046] S256x1.size inb_S256x1152_S256x1_0_1046)
  let hi : Vec F S256x1 .f32 := View.ld (Val := Elt F) (e' := .f32) X (Rect.unit (s := S256x1152) ![0, 1047] S256x1.size inb_S256x1152_S256x1_0_1047)
  if k0_cond4 s = 1#1 then
    k0_pay8 (k0_pay9 h) (k0_pay10 s lo hi) (k0_pay11 s h lo hi a1 a3 a2) (k0_pay12 h b1) (k0_pay13 h b1)
      (Scalar.ofBits .f32 0x3F800000#32) b3 b2
  else k0_pay7

/-- A status word is zero or not: one of the two conditions holds. -/
theorem cond3_of_not_cond4 (w : BitVec 32) (h : ¬ k0_cond4 w = 1#1) : k0_cond3 w = 1#1 := by
  by_cases hw : w = 0#32
  · subst hw; decide
  · exfalso; apply h
    have hc : IntOp.cmpi CmpIPredicate.ne w 0#32 = 1#1 := by
      show BitVec.ofBool (w != 0#32) = 1#1
      rw [show (w != 0#32) = true from bne_iff_ne.mpr hw]; rfl
    show IntOp.cmpi .ne (BitVec.setWidth 32 (IntOp.cmpi .ne w 0#32)) 0#32 = 1#1
    rw [hc]; decide

theorem z2 : (![0, 0] : Fin 2 → Nat) = fun _ => 0 := by decide
theorem z4 : (![0, 0, 0, 0] : Fin 4 → Nat) = fun _ => 0 := by decide

/-- Reading a buffer overwritten whole. -/
theorem read_over {sp : Space} {s : Shape} {e : EltTy} (v : View sig .tc sp s e) (f : v.ty.Contents (Elt F))
    {off : Fin s.rank → Nat} (h : off = fun _ => 0) (inb : ∀ a, off a + s.size a ≤ s.size a) (p : s.Idx → Elt F e) :
    v.read (Elt F) (v.writes (Elt F) f [⟨Rect.unit off s.size inb, p⟩]) = p := by
  rw [View.read_writes_eq_canon _ _ _ (fun y => ⟨_, List.mem_singleton_self _, View.mem_set_unit_zero h inb y⟩), View.canon_unit_zero h]

/-- Reading a buffer kept or overwritten whole. -/
theorem read_keep {sp : Space} {s : Shape} {e : EltTy} (v : View sig .tc sp s e) (b : BitVec 1) (f : v.ty.Contents (Elt F))
    {off : Fin s.rank → Nat} (h : off = fun _ => 0) (inb : ∀ a, off a + s.size a ≤ s.size a) (p : s.Idx → Elt F e) :
    v.read (Elt F) (if b = 1#1 then v.writes (Elt F) f [⟨Rect.unit off s.size inb, p⟩] else f)
      = keep b p (v.read (Elt F) f) := by
  unfold keep
  split
  · exact read_over v f h inb p
  · rfl

/-- Loading all of it. -/
theorem readAt_full {sp : Space} {s : Shape} {e : EltTy} (v : View sig .tc sp s e) (f : v.ty.Contents (Elt F))
    {off : Fin s.rank → Nat} (h : off = fun _ => 0) (inb : ∀ a, off a + s.size a ≤ s.size a) :
    v.readAt (Elt F) (Rect.unit off s.size inb).toLoadRect f = v.read (Elt F) f := by
  rw [View.readAt_eq_ld, View.ld_unit_zero h]

set_option maxHeartbeats 1600000 in
theorem sound_kernel (c : Dev nD) (E : Set ℕ) (i : grid0.Coords) (arg1 : Memref sig .tc .smem S90 .i32) (harg1 : arg1.IsWhole) (arg2 : Memref sig .tc .smem S90 .i32) (harg2 : arg2.IsWhole) (arg3 : Memref sig .tc .smem S90 .i32) (harg3 : arg3.IsWhole) (arg4 : Memref sig .tc .smem S90 .i32) (harg4 : arg4.IsWhole) (arg5 : Memref sig .tc .vmem S256x1152 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S256x1024 .f32) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S512x1024 .bf16) (harg18 : arg18.IsWhole)
    (x3 x4 : Vec F S90 .i32) (x5 : Vec F S256x1152 .f32) (x6 x7 : Vec F S1x1x1024x512 .f32) (x8 : Vec F S1x1x512x1024 .f32)
    (x9 x10 : Vec F S1x1x1024x512 .f32) (x11 : Vec F S1x1x512x1024 .f32)
    (x13 x14 : Vec F S1024x512 .bf16) (x15 : Vec F S512x1024 .bf16) (x16 x17 : Vec F S1024x512 .bf16) (x18 : Vec F S512x1024 .bf16)
    (K : PUnit → sProp 𝕄) :
    iprop(owns c arg3 fullShare.right x3 ∗ owns c arg4 fullShare.right x4 ∗ owns c arg5 fullShare x5 ∗ owns c arg6 fullShare x6 ∗ owns c arg7 fullShare x7 ∗ owns c arg8 fullShare x8
      ∗ owns c arg9 fullShare x9 ∗ owns c arg10 fullShare x10 ∗ owns c arg11 fullShare x11 ∗ (∃ d, owns c arg12 fullShare d)
      ∗ owns c arg13 fullShare x13 ∗ owns c arg14 fullShare x14 ∗ owns c arg15 fullShare x15 ∗ owns c arg16 fullShare x16 ∗ owns c arg17 fullShare x17 ∗ owns c arg18 fullShare x18
      ∗ (iprop(owns c arg3 fullShare.right x3 ∗ owns c arg4 fullShare.right x4 ∗ owns c arg5 fullShare x5 ∗ owns c arg6 fullShare x6 ∗ owns c arg7 fullShare x7 ∗ owns c arg8 fullShare x8
      ∗ owns c arg9 fullShare x9 ∗ owns c arg10 fullShare x10 ∗ owns c arg11 fullShare x11
      ∗ owns c arg12 fullShare (outv (wordAt x3 i) x5 (keep (isA (wordAt x4 i)) (k0_pay1 x6) x13) (keep (isA (wordAt x4 i)) (k0_pay2 x7) x14) (keep (isA (wordAt x4 i)) (k0_pay3 x8) x15)
          (keep (isB (wordAt x4 i)) (k0_pay4 x9) x16) (keep (isB (wordAt x4 i)) (k0_pay5 x10) x17) (keep (isB (wordAt x4 i)) (k0_pay6 x11) x18))
      ∗ owns c arg13 fullShare (keep (isA (wordAt x4 i)) (k0_pay1 x6) x13) ∗ owns c arg14 fullShare (keep (isA (wordAt x4 i)) (k0_pay2 x7) x14)
      ∗ owns c arg15 fullShare (keep (isA (wordAt x4 i)) (k0_pay3 x8) x15) ∗ owns c arg16 fullShare (keep (isB (wordAt x4 i)) (k0_pay4 x9) x16)
      ∗ owns c arg17 fullShare (keep (isB (wordAt x4 i)) (k0_pay5 x10) x17) ∗ owns c arg18 fullShare (keep (isB (wordAt x4 i)) (k0_pay6 x11) x18)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_experts_eq_skeleton]; unfold cc0_moe_experts_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf3 hf4 hf5 hf6 hf7 hf8 hf9 hf10 hf11 hf13 hf14 hf15 hf16 hf17 hf18
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    by_cases h4 : k0_cond4 (wordAt (arg3.view.read (Elt F) f3) i) = 1#1
    · rw [dif_pos (show k0_cond4 (sound_kernel.sl.r c i arg3 f3) = 1#1 from h4), read_over _ _ z2]
      unfold outv; rw [if_pos h4]
      have ev34 : sound_kernel.sl.v34 c i arg4 arg6 arg13 f4 f6 f13 = keep (isA (wordAt (arg4.view.read (Elt F) f4) i)) (k0_pay1 (arg6.view.read (Elt F) f6)) (arg13.view.read (Elt F) f13) := by
        delta sound_kernel.sl.v34
        rw [readAt_full _ _ z2]
        refine (read_keep _ _ _ z2 _ _).trans ?_
        rw [readAt_full _ _ z4]; rfl
      have ev44 : sound_kernel.sl.v44 c i arg4 arg7 arg14 f4 f7 f14 = keep (isA (wordAt (arg4.view.read (Elt F) f4) i)) (k0_pay2 (arg7.view.read (Elt F) f7)) (arg14.view.read (Elt F) f14) := by
        delta sound_kernel.sl.v44
        rw [readAt_full _ _ z2]
        refine (read_keep _ _ _ z2 _ _).trans ?_
        rw [readAt_full _ _ z4]; rfl
      have ev50 : sound_kernel.sl.v50 c i arg4 arg8 arg15 f4 f8 f15 = keep (isA (wordAt (arg4.view.read (Elt F) f4) i)) (k0_pay3 (arg8.view.read (Elt F) f8)) (arg15.view.read (Elt F) f15) := by
        delta sound_kernel.sl.v50
        rw [readAt_full _ _ z2]
        refine (read_keep _ _ _ z2 _ _).trans ?_
        rw [readAt_full _ _ z4]; rfl
      have ev53 : sound_kernel.sl.v53 c i arg4 arg9 arg16 f4 f9 f16 = keep (isB (wordAt (arg4.view.read (Elt F) f4) i)) (k0_pay4 (arg9.view.read (Elt F) f9)) (arg16.view.read (Elt F) f16) := by
        delta sound_kernel.sl.v53
        rw [readAt_full _ _ z2]
        refine (read_keep _ _ _ z2 _ _).trans ?_
        rw [readAt_full _ _ z4]; rfl
      have ev63 : sound_kernel.sl.v63 c i arg4 arg10 arg17 f4 f10 f17 = keep (isB (wordAt (arg4.view.read (Elt F) f4) i)) (k0_pay5 (arg10.view.read (Elt F) f10)) (arg17.view.read (Elt F) f17) := by
        delta sound_kernel.sl.v63
        rw [readAt_full _ _ z2]
        refine (read_keep _ _ _ z2 _ _).trans ?_
        rw [readAt_full _ _ z4]; rfl
      have ev69 : sound_kernel.sl.v69 c i arg4 arg11 arg18 f4 f11 f18 = keep (isB (wordAt (arg4.view.read (Elt F) f4) i)) (k0_pay6 (arg11.view.read (Elt F) f11)) (arg18.view.read (Elt F) f18) := by
        delta sound_kernel.sl.v69
        rw [readAt_full _ _ z2]
        refine (read_keep _ _ _ z2 _ _).trans ?_
        rw [readAt_full _ _ z4]; rfl
      rw [← ev34, ← ev44, ← ev50, ← ev53, ← ev63, ← ev69]
      delta sound_kernel.sl.r_2 sound_kernel.sl.r_3 sound_kernel.sl.r_4 sound_kernel.sl.r_5 sound_kernel.sl.r_6 sound_kernel.sl.cst_32
      rfl
    · have h3 : k0_cond3 (sound_kernel.sl.r c i arg3 f3) = 1#1 := cond3_of_not_cond4 _ h4
      rw [dif_neg (show ¬ k0_cond4 (sound_kernel.sl.r c i arg3 f3) = 1#1 from h4), dif_pos h3, read_over _ _ z2]
      unfold outv; rw [if_neg h4]
  isplitl [H13]
  · iexists _; isplitr
    swap; · iexact H13
    ipureintro
    refine (read_keep _ _ _ z2 _ _).trans ?_
    rw [readAt_full _ _ z4]; rfl
  isplitl [H14]
  · iexists _; isplitr
    swap; · iexact H14
    ipureintro
    refine (read_keep _ _ _ z2 _ _).trans ?_
    rw [readAt_full _ _ z4]; rfl
  isplitl [H15]
  · iexists _; isplitr
    swap; · iexact H15
    ipureintro
    refine (read_keep _ _ _ z2 _ _).trans ?_
    rw [readAt_full _ _ z4]; rfl
  isplitl [H16]
  · iexists _; isplitr
    swap; · iexact H16
    ipureintro
    refine (read_keep _ _ _ z2 _ _).trans ?_
    rw [readAt_full _ _ z4]; rfl
  isplitl [H17]
  · iexists _; isplitr
    swap; · iexact H17
    ipureintro
    refine (read_keep _ _ _ z2 _ _).trans ?_
    rw [readAt_full _ _ z4]; rfl
  · iexists _; isplitr
    swap; · iexact H18
    ipureintro
    refine (read_keep _ _ _ z2 _ _).trans ?_
    rw [readAt_full _ _ z4]; rfl

end Cert.KernelIdeal.Body

end
-- ==== Proof.TablesI.lean ====
module

public import proofs.«01_k».proof.Proof.BodyI
import Idealize.ShloMosaic.Lib.StableHlo.RunRead
public import Idealize.ShloMosaic.Lib.Pointwise.SelectCore
public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What each buffer holds when the experts' loop is entered: the launch memory after the host operations. -/
def V (c : Dev nD) (b : Ref sig .tc) : Buf (Elt F) ((c.tc : Thread nD τ).loc b) :=
  StableHlo.after hostOps0 (fun b => m (c, b)) b

/-- The references the host operations write. -/
abbrev written : List (Ref sig .tc) := [main_c, main_v0, main_v1, main_v2, main_v3, main_v4, main_v5, main_c_0, main_v6, main_v7, main_v8, main_v9, main_v10, main_v11, main_c_1, main_v12, main_v13, main_v14]

/-- Any other buffer still holds its launch contents. -/
theorem V_kept (c : Dev nD) (b : Ref sig .tc) (hb : b ∉ written) : V m c b = m ((c.tc : Thread nD τ).loc b) :=
  StableHlo.after_unwritten written rfl hb _

/-- The change flags of a table of experts: one at the first tile and wherever the expert differs from the previous tile's. -/
def flags (e : IVec S90 32) : IVec S90 32 :=
  concatenate S90 0 [⟨S1, broadcastInDim S1 ![] bcast_S_S1 (constantI S_ 32 1#32)⟩,
    ⟨S89, extui 32 (cmpi .ne (extractStridedSlice S89 ![1] e slices_S90_S89_1) (extractStridedSlice S89 ![0] e slices_S90_S89_0)) natLt_1_32⟩]
    concatenates_S1_S89_S90_d0

/-- The `fresh` table: the first expert's flags and twice the second's. -/
theorem V_fresh (c : Dev nD) : V m c main_v14 = addi (flags (m ((c.tc : Thread nD τ).loc main_arg0)))
    (muli (broadcastInDim S90 ![] bcast_S_S90 (constantI S_ 32 2#32)) (flags (m ((c.tc : Thread nD τ).loc main_arg1)))) := by
  unfold V
  after_reads_simp
  rfl

/-- The index of tile `t` in a table. -/
def tix (t : Nat) (h : t < 90) : S90.Idx := fun a => ⟨t, Nat.lt_of_lt_of_eq h (by fin_cases a; rfl)⟩

theorem wordAt_eq (x : Vec F S90 .i32) (i : grid0.Coords) : wordAt x i = x (tix (i 0).val (i 0).isLt) := by
  unfold wordAt
  show x _ = x _
  congr 1
  funext a
  apply Fin.ext
  have h := congrFun (k0_off1_eq i) a
  show k0_off1 i a + 1 * 0 = (i 0).val
  rw [h]
  fin_cases a
  rfl

theorem flags_zero (e : IVec S90 32) (h : 0 < 90) : flags e (tix 0 h) = 1#32 := by
  unfold flags
  exact concatenate_pair_apply_left (t := S90) (s₁ := S1) (s₂ := S89) 0 _ _ _ _ rfl (fun a => ⟨0, by fin_cases a; decide⟩) (fun b => rfl)

theorem flags_succ (e : IVec S90 32) (t : Nat) (h : t + 1 < 90) :
    flags e (tix (t + 1) h) = if e (tix (t + 1) h) = e (tix t (by omega)) then 0#32 else 1#32 := by
  unfold flags
  rw [concatenate_pair_apply_right (t := S90) (s₁ := S1) (s₂ := S89) 0 _ _ _ _ rfl rfl (fun a => ⟨t, by fin_cases a; show t < 89; omega⟩)
    (fun b hb => by fin_cases b; exact absurd rfl hb) rfl]
  show BitVec.setWidth 32 (BitVec.ofBool (e _ != e _)) = _
  have h1 : ∀ (j j' : S90.Idx), (∀ a, (j a).val = (j' a).val) → e j = e j' := fun j j' hj => congrArg e (funext fun a => Fin.ext (hj a))
  rw [h1 (fun a => ⟨![1] a + t, _⟩) (tix (t + 1) h) (fun a => by fin_cases a; exact Nat.add_comm 1 t),
    h1 (fun a => ⟨![0] a + t, _⟩) (tix t (by omega)) (fun a => by fin_cases a; exact Nat.zero_add t)]
  split
  · next he => rw [he, bne_self_eq_false]; rfl
  · next he => rw [bne_iff_ne.mpr he]; rfl

theorem flags_bit (e : IVec S90 32) (t : Nat) (h : t < 90) : flags e (tix t h) = 0#32 ∨ flags e (tix t h) = 1#32 := by
  cases t with
  | zero => exact .inr (flags_zero e h)
  | succ t => rw [flags_succ]; split <;> simp

/-- An unset flag: not the first tile, and the expert is the previous tile's. -/
theorem of_flags_zero (e : IVec S90 32) (t : Nat) (h : t < 90) (hf : flags e (tix t h) = 0#32) :
    ∃ ht : t ≠ 0, e (tix t h) = e (tix (t - 1) (by omega)) := by
  cases t with
  | zero => rw [flags_zero] at hf; exact absurd hf (by decide)
  | succ t =>
    rw [flags_succ] at hf
    refine ⟨Nat.succ_ne_zero t, ?_⟩
    by_contra hne
    rw [if_neg (show ¬ e (tix (t + 1) h) = e (tix t (by omega)) from hne)] at hf
    exact absurd hf (by decide)

theorem isA_or (a b : BitVec 32) (ha : a = 0#32 ∨ a = 1#32) (hb : b = 0#32 ∨ b = 1#32) : isA (a + 2#32 * b) = 1#1 ∨ a = 0#32 := by
  rcases ha with rfl | rfl
  · exact .inr rfl
  · rcases hb with rfl | rfl <;> exact .inl (by decide)

theorem isB_or (a b : BitVec 32) (ha : a = 0#32 ∨ a = 1#32) (hb : b = 0#32 ∨ b = 1#32) : isB (a + 2#32 * b) = 1#1 ∨ b = 0#32 := by
  rcases hb with rfl | rfl
  · exact .inr rfl
  · rcases ha with rfl | rfl <;> exact .inl (by decide)

/-- Where the `fresh` table does not ask for the first expert's weights, its expert is the previous tile's. -/
theorem keepA (c : Dev nD) (i : grid0.Coords) (h : isA (wordAt (F := F) (V m c main_v14) i) ≠ 1#1) :
    ∃ ht : (i 0).val ≠ 0, m ((c.tc : Thread nD τ).loc main_arg0) (tix (i 0).val (i 0).isLt)
      = m ((c.tc : Thread nD τ).loc main_arg0) (tix ((i 0).val - 1) (Nat.lt_of_le_of_lt (Nat.sub_le _ _) (i 0).isLt)) := by
  rw [wordAt_eq, V_fresh] at h
  rcases isA_or _ _ (flags_bit (m ((c.tc : Thread nD τ).loc main_arg0)) (i 0).val (i 0).isLt) (flags_bit (m ((c.tc : Thread nD τ).loc main_arg1)) (i 0).val (i 0).isLt) with h' | h'
  · exact absurd h' h
  · exact of_flags_zero _ _ _ h'

/-- The same of the second expert. -/
theorem keepB (c : Dev nD) (i : grid0.Coords) (h : isB (wordAt (F := F) (V m c main_v14) i) ≠ 1#1) :
    ∃ ht : (i 0).val ≠ 0, m ((c.tc : Thread nD τ).loc main_arg1) (tix (i 0).val (i 0).isLt)
      = m ((c.tc : Thread nD τ).loc main_arg1) (tix ((i 0).val - 1) (Nat.lt_of_le_of_lt (Nat.sub_le _ _) (i 0).isLt)) := by
  rw [wordAt_eq, V_fresh] at h
  rcases isB_or _ _ (flags_bit (m ((c.tc : Thread nD τ).loc main_arg0)) (i 0).val (i 0).isLt) (flags_bit (m ((c.tc : Thread nD τ).loc main_arg1)) (i 0).val (i 0).isLt) with h' | h'
  · exact absurd h' h
  · exact of_flags_zero _ _ _ h'

/-! ## The prefetched tables -/

/-- The tables' contents when the loop is entered. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every weight block the tables name lies inside the weights. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄)
    = iprop(owns c (Memref.whole main_arg0) fullShare.right (V m c main_arg0) ∗ owns c (Memref.whole main_arg1) fullShare.right (V m c main_arg1)
      ∗ owns c (Memref.whole main_arg2) fullShare.right (V m c main_arg2) ∗ owns c (Memref.whole main_v14) fullShare.right (V m c main_v14)) := by
  obtain rfl : c = 0 := Subsingleton.elim _ _
  unfold Pipeline.ΦT Pipeline.prefHeld
  rw [show (Finset.univ : Finset (Fin 4)) = insert (0 : Fin 4) (insert 1 (insert 2 {3})) from by decide,
    bigSep_insert (by decide), bigSep_insert (by decide), bigSep_insert (by decide), bigSep_singleton]
  exact (congrArg₂ _ (owns_whole (0 : Dev nD).tc main_arg0 _ _) (congrArg₂ _ (owns_whole (0 : Dev nD).tc main_arg1 _ _)
    (congrArg₂ _ (owns_whole (0 : Dev nD).tc main_arg2 _ _) (owns_whole (0 : Dev nD).tc main_v14 _ _)))).symm

end Cert.KernelIdeal.Body
end
-- ==== Proof.RunI.lean ====
module

public import proofs.«01_k».proof.Proof.TablesI
public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (hO : Ok m)

/-- Window `w`'s block of its array at point `t`. -/
def iblk (c : Dev nD) (w : Fin 8) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tokens' tile at point `t`. -/
def xblk (c : Dev nD) (t : Fin (cfgM m hO).N) : Vec F S256x1152 .f32 := iblk m hO c 0 t
/-- The first expert's three weight matrices at point `t`. -/
def wa1 (c : Dev nD) (t : Fin (cfgM m hO).N) : Vec F S1x1x1024x512 .f32 := iblk m hO c 1 t
def wa3 (c : Dev nD) (t : Fin (cfgM m hO).N) : Vec F S1x1x1024x512 .f32 := iblk m hO c 2 t
def wa2 (c : Dev nD) (t : Fin (cfgM m hO).N) : Vec F S1x1x512x1024 .f32 := iblk m hO c 3 t
/-- The second expert's. -/
def wb1 (c : Dev nD) (t : Fin (cfgM m hO).N) : Vec F S1x1x1024x512 .f32 := iblk m hO c 4 t
def wb3 (c : Dev nD) (t : Fin (cfgM m hO).N) : Vec F S1x1x1024x512 .f32 := iblk m hO c 5 t
def wb2 (c : Dev nD) (t : Fin (cfgM m hO).N) : Vec F S1x1x512x1024 .f32 := iblk m hO c 6 t

/-- The tile the body leaves at point `t`. -/
def otile (c : Dev nD) (t : Fin (cfgM m hO).N) : FVec F S256x1024 .f32 :=
  outv (wordAt (F := F) (V m c main_arg2) (grid0.coords t)) (xblk m hO c t) (k0_pay1 (wa1 m hO c t)) (k0_pay2 (wa3 m hO c t)) (k0_pay3 (wa2 m hO c t))
    (k0_pay4 (wb1 m hO c t)) (k0_pay5 (wb3 m hO c t)) (k0_pay6 (wb2 m hO c t))

/-- The weight buffers before point `n`: from the second point on they hold the previous point's experts' weights, rounded. -/
def Good (c : Dev nD) (n : Nat) (x13 x14 : Vec F S1024x512 .bf16) (x15 : Vec F S512x1024 .bf16) (x16 x17 : Vec F S1024x512 .bf16) (x18 : Vec F S512x1024 .bf16) : Prop :=
  ∀ t : Fin (cfgM m hO).N, t.val + 1 = n → x13 = k0_pay1 (wa1 m hO c t) ∧ x14 = k0_pay2 (wa3 m hO c t) ∧ x15 = k0_pay3 (wa2 m hO c t)
    ∧ x16 = k0_pay4 (wb1 m hO c t) ∧ x17 = k0_pay5 (wb3 m hO c t) ∧ x18 = k0_pay6 (wb2 m hO c t)

/-- The weight buffers held before point `n`. -/
def PhiW (c : Dev nD) (n : Nat) : sProp 𝕄 :=
  iprop(∃ (x13 x14 : Vec F S1024x512 .bf16) (x15 : Vec F S512x1024 .bf16) (x16 x17 : Vec F S1024x512 .bf16) (x18 : Vec F S512x1024 .bf16),
    ⌜Good m hO c n x13 x14 x15 x16 x17 x18⌝ ∗ owns c (Memref.whole cc0_scratch0) fullShare x13 ∗ owns c (Memref.whole cc0_scratch1) fullShare x14
    ∗ owns c (Memref.whole cc0_scratch2) fullShare x15 ∗ owns c (Memref.whole cc0_scratch3) fullShare x16 ∗ owns c (Memref.whole cc0_scratch4) fullShare x17
    ∗ owns c (Memref.whole cc0_scratch5) fullShare x18)

/-- The invariant before point `n`: the weight buffers, the generator register and the tables. -/
def PhiS (c : Dev nD) (n : Nat) (_h : n ≤ (cfgM m hO).N) : sProp 𝕄 :=
  iprop(PhiW m hO c n ∗ (∃ r, prngReg c r) ∗ Pipeline.ΦT pre0 (tbl m) c)

/-- The loop's proof data: the arrays as the host operations leave them, every input block kept, the output tile `otile`. -/
def dats (_p : Fin 1) (c : Dev nD) : Dat τ (Elt F) Unit ℕ (UR sig nD τ) ℕ (cfgM m hO) c where
  A w := V m c (Pipeline.arrRef spec0 w)
  after w t := match w with
    | 0 => iblk m hO c 0 t
    | 1 => iblk m hO c 1 t
    | 2 => iblk m hO c 2 t
    | 3 => iblk m hO c 3 t
    | 4 => iblk m hO c 4 t
    | 5 => iblk m hO c 5 t
    | 6 => iblk m hO c 6 t
    | 7 => otile m hO c t
    | ⟨_ + 8, h⟩ => absurd h (Nat.not_lt.2 (Nat.le_add_left _ _))
  Φ t := PhiS m hO c t.val (Nat.le_of_lt_succ t.isLt)
  q w := Pipeline.shareOf spec0 w
  owed _ := 0

theorem A_eq (c : Dev nD) (w : Fin (cfgM m hO).W) : (dats m hO 0 c).A w = V m c (Pipeline.arrRef spec0 w) := by
  dsimp only [dats]

theorem before_in (c : Dev nD) (t : Fin (cfgM m hO).N) :
    (∀ d, (dats m hO 0 c).before (0 : Fin 8) t d = xblk m hO c t) ∧ (∀ d, (dats m hO 0 c).before (1 : Fin 8) t d = wa1 m hO c t)
    ∧ (∀ d, (dats m hO 0 c).before (2 : Fin 8) t d = wa3 m hO c t) ∧ (∀ d, (dats m hO 0 c).before (3 : Fin 8) t d = wa2 m hO c t)
    ∧ (∀ d, (dats m hO 0 c).before (4 : Fin 8) t d = wb1 m hO c t) ∧ (∀ d, (dats m hO 0 c).before (5 : Fin 8) t d = wb3 m hO c t)
    ∧ (∀ d, (dats m hO 0 c).before (6 : Fin 8) t d = wb2 m hO c t) := by
  refine ⟨?_, ?_, ?_, ?_, ?_, ?_, ?_⟩
  · intro d; exact ((dats m hO 0 c).before_in_eq_fetched (0 : Fin 8) rfl (fun _ => rfl) (fun _ _ _ => rfl) (fun _ => rfl) t d).trans rfl
  · intro d; exact ((dats m hO 0 c).before_in_eq_fetched (1 : Fin 8) rfl (fun _ => rfl) (fun _ _ _ => rfl) (fun _ => rfl) t d).trans rfl
  · intro d; exact ((dats m hO 0 c).before_in_eq_fetched (2 : Fin 8) rfl (fun _ => rfl) (fun _ _ _ => rfl) (fun _ => rfl) t d).trans rfl
  · intro d; exact ((dats m hO 0 c).before_in_eq_fetched (3 : Fin 8) rfl (fun _ => rfl) (fun _ _ _ => rfl) (fun _ => rfl) t d).trans rfl
  · intro d; exact ((dats m hO 0 c).before_in_eq_fetched (4 : Fin 8) rfl (fun _ => rfl) (fun _ _ _ => rfl) (fun _ => rfl) t d).trans rfl
  · intro d; exact ((dats m hO 0 c).before_in_eq_fetched (5 : Fin 8) rfl (fun _ => rfl) (fun _ _ _ => rfl) (fun _ => rfl) t d).trans rfl
  · intro d; exact ((dats m hO 0 c).before_in_eq_fetched (6 : Fin 8) rfl (fun _ => rfl) (fun _ _ _ => rfl) (fun _ => rfl) t d).trans rfl

/-- The word of a table at a grid point, as the index maps read it. -/
theorem at_eq (k : Fin 4) (x : Vec F S90 .i32) (i : grid0.Coords) :
    x ((Rect.unit (s := S90) (k0_off1 i) S1.size (k0_off1_inb i)).emb (Shape.Idx.first (numel1_S1.symm ▸ Nat.one_pos)))
      = x (tix (i 0).val (i 0).isLt) := wordAt_eq x i

/-- The first expert's block index. -/
theorem ixA (i : grid0.Coords) : cc0_transform_1 k0_off1_inb numel1_S1 (tbl m) i
    = ![0, (V m (0 : Dev nD) main_arg0 (tix (i 0).val (i 0).isLt) : BitVec 32).toNat, 0, 0] := by
  have h := at_eq 0 (V m (0 : Dev nD) main_arg0) i
  unfold cc0_transform_1
  exact congrArg (fun w : BitVec 32 => ![0, w.toNat, 0, 0]) h

/-- The second expert's. -/
theorem ixB (i : grid0.Coords) : cc0_transform_4 k0_off1_inb numel1_S1 (tbl m) i
    = ![0, (V m (0 : Dev nD) main_arg1 (tix (i 0).val (i 0).isLt) : BitVec 32).toNat, 0, 0] := by
  have h := at_eq 1 (V m (0 : Dev nD) main_arg1) i
  unfold cc0_transform_4
  exact congrArg (fun w : BitVec 32 => ![0, w.toNat, 0, 0]) h

/-- Two points with one first expert have its weights' blocks in common. -/
theorem wa_congr (c : Dev nD) (t t' : Fin (cfgM m hO).N)
    (h : cc0_transform_1 k0_off1_inb numel1_S1 (tbl m) (grid0.coords t) = cc0_transform_1 k0_off1_inb numel1_S1 (tbl m) (grid0.coords t')) :
    wa1 m hO c t = wa1 m hO c t' ∧ wa3 m hO c t = wa3 m hO c t' ∧ wa2 m hO c t = wa2 m hO c t' :=
  ⟨(dats m hO 0 c).fetched_congr (1 : Fin 8) h rfl (wa1 m hO c t), (dats m hO 0 c).fetched_congr (2 : Fin 8) h rfl (wa3 m hO c t),
   (dats m hO 0 c).fetched_congr (3 : Fin 8) h rfl (wa2 m hO c t)⟩

theorem wb_congr (c : Dev nD) (t t' : Fin (cfgM m hO).N)
    (h : cc0_transform_4 k0_off1_inb numel1_S1 (tbl m) (grid0.coords t) = cc0_transform_4 k0_off1_inb numel1_S1 (tbl m) (grid0.coords t')) :
    wb1 m hO c t = wb1 m hO c t' ∧ wb3 m hO c t = wb3 m hO c t' ∧ wb2 m hO c t = wb2 m hO c t' :=
  ⟨(dats m hO 0 c).fetched_congr (4 : Fin 8) h rfl (wb1 m hO c t), (dats m hO 0 c).fetched_congr (5 : Fin 8) h rfl (wb3 m hO c t),
   (dats m hO 0 c).fetched_congr (6 : Fin 8) h rfl (wb2 m hO c t)⟩

/-- A grid point's coordinate is its number. -/
theorem coords_val (t : Fin grid0.N) : (grid0.coords t 0).val = t.val := by
  have : ∀ t : Fin grid0.N, (grid0.coords t 0).val = t.val := by decide +kernel
  exact this t

/-- What the weight buffers hold after point `t` is right: reloaded, or the previous point's and the expert unchanged. -/
theorem good_step (c : Dev nD) (t : Fin (cfgM m hO).N) (x13 x14 : Vec F S1024x512 .bf16) (x15 : Vec F S512x1024 .bf16)
    (x16 x17 : Vec F S1024x512 .bf16) (x18 : Vec F S512x1024 .bf16) (h : Good m hO c t.val x13 x14 x15 x16 x17 x18) :
    keep (isA (wordAt (F := F) (V m c main_v14) (grid0.coords t))) (k0_pay1 (wa1 m hO c t)) x13 = k0_pay1 (wa1 m hO c t)
    ∧ keep (isA (wordAt (F := F) (V m c main_v14) (grid0.coords t))) (k0_pay2 (wa3 m hO c t)) x14 = k0_pay2 (wa3 m hO c t)
    ∧ keep (isA (wordAt (F := F) (V m c main_v14) (grid0.coords t))) (k0_pay3 (wa2 m hO c t)) x15 = k0_pay3 (wa2 m hO c t)
    ∧ keep (isB (wordAt (F := F) (V m c main_v14) (grid0.coords t))) (k0_pay4 (wb1 m hO c t)) x16 = k0_pay4 (wb1 m hO c t)
    ∧ keep (isB (wordAt (F := F) (V m c main_v14) (grid0.coords t))) (k0_pay5 (wb3 m hO c t)) x17 = k0_pay5 (wb3 m hO c t)
    ∧ keep (isB (wordAt (F := F) (V m c main_v14) (grid0.coords t))) (k0_pay6 (wb2 m hO c t)) x18 = k0_pay6 (wb2 m hO c t) := by
  obtain rfl : c = 0 := Subsingleton.elim _ _
  have tN : t.val < grid0.N := t.isLt
  have hA : isA (wordAt (F := F) (V m (0 : Dev nD) main_v14) (grid0.coords t)) = 1#1 ∨
      (x13 = k0_pay1 (wa1 m hO 0 t) ∧ x14 = k0_pay2 (wa3 m hO 0 t) ∧ x15 = k0_pay3 (wa2 m hO 0 t)) := by
    by_cases hf : isA (wordAt (F := F) (V m (0 : Dev nD) main_v14) (grid0.coords t)) = 1#1
    · exact .inl hf
    · obtain ⟨ht, he⟩ := keepA m 0 (grid0.coords t) hf
      have cv := coords_val t
      have ht' : t.val ≠ 0 := fun h0 => ht (cv.trans h0)
      have g := h ⟨t.val - 1, by have := t.isLt; omega⟩ (Nat.sub_add_cancel (Nat.one_le_iff_ne_zero.mpr ht'))
      have hw := wa_congr m hO 0 t ⟨t.val - 1, by have := t.isLt; omega⟩ (by
        rw [ixA, ixA, V_kept m 0 main_arg0 (by decide), he]
        have cv' := coords_val ⟨t.val - 1, by omega⟩
        have e : ∀ (a b : Nat) (ha : a < 90) (hb : b < 90), a = b → tix a ha = tix b hb := fun a b ha hb hab => by subst hab; rfl
        rw [e _ _ _ (grid0.coords ⟨t.val - 1, by omega⟩ 0).isLt (by rw [cv', cv])])
      rw [hw.1, hw.2.1, hw.2.2]
      exact .inr ⟨g.1, g.2.1, g.2.2.1⟩
  have hB : isB (wordAt (F := F) (V m (0 : Dev nD) main_v14) (grid0.coords t)) = 1#1 ∨
      (x16 = k0_pay4 (wb1 m hO 0 t) ∧ x17 = k0_pay5 (wb3 m hO 0 t) ∧ x18 = k0_pay6 (wb2 m hO 0 t)) := by
    by_cases hf : isB (wordAt (F := F) (V m (0 : Dev nD) main_v14) (grid0.coords t)) = 1#1
    · exact .inl hf
    · obtain ⟨ht, he⟩ := keepB m 0 (grid0.coords t) hf
      have cv := coords_val t
      have ht' : t.val ≠ 0 := fun h0 => ht (cv.trans h0)
      have g := h ⟨t.val - 1, by have := t.isLt; omega⟩ (Nat.sub_add_cancel (Nat.one_le_iff_ne_zero.mpr ht'))
      have hw := wb_congr m hO 0 t ⟨t.val - 1, by have := t.isLt; omega⟩ (by
        rw [ixB, ixB, V_kept m 0 main_arg1 (by decide), he]
        have cv' := coords_val ⟨t.val - 1, by omega⟩
        have e : ∀ (a b : Nat) (ha : a < 90) (hb : b < 90), a = b → tix a ha = tix b hb := fun a b ha hb hab => by subst hab; rfl
        rw [e _ _ _ (grid0.coords ⟨t.val - 1, by omega⟩ 0).isLt (by rw [cv', cv])])
      rw [hw.1, hw.2.1, hw.2.2]
      exact .inr ⟨g.2.2.2.1, g.2.2.2.2.1, g.2.2.2.2.2⟩
  have kk : ∀ {α : Type} (b : BitVec 1) (p y : α), b = 1#1 ∨ y = p → keep b p y = p := fun b p y hh => by
    unfold keep; split
    · rfl
    · next hb => exact hh.resolve_left hb
  exact ⟨kk _ _ _ (hA.imp_right And.left), kk _ _ _ (hA.imp_right fun q => q.2.1), kk _ _ _ (hA.imp_right fun q => q.2.2),
    kk _ _ _ (hB.imp_right And.left), kk _ _ _ (hB.imp_right fun q => q.2.1), kk _ _ _ (hB.imp_right fun q => q.2.2)⟩

end Cert.KernelIdeal.Body
end
-- ==== Proof.LoopI.lean ====
module

public import proofs.«01_k».proof.Proof.RunI
public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (hO : Ok m)

/-- The body as the loop runs it at point `t`. -/
abbrev bodyAt (t : Fin (cfgM m hO).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (Memref.whole main_v14) (Memref.isWhole_whole _) (spec0_0.stage ((cfgM m hO).slots t (0 : Fin 8))) (hstage0_0 (((cfgM m hO).slots t (0 : Fin 8)).cast nbuf0_0)) (spec0_1.stage ((cfgM m hO).slots t (1 : Fin 8))) (hstage0_1 (((cfgM m hO).slots t (1 : Fin 8)).cast nbuf0_1)) (spec0_2.stage ((cfgM m hO).slots t (2 : Fin 8))) (hstage0_2 (((cfgM m hO).slots t (2 : Fin 8)).cast nbuf0_2)) (spec0_3.stage ((cfgM m hO).slots t (3 : Fin 8))) (hstage0_3 (((cfgM m hO).slots t (3 : Fin 8)).cast nbuf0_3)) (spec0_4.stage ((cfgM m hO).slots t (4 : Fin 8))) (hstage0_4 (((cfgM m hO).slots t (4 : Fin 8)).cast nbuf0_4)) (spec0_5.stage ((cfgM m hO).slots t (5 : Fin 8))) (hstage0_5 (((cfgM m hO).slots t (5 : Fin 8)).cast nbuf0_5)) (spec0_6.stage ((cfgM m hO).slots t (6 : Fin 8))) (hstage0_6 (((cfgM m hO).slots t (6 : Fin 8)).cast nbuf0_6)) (spec0_7.stage ((cfgM m hO).slots t (7 : Fin 8))) (hstage0_7 (((cfgM m hO).slots t (7 : Fin 8)).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem sound_body (c : Dev nD) (t : Fin (cfgM m hO).N) :
    iprop((dats m hO 0 c).Φ t.castSucc ∗ (dats m hO 0 c).owesAt () t.castSucc
      ∗ (∃ d, owns c (spec0_0.stage ((cfgM m hO).slots t (0 : Fin 8))) fullShare ((dats m hO 0 c).before (0 : Fin 8) t d))
      ∗ (∃ d, owns c (spec0_1.stage ((cfgM m hO).slots t (1 : Fin 8))) fullShare ((dats m hO 0 c).before (1 : Fin 8) t d))
      ∗ (∃ d, owns c (spec0_2.stage ((cfgM m hO).slots t (2 : Fin 8))) fullShare ((dats m hO 0 c).before (2 : Fin 8) t d))
      ∗ (∃ d, owns c (spec0_3.stage ((cfgM m hO).slots t (3 : Fin 8))) fullShare ((dats m hO 0 c).before (3 : Fin 8) t d))
      ∗ (∃ d, owns c (spec0_4.stage ((cfgM m hO).slots t (4 : Fin 8))) fullShare ((dats m hO 0 c).before (4 : Fin 8) t d))
      ∗ (∃ d, owns c (spec0_5.stage ((cfgM m hO).slots t (5 : Fin 8))) fullShare ((dats m hO 0 c).before (5 : Fin 8) t d))
      ∗ (∃ d, owns c (spec0_6.stage ((cfgM m hO).slots t (6 : Fin 8))) fullShare ((dats m hO 0 c).before (6 : Fin 8) t d))
      ∗ (∃ d, owns c (spec0_7.stage ((cfgM m hO).slots t (7 : Fin 8))) fullShare ((dats m hO 0 c).before (7 : Fin 8) t d)))
    ⊢ wp frame (wpE (defs₀ (F := F)) Variants.none c none) Set.univ (bodyAt m hO t) fun _ =>
      iprop((dats m hO 0 c).Φ t.succ ∗ (dats m hO 0 c).owesAt () t.succ
      ∗ owns c (spec0_0.stage ((cfgM m hO).slots t (0 : Fin 8))) fullShare (xblk m hO c t)
      ∗ owns c (spec0_1.stage ((cfgM m hO).slots t (1 : Fin 8))) fullShare (wa1 m hO c t)
      ∗ owns c (spec0_2.stage ((cfgM m hO).slots t (2 : Fin 8))) fullShare (wa3 m hO c t)
      ∗ owns c (spec0_3.stage ((cfgM m hO).slots t (3 : Fin 8))) fullShare (wa2 m hO c t)
      ∗ owns c (spec0_4.stage ((cfgM m hO).slots t (4 : Fin 8))) fullShare (wb1 m hO c t)
      ∗ owns c (spec0_5.stage ((cfgM m hO).slots t (5 : Fin 8))) fullShare (wb3 m hO c t)
      ∗ owns c (spec0_6.stage ((cfgM m hO).slots t (6 : Fin 8))) fullShare (wb2 m hO c t)
      ∗ owns c (spec0_7.stage ((cfgM m hO).slots t (7 : Fin 8))) fullShare (otile m hO c t)) := by
  obtain ⟨b0, b1, b2, b3, b4, b5, b6⟩ := before_in m hO c t
  simp only [b0, b1, b2, b3, b4, b5, b6]
  rw [show (dats m hO 0 c).owesAt () t.succ = (dats m hO 0 c).owesAt () t.castSucc from rfl,
    show (dats m hO 0 c).Φ t.castSucc = PhiS m hO c t.val (Nat.le_of_lt t.isLt) from by
      dsimp only [dats]; exact Pipeline.Dat.Φ_castSucc (PhiS m hO c) t,
    show (dats m hO 0 c).Φ t.succ = PhiS m hO c (t.val + 1) t.isLt from rfl]
  unfold PhiS PhiW
  rw [PhiT_eq]
  iintro ⟨⟨⟨%x13, %x14, %x15, %x16, %x17, %x18, %hg, S0, S1, S2, S3, S4, S5⟩, Hg, T0, T1, T2, T3⟩, Ho, ⟨%d0, H0⟩, ⟨%d1, H1⟩, ⟨%d2, H2⟩, ⟨%d3, H3⟩, ⟨%d4, H4⟩, ⟨%d5, H5⟩, ⟨%d6, H6⟩, H7⟩
  obtain ⟨e13, e14, e15, e16, e17, e18⟩ := good_step m hO c t x13 x14 x15 x16 x17 x18 hg
  iapply (sound_kernel c Set.univ (grid0.coords t) (Memref.whole main_arg0) (Memref.isWhole_whole _) (Memref.whole main_arg1) (Memref.isWhole_whole _) (Memref.whole main_arg2) (Memref.isWhole_whole _) (Memref.whole main_v14) (Memref.isWhole_whole _) (spec0_0.stage ((cfgM m hO).slots t (0 : Fin 8))) (hstage0_0 (((cfgM m hO).slots t (0 : Fin 8)).cast nbuf0_0)) (spec0_1.stage ((cfgM m hO).slots t (1 : Fin 8))) (hstage0_1 (((cfgM m hO).slots t (1 : Fin 8)).cast nbuf0_1)) (spec0_2.stage ((cfgM m hO).slots t (2 : Fin 8))) (hstage0_2 (((cfgM m hO).slots t (2 : Fin 8)).cast nbuf0_2)) (spec0_3.stage ((cfgM m hO).slots t (3 : Fin 8))) (hstage0_3 (((cfgM m hO).slots t (3 : Fin 8)).cast nbuf0_3)) (spec0_4.stage ((cfgM m hO).slots t (4 : Fin 8))) (hstage0_4 (((cfgM m hO).slots t (4 : Fin 8)).cast nbuf0_4)) (spec0_5.stage ((cfgM m hO).slots t (5 : Fin 8))) (hstage0_5 (((cfgM m hO).slots t (5 : Fin 8)).cast nbuf0_5)) (spec0_6.stage ((cfgM m hO).slots t (6 : Fin 8))) (hstage0_6 (((cfgM m hO).slots t (6 : Fin 8)).cast nbuf0_6)) (spec0_7.stage ((cfgM m hO).slots t (7 : Fin 8))) (hstage0_7 (((cfgM m hO).slots t (7 : Fin 8)).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (V m c main_arg2) (V m c main_v14) (xblk m hO c t) (wa1 m hO c t) (wa3 m hO c t) (wa2 m hO c t)
    (wb1 m hO c t) (wb3 m hO c t) (wb2 m hO c t) x13 x14 x15 x16 x17 x18)
  rw [e13, e14, e15, e16, e17, e18]
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · icases H7 with ⟨%d7, H7⟩
    iexists _; iexact H7
  isplitl [S0]; · iexact S0
  isplitl [S1]; · iexact S1
  isplitl [S2]; · iexact S2
  isplitl [S3]; · iexact S3
  isplitl [S4]; · iexact S4
  isplitl [S5]; · iexact S5
  iintro ⟨T2, T3, H0, H1, H2, H3, H4, H5, H6, H7, S0, S1, S2, S3, S4, S5⟩
  isplitl [Hg T0 T1 T2 T3 S0 S1 S2 S3 S4 S5]
  · isplitl [S0 S1 S2 S3 S4 S5]
    · iexists _, _, _, _, _, _
      isplitr
      · ipureintro
        show Good m hO c (t.val + 1) (k0_pay1 (wa1 m hO c t)) (k0_pay2 (wa3 m hO c t)) (k0_pay3 (wa2 m hO c t)) (k0_pay4 (wb1 m hO c t)) (k0_pay5 (wb3 m hO c t)) (k0_pay6 (wb2 m hO c t))
        intro t' ht'
        obtain rfl : t' = t := Fin.ext (Nat.succ.inj ht')
        exact ⟨rfl, rfl, rfl, rfl, rfl, rfl⟩
      isplitl [S0]; · iexact S0
      isplitl [S1]; · iexact S1
      isplitl [S2]; · iexact S2
      isplitl [S3]; · iexact S3
      isplitl [S4]; · iexact S4
      iexact S5
    isplitl [Hg]; · iexact Hg
    isplitl [T0]; · iexact T0
    isplitl [T1]; · iexact T1
    isplitl [T2]; · iexact T2
    iexact T3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The output tile is written at every point: its status word is zero or not. -/
theorem idle7 (t : Fin (cfgM m hO).N) : (cfgM m hO).idle (7 : Fin 8) ((cfgM m hO).grid.coords t) = false := by
  have h : ∀ w : BitVec 32, (!(k0_cond3 w == 1#1) && !(k0_cond4 w == 1#1)) = false := by
    intro w
    by_cases h4 : k0_cond4 w = 1#1
    · rw [h4]; simp
    · rw [cond3_of_not_cond4 w h4]; simp
  exact h _

theorem after7 (c : Dev nD) (t : Fin (cfgM m hO).N) : (dats m hO 0 c).after (7 : Fin 8) t = otile m hO c t := by
  dsimp only [dats]

theorem leaves7 (c : Dev nD) (t : Fin (cfgM m hO).N) :
    (dats m hO 0 c).leavesExact (7 : Fin 8) t
      = owns c (((cfgM m hO).win (7 : Fin 8)).stage ((cfgM m hO).slots t (7 : Fin 8))) fullShare ((dats m hO 0 c).after (7 : Fin 8) t) := by
  unfold Pipeline.Dat.leavesExact
  rw [idle7]

theorem leaves7' (c : Dev nD) (t : Fin (cfgM m hO).N) :
    (dats m hO 0 c).leavesExact (7 : Fin 8) t = owns c (spec0_7.stage ((cfgM m hO).slots t (7 : Fin 8))) fullShare (otile m hO c t) :=
  (leaves7 m hO c t).trans (congrArg (fun X : S256x1024.Idx → Elt F .f32 => (owns c (spec0_7.stage ((cfgM m hO).slots t (7 : Fin 8))) fullShare X : sProp 𝕄)) (after7 m hO c t))

theorem body_obligation (c : Dev nD) : BodyObligation (dats m hO 0 c) defs₀ Variants.none () Set.univ := fun t => by
  rw [bigSep_W0, bigSep_W0]
  have h := sound_body m hO c t
  rw [← leaves7' m hO c t] at h
  exact h

/-- What the launch hands the loop is the invariant before the first point. -/
theorem hin (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  unfold PhiS PhiW Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hg⟩, HT⟩
  isplitl [S0 S1 S2 S3 S4 S5]
  · iexists f0, f1, f2, f3, f4, f5
    isplitr
    · ipureintro
      intro t ht
      exact absurd ht (Nat.succ_ne_zero _)
    rw [owns_whole, owns_whole, owns_whole, owns_whole, owns_whole, owns_whole]
    isplitl [S0]; · iexact S0
    isplitl [S1]; · iexact S1
    isplitl [S2]; · iexact S2
    isplitl [S3]; · iexact S3
    isplitl [S4]; · iexact S4
    iexact S5
  isplitl [Hg]; · iexact Hg
  iexact HT

/-- After the last point it gives the class's invariant back. -/
theorem hout (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl]
  unfold PhiS PhiW Pipeline.ΦA
  rw [scopedRest0_eq]
  simp only [owns_whole]
  iintro ⟨⟨%x13, %x14, %x15, %x16, %x17, %x18, -, S0, S1, S2, S3, S4, S5⟩, Hg, -⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

theorem hostOps0_fresh : (hostOps0 : List (HloOp τ sig (Elt F))).Forall fun op => op.fresh = ∅ := by
  simp only [List.Forall]; repeat' constructor

theorem hmain (𝒱 : Variants) : Pipeline.HMainP (Ix := Unit) (Name := ℕ) (U := UR sig nD τ) (Lvl := ℕ) pcfgs (0 : Fin 1) (defs₀ (F := F)) 𝒱 m main (V m) :=
  Pipeline.hmainP_prefix pcfgs (0 : Fin 1) defs₀ 𝒱 m main hostOps0 hostOps0_sub hostOps0_fresh main_chain

set_option backward.isDefEq.respectTransparency.types false in
/-- THE RUN: from any launch memory whose tables name existing experts the program terminates without a fault, the output
    array written tile by tile by `otile`, every other array and table unchanged, the semaphores at zero. -/
theorem run (ρ : Dev nD → PrngReg) :
    θ_run (defs (F := F)) (onTc (τ := τ) (Val := Elt F) main) ⟨m, fun _ => 0, ρ⟩ (fun r => Pipeline.FramePost (Pipeline.pin pcfgs (fun _ => adm m hO)) (dats m hO) (0 : Fin 1) (V m) r ∧ r.2.sem = fun _ => 0) :=
  Pipeline.θ_run_frameP_track_shared pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)
    (Q' := fun r => Pipeline.FramePost (Pipeline.pin pcfgs (fun _ => adm m hO)) (dats m hO) (0 : Fin 1) (V m) r ∧ r.2.sem = fun _ => 0)
    (hQ' := fun _ h => h)

end Cert.KernelIdeal.Body
end
-- ==== Proof.FrameI.lean ====
module

public import proofs.«01_k».proof.Proof.LoopI
public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem ixA2 (i : grid0.Coords) : cc0_transform_2 k0_off1_inb numel1_S1 (tbl m) i
    = ![0, (V m (0 : Dev nD) main_arg0 (tix (i 0).val (i 0).isLt) : BitVec 32).toNat, 0, 0] := by
  have h := at_eq 0 (V m (0 : Dev nD) main_arg0) i
  unfold cc0_transform_2
  exact congrArg (fun w : BitVec 32 => ![0, w.toNat, 0, 0]) h

theorem ixA3 (i : grid0.Coords) : cc0_transform_3 k0_off1_inb numel1_S1 (tbl m) i
    = ![0, (V m (0 : Dev nD) main_arg0 (tix (i 0).val (i 0).isLt) : BitVec 32).toNat, 0, 0] := by
  have h := at_eq 0 (V m (0 : Dev nD) main_arg0) i
  unfold cc0_transform_3
  exact congrArg (fun w : BitVec 32 => ![0, w.toNat, 0, 0]) h

theorem ixB5 (i : grid0.Coords) : cc0_transform_5 k0_off1_inb numel1_S1 (tbl m) i
    = ![0, (V m (0 : Dev nD) main_arg1 (tix (i 0).val (i 0).isLt) : BitVec 32).toNat, 0, 0] := by
  have h := at_eq 1 (V m (0 : Dev nD) main_arg1) i
  unfold cc0_transform_5
  exact congrArg (fun w : BitVec 32 => ![0, w.toNat, 0, 0]) h

theorem ixB6 (i : grid0.Coords) : cc0_transform_6 k0_off1_inb numel1_S1 (tbl m) i
    = ![0, (V m (0 : Dev nD) main_arg1 (tix (i 0).val (i 0).isLt) : BitVec 32).toNat, 0, 0] := by
  have h := at_eq 1 (V m (0 : Dev nD) main_arg1) i
  unfold cc0_transform_6
  exact congrArg (fun w : BitVec 32 => ![0, w.toNat, 0, 0]) h

/-- A number below 16 names a block of the first weights, and of the last. -/
theorem blk_in (n : Nat) (hn : n < 16) (a : Fin 4) : ((![0, n, 0, 0] : Fin 4 → Nat) a + 1) * S1x1x1024x512.size a ≤ S4x16x1024x512.size a := by
  fin_cases a
  · show (0 + 1) * 1 ≤ 4; omega
  · show (n + 1) * 1 ≤ 16; omega
  · show (0 + 1) * 1024 ≤ 1024; omega
  · show (0 + 1) * 512 ≤ 512; omega

theorem blk_in' (n : Nat) (hn : n < 16) (a : Fin 4) : ((![0, n, 0, 0] : Fin 4 → Nat) a + 1) * S1x1x512x1024.size a ≤ S4x16x512x1024.size a := by
  fin_cases a
  · show (0 + 1) * 1 ≤ 4; omega
  · show (n + 1) * 1 ≤ 16; omega
  · show (0 + 1) * 512 ≤ 512; omega
  · show (0 + 1) * 1024 ≤ 1024; omega

/-- Weight blocks named by words below 16 lie inside the weights. -/
theorem ok_of_words (h0 : ∀ j, (m (((0 : Dev nD).tc : Thread nD τ).loc main_arg0) j : BitVec 32).toNat < 16)
    (h1 : ∀ j, (m (((0 : Dev nD).tc : Thread nD τ).loc main_arg1) j : BitVec 32).toNat < 16) : Ok m := by
  have hk0 : V m (0 : Dev nD) main_arg0 = m (((0 : Dev nD).tc : Thread nD τ).loc main_arg0) := V_kept m 0 main_arg0 (by decide)
  have hk1 : V m (0 : Dev nD) main_arg1 = m (((0 : Dev nD).tc : Thread nD τ).loc main_arg1) := V_kept m 0 main_arg1 (by decide)
  have hA : ∀ i : grid0.Coords, (V m (0 : Dev nD) main_arg0 (tix (i 0).val (i 0).isLt) : BitVec 32).toNat < 16 := fun i => by rw [hk0]; exact h0 _
  have hB : ∀ i : grid0.Coords, (V m (0 : Dev nD) main_arg1 (tix (i 0).val (i 0).isLt) : BitVec 32).toNat < 16 := fun i => by rw [hk1]; exact h1 _
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · rw [ixA]; exact blk_in _ (hA i) a
  · rw [ixA2]; exact blk_in _ (hA i) a
  · rw [ixA3]; exact blk_in' _ (hA i) a
  · rw [ixB]; exact blk_in _ (hB i) a
  · rw [ixB5]; exact blk_in _ (hB i) a
  · rw [ixB6]; exact blk_in' _ (hB i) a

/-- The run read off array by array: the output's tiles, every argument unchanged, the semaphores at zero. -/
theorem run_reads (hO : Ok m) (ρ : Dev nD → PrngReg) :
    θ_run (defs (F := F)) (onTc (τ := τ) (Val := Elt F) main) ⟨m, fun _ => 0, ρ⟩ (fun r => (∀ c : Dev nD,
      r.2.mem ((c.tc : Thread nD τ).loc main_v15) = (dats m hO 0 c).arrAt (7 : Fin 8) (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run _ _ _).mono (fun r h => ⟨fun c => ?_, h.2⟩) (run m hO ρ)
  obtain ⟨hw, hr⟩ := h.1 c
  refine ⟨hw (7 : Fin 8), ?_, ?_, ?_, ?_, ?_, ?_, ?_⟩
  · exact (hr main_arg0 (Pipeline.mem_restRefs_of main_arg0 rfl (by decide : ∀ w, (spec0 w).arr.view.ref ≠ main_arg0))).trans (V_kept m c _ (by decide))
  · exact (hr main_arg1 (Pipeline.mem_restRefs_of main_arg1 rfl (by decide : ∀ w, (spec0 w).arr.view.ref ≠ main_arg1))).trans (V_kept m c _ (by decide))
  · exact (hr main_arg2 (Pipeline.mem_restRefs_of main_arg2 rfl (by decide : ∀ w, (spec0 w).arr.view.ref ≠ main_arg2))).trans (V_kept m c _ (by decide))
  · exact (hw (0 : Fin 8)).trans (((dats m hO 0 c).arrAt_in (0 : Fin 8) rfl _).trans (V_kept m c main_arg3 (by decide)))
  · exact (hw (1 : Fin 8)).trans (((dats m hO 0 c).arrAt_in (1 : Fin 8) rfl _).trans (V_kept m c main_arg4 (by decide)))
  · exact (hw (2 : Fin 8)).trans (((dats m hO 0 c).arrAt_in (2 : Fin 8) rfl _).trans (V_kept m c main_arg5 (by decide)))
  · exact (hw (3 : Fin 8)).trans (((dats m hO 0 c).arrAt_in (3 : Fin 8) rfl _).trans (V_kept m c main_arg6 (by decide)))

end Cert.KernelIdeal.Body
end
-- ==== Proof.Expert.lean ====
module

public import Idealize.ShloMosaic.Lib.Pointwise

@[expose] public section

set_option maxRecDepth 16384

noncomputable section

namespace Cert.Experts

open Idealize.ShloMosaic

/-- The gated linear unit's own function: a number times its logistic. -/
def silu (a : EReal) : EReal := a * Ideal.div 1 (1 + Ideal.exp (-a))

/-- One hidden unit of an expert on a row `x`. -/
def hid (x : Fin 1024 → EReal) (w1 w3 : Fin 1024 → Fin 512 → EReal) (k : Fin 512) : EReal :=
  silu (∑ i, x i * w1 i k) * ∑ i, x i * w3 i k

/-- One entry of an expert's result on the row `x`. -/
def expert (x : Fin 1024 → EReal) (w1 w3 : Fin 1024 → Fin 512 → EReal) (w2 : Fin 512 → Fin 1024 → EReal) (j : Fin 1024) : EReal :=
  ∑ k, hid x w1 w3 k * w2 k j

/-- A finite gate, not negative, goes in or out of a sum. -/
theorem gate_sum (g : EReal) (h0 : 0 ≤ g) (ht : g ≠ ⊤) {n : Nat} (h w : Fin n → EReal) :
    ∑ k, (g * h k) * w k = g * ∑ k, h k * w k := by
  have e : ∀ s : Finset (Fin n), ∑ k ∈ s, (g * h k) * w k = g * ∑ k ∈ s, h k * w k := by
    intro s
    induction s using Finset.induction_on with
    | empty => simp
    | insert a s ha ih => rw [Finset.sum_insert ha, Finset.sum_insert ha, ih, EReal.left_distrib_of_nonneg_of_ne_top h0 ht, mul_assoc]
  exact e _

/-- A sum over all experts of gates that are zero but at one is that one's term. -/
theorem one_expert (b : Prop) [Decidable b] (a : Fin 16) (g : EReal) (d : Fin 16 → EReal) :
    ∑ e : Fin 16, (if b ∧ e = a then g else 0) * d e = if b then g * d a else 0 := by
  by_cases hb : b
  · rw [if_pos hb, Finset.sum_eq_single a]
    · rw [if_pos ⟨hb, rfl⟩]
    · intro e _ he; rw [if_neg (fun h => he h.2), zero_mul]
    · intro h; exact absurd (Finset.mem_univ _) h
  · rw [if_neg hb]
    exact Finset.sum_eq_zero fun e _ => by rw [if_neg (fun h => hb h.1), zero_mul]

/-- The sum over all experts with both gates is the two chosen experts' terms. -/
theorem two_experts (b : Prop) [Decidable b] (p q : Fin 16) (g h : EReal) (hg : 0 ≤ g) (hh : 0 ≤ h) (d : Fin 16 → EReal) :
    ∑ e : Fin 16, ((if b ∧ e = p then g else 0) + (if b ∧ e = q then h else 0)) * d e = if b then g * d p + h * d q else 0 := by
  have e : ∀ e : Fin 16, ((if b ∧ e = p then g else 0) + (if b ∧ e = q then h else 0)) * d e
      = (if b ∧ e = p then g else 0) * d e + (if b ∧ e = q then h else 0) * d e := fun e =>
    EReal.right_distrib_of_nonneg (by split <;> [exact hg; exact le_rfl]) (by split <;> [exact hh; exact le_rfl])
  rw [Finset.sum_congr rfl fun x _ => e x, Finset.sum_add_distrib, one_expert, one_expert]
  by_cases hb : b
  · simp only [if_pos hb]
  · simp only [if_neg hb, add_zero]

/-- Sixteen terms added one after another from zero are their sum. -/
theorem sum16 (f : Fin 16 → EReal) : ∑ e, f e
    = 0 + f 0 + f 1 + f 2 + f 3 + f 4 + f 5 + f 6 + f 7 + f 8 + f 9 + f 10 + f 11 + f 12 + f 13 + f 14 + f 15 := by
  simp only [Fin.sum_univ_castSucc, Finset.univ_eq_empty, Finset.sum_empty]
  rfl

/-- A choice on two words being equal. -/
theorem sel_eq {α : Type} (s w : BitVec 32) (x y : α) : Scalar.select (IntOp.cmpi CmpIPredicate.eq s w) x y = if s = w then x else y := by
  by_cases h : s = w
  · subst h; rw [if_pos rfl]
    have hc : IntOp.cmpi CmpIPredicate.eq s s = 1#1 := by
      show BitVec.ofBool (s == s) = 1#1
      rw [beq_self_eq_true]; rfl
    rw [hc]; rfl
  · rw [if_neg h]
    have hc : IntOp.cmpi CmpIPredicate.eq s w = 0#1 := by
      show BitVec.ofBool (s == w) = 0#1
      rw [show (s == w) = false from beq_false_of_ne h]; rfl
    rw [hc]; rfl

/-- A choice on a status not being zero and two words being equal. -/
theorem sel_ne_eq {α : Type} (t s w : BitVec 32) (x y : α) :
    Scalar.select (IntOp.andi (IntOp.cmpi CmpIPredicate.ne t 0#32) (IntOp.cmpi CmpIPredicate.eq s w)) x y = if t ≠ 0#32 ∧ s = w then x else y := by
  by_cases ht : t = 0#32
  · subst ht; rw [if_neg (fun h => h.1 rfl)]
    have hc : IntOp.andi (IntOp.cmpi CmpIPredicate.ne (0#32) 0#32) (IntOp.cmpi CmpIPredicate.eq s w) = 0#1 := BitVec.zero_and
    rw [hc]; rfl
  · have hn : IntOp.cmpi CmpIPredicate.ne t 0#32 = 1#1 := by
      show BitVec.ofBool (t != 0#32) = 1#1
      rw [show (t != 0#32) = true from bne_iff_ne.mpr ht]; rfl
    have h1 : ∀ b : BitVec 1, IntOp.andi 1#1 b = b := by decide
    rw [hn, h1, sel_eq]
    simp only [ht, ne_eq, not_false_eq_true, true_and]

/-- The tile a row lies in. -/
def tileOf (r : Fin 23040) : Fin 90 := ⟨r.val / 256, by omega⟩

/-- The expert a word names. -/
def expertOf (w : BitVec 32) : Fin 16 := ⟨w.toNat % 16, Nat.mod_lt _ (by decide)⟩

theorem word_val (w : BitVec 32) (h : w.toNat < 16) : w.toNat = (expertOf w).val := (Nat.mod_eq_of_lt h).symm

/-- A word below 16 is an expert's number exactly when it names that expert. -/
theorem word_eq (w : BitVec 32) (h : w.toNat < 16) (e : Fin 16) : BitVec.ofNat 32 e.val = w ↔ e = expertOf w := by
  have he : e.val < 16 := e.isLt
  have hw := word_val w h
  constructor
  · intro q; apply Fin.ext; rw [← hw, ← q, BitVec.toNat_ofNat]; omega
  · intro q; apply BitVec.eq_of_toNat_eq; rw [hw, ← q, BitVec.toNat_ofNat]; omega

/-- The gate of a row's first expert (`b = false`) or second: the two stored gates, exchanged where the status is two. -/
def gate (x2 : (⟨1, ![90]⟩ : Shape).Idx → BitVec 32) (x3 : (⟨2, ![23040, 1152]⟩ : Shape).Idx → EReal) (b : Bool) (r : Fin 23040) : EReal :=
  if x2 (ix1 (tileOf r)) = 2#32 then x3 (ix2 r (if b then 1046 else 1047)) else x3 (ix2 r (if b then 1047 else 1046))

/-- Expert `e`'s result on row `r`. -/
def result (x3 : (⟨2, ![23040, 1152]⟩ : Shape).Idx → EReal) (x4 x5 : (⟨4, ![4, 16, 1024, 512]⟩ : Shape).Idx → EReal) (x6 : (⟨4, ![4, 16, 512, 1024]⟩ : Shape).Idx → EReal)
    (r : Fin 23040) (j : Fin 1024) (e : Fin 16) : EReal :=
  expert (fun i => x3 (ix2 r ⟨i.val, by omega⟩)) (fun i k => x4 (ix4 0 e i k)) (fun i k => x5 (ix4 0 e i k)) (fun k j => x6 (ix4 0 e k j)) j

/-- The layer's experts on row `r`: the two experts the row's tile names, each with its gate; nothing where the status is zero. -/
def total (x0 x1 x2 : (⟨1, ![90]⟩ : Shape).Idx → BitVec 32) (x3 : (⟨2, ![23040, 1152]⟩ : Shape).Idx → EReal)
    (x4 x5 : (⟨4, ![4, 16, 1024, 512]⟩ : Shape).Idx → EReal) (x6 : (⟨4, ![4, 16, 512, 1024]⟩ : Shape).Idx → EReal) (r : Fin 23040) (j : Fin 1024) : EReal :=
  if x2 (ix1 (tileOf r)) ≠ 0#32 then
    gate x2 x3 false r * result x3 x4 x5 x6 r j (expertOf (x0 (ix1 (tileOf r)))) + gate x2 x3 true r * result x3 x4 x5 x6 r j (expertOf (x1 (ix1 (tileOf r))))
  else 0

end Cert.Experts
end
-- ==== Proof.PureI.lean ====
module

public import proofs.«01_k».proof.Proof.BodyI
public import proofs.«01_k».proof.Proof.Expert
public import proofs.«01_k».proof.Proof.Gen.KernelIdeal.Skeleton
public import proofs.«01_k».proof.Proof.Gen.KernelIdeal.Launch
public import Idealize.ShloMosaic.Lib.Tactic
public import Idealize.ShloMosaic.Lib.Pointwise
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A choice on a word being two. -/
theorem sel_two {α : Type} (s : BitVec 32) (x y : α) : Scalar.select (Scalar.cmpi CmpIPredicate.eq s 2#32) x y = if s = 2#32 then x else y := by
  by_cases h : s = 2#32
  · subst h; rfl
  · rw [if_neg h]
    have hc : Scalar.cmpi CmpIPredicate.eq s 2#32 = 0#1 := by
      show BitVec.ofBool (s == 2#32) = 0#1
      rw [show (s == 2#32) = false from beq_false_of_ne h]; rfl
    rw [hc]; rfl

theorem zero_minus (a : EReal) : 0 - a = -a := by rw [sub_eq_add_neg, zero_add]

/-- A weight block kept in scratch, entry by entry. -/
theorem pay1_at (x : FVec Ideal S1x1x1024x512 .f32) (i : Fin 1024) (k : Fin 512) : k0_pay1 (F := Ideal) x (ix2 i k) = x (ix4 0 0 i k) := by
  pointwise [k0_pay1]
theorem pay2_at (x : FVec Ideal S1x1x1024x512 .f32) (i : Fin 1024) (k : Fin 512) : k0_pay2 (F := Ideal) x (ix2 i k) = x (ix4 0 0 i k) := by
  pointwise [k0_pay2]
theorem pay3_at (x : FVec Ideal S1x1x512x1024 .f32) (k : Fin 512) (j : Fin 1024) : k0_pay3 (F := Ideal) x (ix2 k j) = x (ix4 0 0 k j) := by
  pointwise [k0_pay3]
theorem pay4_at (x : FVec Ideal S1x1x1024x512 .f32) (i : Fin 1024) (k : Fin 512) : k0_pay4 (F := Ideal) x (ix2 i k) = x (ix4 0 0 i k) := by
  pointwise [k0_pay4]
theorem pay5_at (x : FVec Ideal S1x1x1024x512 .f32) (i : Fin 1024) (k : Fin 512) : k0_pay5 (F := Ideal) x (ix2 i k) = x (ix4 0 0 i k) := by
  pointwise [k0_pay5]
theorem pay6_at (x : FVec Ideal S1x1x512x1024 .f32) (k : Fin 512) (j : Fin 1024) : k0_pay6 (F := Ideal) x (ix2 k j) = x (ix4 0 0 k j) := by
  pointwise [k0_pay6]

/-- Whether a tile is worked on: its status is not zero. -/
theorem cond4_iff (s : BitVec 32) : k0_cond4 s = 1#1 ↔ s ≠ 0#32 := by
  constructor
  · intro h e; subst e; exact absurd h (by decide)
  · intro h
    have hc : IntOp.cmpi CmpIPredicate.ne s 0#32 = 1#1 := by
      show BitVec.ofBool (s != 0#32) = 1#1
      rw [show (s != 0#32) = true from bne_iff_ne.mpr h]; rfl
    show IntOp.cmpi .ne (BitVec.setWidth 32 (IntOp.cmpi .ne s 0#32)) 0#32 = 1#1
    rw [hc]; decide

/-- The tile of an empty point. -/
theorem tile_empty (X : FVec Ideal S256x1152 .f32) (a1 a3 : FVec Ideal S1024x512 .bf16) (a2 : FVec Ideal S512x1024 .bf16)
    (b1 b3 : FVec Ideal S1024x512 .bf16) (b2 : FVec Ideal S512x1024 .bf16) (y : S256x1024.Idx) :
    outv (F := Ideal) 0#32 X a1 a3 a2 b1 b3 b2 y = 0 := by
  unfold outv
  rw [if_neg (by decide)]
  pointwise [k0_pay7]

/-- The tile of a point that is not empty, entry by entry: the two experts' results with the gates inside. -/
theorem tile_full (s : BitVec 32) (hs : k0_cond4 s = 1#1) (X : FVec Ideal S256x1152 .f32) (a1 a3 : FVec Ideal S1024x512 .bf16) (a2 : FVec Ideal S512x1024 .bf16)
    (b1 b3 : FVec Ideal S1024x512 .bf16) (b2 : FVec Ideal S512x1024 .bf16) (p : Fin 256) (j : Fin 1024) :
    outv (F := Ideal) s X a1 a3 a2 b1 b3 b2 (ix2 p j)
      = (∑ k : Fin 512, ((if s = 2#32 then X (ix2 p 1047) else X (ix2 p 1046))
            * Cert.Experts.hid (fun i => X (ix2 p ⟨i.val, by omega⟩)) (fun i k => a1 (ix2 i k)) (fun i k => a3 (ix2 i k)) k) * a2 (ix2 k j))
        + ∑ k : Fin 512, ((if s = 2#32 then X (ix2 p 1046) else X (ix2 p 1047))
            * Cert.Experts.hid (fun i => X (ix2 p ⟨i.val, by omega⟩)) (fun i k => b1 (ix2 i k)) (fun i k => b3 (ix2 i k)) k) * b2 (ix2 k j) := by
  unfold outv
  rw [if_pos hs]
  pointwise [k0_pay8, k0_pay9, k0_pay10, k0_pay11, k0_pay12, k0_pay13, Cert.Experts.hid, Cert.Experts.silu]
  simp only [sel_two, zero_minus]

/-- The same over the whole arrays: the tile's rows and weight blocks are rows and blocks of them. -/
theorem tile_total (s : BitVec 32) (hs : s ≠ 0#32) (X : FVec Ideal S256x1152 .f32) (a1 a3 : FVec Ideal S1024x512 .bf16) (a2 : FVec Ideal S512x1024 .bf16)
    (b1 b3 : FVec Ideal S1024x512 .bf16) (b2 : FVec Ideal S512x1024 .bf16) (p : Fin 256) (j : Fin 1024)
    (x3 : S23040x1152.Idx → EReal) (x4 x5 : S4x16x1024x512.Idx → EReal) (x6 : S4x16x512x1024.Idx → EReal) (r : Fin 23040) (eA eB : Fin 16)
    (hX : ∀ l, X (ix2 p l) = x3 (ix2 r l))
    (ha1 : ∀ i k, a1 (ix2 i k) = x4 (ix4 0 eA i k)) (ha3 : ∀ i k, a3 (ix2 i k) = x5 (ix4 0 eA i k)) (ha2 : ∀ k j, a2 (ix2 k j) = x6 (ix4 0 eA k j))
    (hb1 : ∀ i k, b1 (ix2 i k) = x4 (ix4 0 eB i k)) (hb3 : ∀ i k, b3 (ix2 i k) = x5 (ix4 0 eB i k)) (hb2 : ∀ k j, b2 (ix2 k j) = x6 (ix4 0 eB k j))
    (hlo : 0 ≤ x3 (ix2 r 1046) ∧ x3 (ix2 r 1046) ≠ ⊤) (hhi : 0 ≤ x3 (ix2 r 1047) ∧ x3 (ix2 r 1047) ≠ ⊤) :
    outv (F := Ideal) s X a1 a3 a2 b1 b3 b2 (ix2 p j)
      = (if s = 2#32 then x3 (ix2 r 1047) else x3 (ix2 r 1046)) * Cert.Experts.result x3 x4 x5 x6 r j eA
        + (if s = 2#32 then x3 (ix2 r 1046) else x3 (ix2 r 1047)) * Cert.Experts.result x3 x4 x5 x6 r j eB := by
  have hA : 0 ≤ (if s = 2#32 then x3 (ix2 r 1047) else x3 (ix2 r 1046)) ∧ (if s = 2#32 then x3 (ix2 r 1047) else x3 (ix2 r 1046)) ≠ ⊤ := by
    split <;> assumption
  have hB : 0 ≤ (if s = 2#32 then x3 (ix2 r 1046) else x3 (ix2 r 1047)) ∧ (if s = 2#32 then x3 (ix2 r 1046) else x3 (ix2 r 1047)) ≠ ⊤ := by
    split <;> assumption
  rw [tile_full s ((cond4_iff s).2 hs)]
  simp only [hX, ha1, ha3, ha2, hb1, hb3, hb2]
  rw [Cert.Experts.gate_sum _ hA.1 hA.2, Cert.Experts.gate_sum _ hB.1 hB.2]
  rfl

end Cert.KernelIdeal.Body
end
-- ==== Proof.ValueI.lean ====
module

public import proofs.«01_k».proof.Proof.FrameI
public import proofs.«01_k».proof.Proof.PureI
public import proofs.«01_k».proof.Proof.Gen.KernelIdeal.Skeleton
public import proofs.«01_k».proof.Proof.Gen.KernelIdeal.Launch
public import Idealize.ShloMosaic.Lib.Tactic
public import Idealize.ShloMosaic.Lib.Pointwise
public import Idealize.ShloMosaic.Lib.Pipeline.FrameBody
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (hO : Ok m)

/-- The row of the whole array that row `p` of tile `t` is. -/
abbrev row (t : Fin grid0.N) (p : Fin 256) : Fin 23040 := ⟨t.val * 256 + p.val, by
  have h : t.val < 90 := t.isLt
  have := p.isLt; omega⟩

/-- The tokens' tile, entry by entry. -/
theorem xblk_at (c : Dev nD) (t : Fin grid0.N) (p : Fin 256) (l : Fin 1152) :
    xblk m hO c t (ix2 p l) = V m c main_arg3 (ix2 (row t p) l) := by
  unfold xblk iblk
  rw [View.read_apply]
  refine congrArg (V m c main_arg3) (funext fun a => Fin.ext ?_)
  have hc : (grid0.coords t 0).val = t.val := coords_val t
  have ht : t.val < 90 := t.isLt
  have e : (BitVec.ofNat 32 (grid0.coords t 0).val).toNat = t.val := by rw [hc, BitVec.toNat_ofNat]; omega
  fin_cases a
  · show (BitVec.ofNat 32 (grid0.coords t 0).val).toNat * 256 + 1 * p.val = t.val * 256 + p.val
    rw [e]; omega
  · show 0 * 1152 + 1 * l.val = l.val
    omega

/-- A weight block, entry by entry: the expert the table names. -/
theorem wa1_at (c : Dev nD) (t : Fin grid0.N) (e : Fin 16) (he : (V m (0 : Dev nD) main_arg0 (tix (grid0.coords t 0).val (grid0.coords t 0).isLt) : BitVec 32).toNat = e.val)
    (i : Fin 1024) (k : Fin 512) : wa1 m hO c t (ix4 0 0 i k) = V m c main_arg4 (ix4 0 e i k) := by
  unfold wa1 iblk
  rw [View.read_apply]
  refine congrArg (V m c main_arg4) (funext fun a => Fin.ext ?_)
  have hx : cc0_transform_1 k0_off1_inb numel1_S1 (tbl m) (grid0.coords t) = ![0, e.val, 0, 0] := by rw [ixA, he]
  fin_cases a
  · show cc0_transform_1 k0_off1_inb numel1_S1 (tbl m) (grid0.coords t) 0 * 1 + 1 * 0 = 0
    rw [hx]; rfl
  · show cc0_transform_1 k0_off1_inb numel1_S1 (tbl m) (grid0.coords t) 1 * 1 + 1 * 0 = e.val
    rw [hx]; show e.val * 1 + 1 * 0 = e.val; omega
  · show cc0_transform_1 k0_off1_inb numel1_S1 (tbl m) (grid0.coords t) 2 * 1024 + 1 * i.val = i.val
    rw [hx]; show 0 * 1024 + 1 * i.val = i.val; omega
  · show cc0_transform_1 k0_off1_inb numel1_S1 (tbl m) (grid0.coords t) 3 * 512 + 1 * k.val = k.val
    rw [hx]; show 0 * 512 + 1 * k.val = k.val; omega

/-- A weight block, entry by entry: the expert the table names. -/
theorem wa3_at (c : Dev nD) (t : Fin grid0.N) (e : Fin 16) (he : (V m (0 : Dev nD) main_arg0 (tix (grid0.coords t 0).val (grid0.coords t 0).isLt) : BitVec 32).toNat = e.val)
    (i : Fin 1024) (k : Fin 512) : wa3 m hO c t (ix4 0 0 i k) = V m c main_arg5 (ix4 0 e i k) := by
  unfold wa3 iblk
  rw [View.read_apply]
  refine congrArg (V m c main_arg5) (funext fun a => Fin.ext ?_)
  have hx : cc0_transform_2 k0_off1_inb numel1_S1 (tbl m) (grid0.coords t) = ![0, e.val, 0, 0] := by rw [ixA2, he]
  fin_cases a
  · show cc0_transform_2 k0_off1_inb numel1_S1 (tbl m) (grid0.coords t) 0 * 1 + 1 * 0 = 0
    rw [hx]; rfl
  · show cc0_transform_2 k0_off1_inb numel1_S1 (tbl m) (grid0.coords t) 1 * 1 + 1 * 0 = e.val
    rw [hx]; show e.val * 1 + 1 * 0 = e.val; omega
  · show cc0_transform_2 k0_off1_inb numel1_S1 (tbl m) (grid0.coords t) 2 * 1024 + 1 * i.val = i.val
    rw [hx]; show 0 * 1024 + 1 * i.val = i.val; omega
  · show cc0_transform_2 k0_off1_inb numel1_S1 (tbl m) (grid0.coords t) 3 * 512 + 1 * k.val = k.val
    rw [hx]; show 0 * 512 + 1 * k.val = k.val; omega

/-- A weight block, entry by entry: the expert the table names. -/
theorem wa2_at (c : Dev nD) (t : Fin grid0.N) (e : Fin 16) (he : (V m (0 : Dev nD) main_arg0 (tix (grid0.coords t 0).val (grid0.coords t 0).isLt) : BitVec 32).toNat = e.val)
    (i : Fin 512) (k : Fin 1024) : wa2 m hO c t (ix4 0 0 i k) = V m c main_arg6 (ix4 0 e i k) := by
  unfold wa2 iblk
  rw [View.read_apply]
  refine congrArg (V m c main_arg6) (funext fun a => Fin.ext ?_)
  have hx : cc0_transform_3 k0_off1_inb numel1_S1 (tbl m) (grid0.coords t) = ![0, e.val, 0, 0] := by rw [ixA3, he]
  fin_cases a
  · show cc0_transform_3 k0_off1_inb numel1_S1 (tbl m) (grid0.coords t) 0 * 1 + 1 * 0 = 0
    rw [hx]; rfl
  · show cc0_transform_3 k0_off1_inb numel1_S1 (tbl m) (grid0.coords t) 1 * 1 + 1 * 0 = e.val
    rw [hx]; show e.val * 1 + 1 * 0 = e.val; omega
  · show cc0_transform_3 k0_off1_inb numel1_S1 (tbl m) (grid0.coords t) 2 * 512 + 1 * i.val = i.val
    rw [hx]; show 0 * 512 + 1 * i.val = i.val; omega
  · show cc0_transform_3 k0_off1_inb numel1_S1 (tbl m) (grid0.coords t) 3 * 1024 + 1 * k.val = k.val
    rw [hx]; show 0 * 1024 + 1 * k.val = k.val; omega

/-- A weight block, entry by entry: the expert the table names. -/
theorem wb1_at (c : Dev nD) (t : Fin grid0.N) (e : Fin 16) (he : (V m (0 : Dev nD) main_arg1 (tix (grid0.coords t 0).val (grid0.coords t 0).isLt) : BitVec 32).toNat = e.val)
    (i : Fin 1024) (k : Fin 512) : wb1 m hO c t (ix4 0 0 i k) = V m c main_arg4 (ix4 0 e i k) := by
  unfold wb1 iblk
  rw [View.read_apply]
  refine congrArg (V m c main_arg4) (funext fun a => Fin.ext ?_)
  have hx : cc0_transform_4 k0_off1_inb numel1_S1 (tbl m) (grid0.coords t) = ![0, e.val, 0, 0] := by rw [ixB, he]
  fin_cases a
  · show cc0_transform_4 k0_off1_inb numel1_S1 (tbl m) (grid0.coords t) 0 * 1 + 1 * 0 = 0
    rw [hx]; rfl
  · show cc0_transform_4 k0_off1_inb numel1_S1 (tbl m) (grid0.coords t) 1 * 1 + 1 * 0 = e.val
    rw [hx]; show e.val * 1 + 1 * 0 = e.val; omega
  · show cc0_transform_4 k0_off1_inb numel1_S1 (tbl m) (grid0.coords t) 2 * 1024 + 1 * i.val = i.val
    rw [hx]; show 0 * 1024 + 1 * i.val = i.val; omega
  · show cc0_transform_4 k0_off1_inb numel1_S1 (tbl m) (grid0.coords t) 3 * 512 + 1 * k.val = k.val
    rw [hx]; show 0 * 512 + 1 * k.val = k.val; omega

/-- A weight block, entry by entry: the expert the table names. -/
theorem wb3_at (c : Dev nD) (t : Fin grid0.N) (e : Fin 16) (he : (V m (0 : Dev nD) main_arg1 (tix (grid0.coords t 0).val (grid0.coords t 0).isLt) : BitVec 32).toNat = e.val)
    (i : Fin 1024) (k : Fin 512) : wb3 m hO c t (ix4 0 0 i k) = V m c main_arg5 (ix4 0 e i k) := by
  unfold wb3 iblk
  rw [View.read_apply]
  refine congrArg (V m c main_arg5) (funext fun a => Fin.ext ?_)
  have hx : cc0_transform_5 k0_off1_inb numel1_S1 (tbl m) (grid0.coords t) = ![0, e.val, 0, 0] := by rw [ixB5, he]
  fin_cases a
  · show cc0_transform_5 k0_off1_inb numel1_S1 (tbl m) (grid0.coords t) 0 * 1 + 1 * 0 = 0
    rw [hx]; rfl
  · show cc0_transform_5 k0_off1_inb numel1_S1 (tbl m) (grid0.coords t) 1 * 1 + 1 * 0 = e.val
    rw [hx]; show e.val * 1 + 1 * 0 = e.val; omega
  · show cc0_transform_5 k0_off1_inb numel1_S1 (tbl m) (grid0.coords t) 2 * 1024 + 1 * i.val = i.val
    rw [hx]; show 0 * 1024 + 1 * i.val = i.val; omega
  · show cc0_transform_5 k0_off1_inb numel1_S1 (tbl m) (grid0.coords t) 3 * 512 + 1 * k.val = k.val
    rw [hx]; show 0 * 512 + 1 * k.val = k.val; omega

/-- A weight block, entry by entry: the expert the table names. -/
theorem wb2_at (c : Dev nD) (t : Fin grid0.N) (e : Fin 16) (he : (V m (0 : Dev nD) main_arg1 (tix (grid0.coords t 0).val (grid0.coords t 0).isLt) : BitVec 32).toNat = e.val)
    (i : Fin 512) (k : Fin 1024) : wb2 m hO c t (ix4 0 0 i k) = V m c main_arg6 (ix4 0 e i k) := by
  unfold wb2 iblk
  rw [View.read_apply]
  refine congrArg (V m c main_arg6) (funext fun a => Fin.ext ?_)
  have hx : cc0_transform_6 k0_off1_inb numel1_S1 (tbl m) (grid0.coords t) = ![0, e.val, 0, 0] := by rw [ixB6, he]
  fin_cases a
  · show cc0_transform_6 k0_off1_inb numel1_S1 (tbl m) (grid0.coords t) 0 * 1 + 1 * 0 = 0
    rw [hx]; rfl
  · show cc0_transform_6 k0_off1_inb numel1_S1 (tbl m) (grid0.coords t) 1 * 1 + 1 * 0 = e.val
    rw [hx]; show e.val * 1 + 1 * 0 = e.val; omega
  · show cc0_transform_6 k0_off1_inb numel1_S1 (tbl m) (grid0.coords t) 2 * 512 + 1 * i.val = i.val
    rw [hx]; show 0 * 512 + 1 * i.val = i.val; omega
  · show cc0_transform_6 k0_off1_inb numel1_S1 (tbl m) (grid0.coords t) 3 * 1024 + 1 * k.val = k.val
    rw [hx]; show 0 * 1024 + 1 * k.val = k.val; omega

theorem tix_eq (t : Nat) (h : t < 90) : (tix t h : S90.Idx) = ix1 ⟨t, h⟩ := by
  funext a; fin_cases a; rfl

/-- Every tile is written back: each point has a block of its own. -/
theorem flush7 (t : Fin grid0.N) : ((cfgM m hO).win (7 : Fin 8)).flush t = true := by
  show Pipeline.Window.flushOf grid0 true cc0_transform_7 t = true
  revert t
  decide +kernel

/-- The tile left at a point is the experts' sum for its rows. -/
theorem otile_at (hg : ∀ (r : Fin 23040) (l : Fin 1152), l.val = 1046 ∨ l.val = 1047 → 0 ≤ (show EReal from V m (0 : Dev nD) main_arg3 (ix2 r l)) ∧ (show EReal from V m (0 : Dev nD) main_arg3 (ix2 r l)) ≠ ⊤)
    (h0 : ∀ j, (V m (0 : Dev nD) main_arg0 j : BitVec 32).toNat < 16) (h1 : ∀ j, (V m (0 : Dev nD) main_arg1 j : BitVec 32).toNat < 16)
    (t : Fin grid0.N) (p : Fin 256) (j : Fin 1024) :
    otile m hO (0 : Dev nD) t (ix2 p j) = Cert.Experts.total (V m (0 : Dev nD) main_arg0) (V m (0 : Dev nD) main_arg1) (V m (0 : Dev nD) main_arg2) (V m (0 : Dev nD) main_arg3)
      (V m (0 : Dev nD) main_arg4) (V m (0 : Dev nD) main_arg5) (V m (0 : Dev nD) main_arg6) (row t p) j := by
  have ht : t.val < 90 := t.isLt
  have hix : (tix (grid0.coords t 0).val (grid0.coords t 0).isLt : S90.Idx) = ix1 (Cert.Experts.tileOf (row t p)) := by
    refine (tix_eq _ _).trans (congrArg ix1 (Fin.ext ?_))
    show (grid0.coords t 0).val = (t.val * 256 + p.val) / 256
    rw [coords_val t]; omega
  have hw : wordAt (F := Ideal) (V m (0 : Dev nD) main_arg2) (grid0.coords t) = V m (0 : Dev nD) main_arg2 (ix1 (Cert.Experts.tileOf (row t p))) := by
    rw [wordAt_eq, hix]
  have hA := Cert.Experts.word_val (V m (0 : Dev nD) main_arg0 (ix1 (Cert.Experts.tileOf (row t p)))) (h0 _)
  have hB := Cert.Experts.word_val (V m (0 : Dev nD) main_arg1 (ix1 (Cert.Experts.tileOf (row t p)))) (h1 _)
  generalize heA : Cert.Experts.expertOf (V m (0 : Dev nD) main_arg0 (ix1 (Cert.Experts.tileOf (row t p)))) = eA at hA
  generalize heB : Cert.Experts.expertOf (V m (0 : Dev nD) main_arg1 (ix1 (Cert.Experts.tileOf (row t p)))) = eB at hB
  rw [← hix] at hA hB
  unfold otile
  rw [hw]
  unfold Cert.Experts.total
  rw [heA, heB]
  by_cases hs : (V m (0 : Dev nD) main_arg2 (ix1 (Cert.Experts.tileOf (row t p))) : BitVec 32) = 0#32
  · rw [hs, tile_empty, if_neg (fun h => h rfl)]
  · rw [if_pos hs]
    have q1 : ∀ i k, k0_pay1 (F := Ideal) (wa1 m hO (0 : Dev nD) t) (ix2 i k) = V m (0 : Dev nD) main_arg4 (ix4 0 eA i k) := fun i k => (pay1_at (wa1 m hO (0 : Dev nD) t) i k).trans (wa1_at m hO (0 : Dev nD) t eA hA i k)
    have q3 : ∀ i k, k0_pay2 (F := Ideal) (wa3 m hO (0 : Dev nD) t) (ix2 i k) = V m (0 : Dev nD) main_arg5 (ix4 0 eA i k) := fun i k => (pay2_at (wa3 m hO (0 : Dev nD) t) i k).trans (wa3_at m hO (0 : Dev nD) t eA hA i k)
    have q2 : ∀ i k, k0_pay3 (F := Ideal) (wa2 m hO (0 : Dev nD) t) (ix2 i k) = V m (0 : Dev nD) main_arg6 (ix4 0 eA i k) := fun i k => (pay3_at (wa2 m hO (0 : Dev nD) t) i k).trans (wa2_at m hO (0 : Dev nD) t eA hA i k)
    have r1 : ∀ i k, k0_pay4 (F := Ideal) (wb1 m hO (0 : Dev nD) t) (ix2 i k) = V m (0 : Dev nD) main_arg4 (ix4 0 eB i k) := fun i k => (pay4_at (wb1 m hO (0 : Dev nD) t) i k).trans (wb1_at m hO (0 : Dev nD) t eB hB i k)
    have r3 : ∀ i k, k0_pay5 (F := Ideal) (wb3 m hO (0 : Dev nD) t) (ix2 i k) = V m (0 : Dev nD) main_arg5 (ix4 0 eB i k) := fun i k => (pay5_at (wb3 m hO (0 : Dev nD) t) i k).trans (wb3_at m hO (0 : Dev nD) t eB hB i k)
    have r2 : ∀ i k, k0_pay6 (F := Ideal) (wb2 m hO (0 : Dev nD) t) (ix2 i k) = V m (0 : Dev nD) main_arg6 (ix4 0 eB i k) := fun i k => (pay6_at (wb2 m hO (0 : Dev nD) t) i k).trans (wb2_at m hO (0 : Dev nD) t eB hB i k)
    exact tile_total _ hs _ _ _ _ _ _ _ p j (V m (0 : Dev nD) main_arg3) (V m (0 : Dev nD) main_arg4) (V m (0 : Dev nD) main_arg5) (V m (0 : Dev nD) main_arg6) (row t p)
      eA eB
      (fun l => xblk_at m hO 0 t p l)
      q1 q3 q2 r1 r3 r2
      (hg _ 1046 (Or.inl rfl)) (hg _ 1047 (Or.inr rfl))

/-- What a point writes back is its tile. -/
theorem flushed7 (t : Fin grid0.N) : (dats m hO 0 (0 : Dev nD)).flushed (7 : Fin 8) t = otile m hO (0 : Dev nD) t := by
  refine Eq.trans ?_ (after7 m hO (0 : Dev nD) t)
  rfl

/-- The whole result. -/
theorem final (hg : ∀ (r : Fin 23040) (l : Fin 1152), l.val = 1046 ∨ l.val = 1047 → 0 ≤ (show EReal from V m (0 : Dev nD) main_arg3 (ix2 r l)) ∧ (show EReal from V m (0 : Dev nD) main_arg3 (ix2 r l)) ≠ ⊤)
    (h0 : ∀ j, (V m (0 : Dev nD) main_arg0 j : BitVec 32).toNat < 16) (h1 : ∀ j, (V m (0 : Dev nD) main_arg1 j : BitVec 32).toNat < 16) :
    (dats m hO 0 (0 : Dev nD)).arrAt (7 : Fin 8) (cfgM m hO).N = fun i : S23040x1024.Idx => Cert.Experts.total (V m (0 : Dev nD) main_arg0) (V m (0 : Dev nD) main_arg1) (V m (0 : Dev nD) main_arg2) (V m (0 : Dev nD) main_arg3)
      (V m (0 : Dev nD) main_arg4) (V m (0 : Dev nD) main_arg5) (V m (0 : Dev nD) main_arg6) (i 0) (i 1) := by
  have emb : ∀ (t : Fin grid0.N) (p : Fin 256) (j : Fin 1024),
      (((cfgM m hO).win (7 : Fin 8)).blk t).view.emb (ix2 p j : S256x1024.Idx) = (ix2 (row t p) j : S23040x1024.Idx) := by
    intro t p j
    have hc : (grid0.coords t 0).val = t.val := coords_val t
    have ht : t.val < 90 := t.isLt
    have e : (BitVec.ofNat 32 (grid0.coords t 0).val).toNat = t.val := by rw [hc, BitVec.toNat_ofNat]; omega
    refine funext fun a => Fin.ext ?_
    fin_cases a
    · show (BitVec.ofNat 32 (grid0.coords t 0).val).toNat * 256 + 1 * p.val = t.val * 256 + p.val
      rw [e]; omega
    · show 0 * 1024 + 1 * j.val = j.val
      omega
  refine (dats m hO 0 (0 : Dev nD)).arrAt_eq_of_cover (7 : Fin 8) _ (fun t _ => ?_) (fun i => ?_)
  · refine funext fun (y : S256x1024.Idx) => ?_
    have hf : (dats m hO 0 (0 : Dev nD)).flushed (7 : Fin 8) t = otile m hO (0 : Dev nD) t := flushed7 m hO t
    rw [View.read_apply, hf]
    have h := otile_at m hO hg h0 h1 t (y 0) (y 1)
    have e := emb t (y 0) (y 1)
    rw [← eq_ix2 y] at h e
    rw [e]
    exact h
  · have h0' : (i 0).val < 23040 := (i 0).isLt
    obtain ⟨t, ht⟩ : ∃ t : Fin grid0.N, t.val = (i 0).val / 256 := ⟨⟨(i 0).val / 256, by show _ < 90; omega⟩, rfl⟩
    obtain ⟨p, hp⟩ : ∃ p : Fin 256, p.val = (i 0).val % 256 := ⟨⟨(i 0).val % 256, Nat.mod_lt _ (by decide)⟩, rfl⟩
    have e : (ix2 (row t p) (i 1) : S23040x1024.Idx) = i := by
      refine Eq.trans (congrArg (fun q => ix2 q (i 1)) (Fin.ext ?_)) (eq_ix2 i).symm
      show t.val * 256 + p.val = (i 0).val
      omega
    have he := emb t p (i 1)
    have h := (((cfgM m hO).win (7 : Fin 8)).blk t).view.emb_mem_set (ix2 p (i 1) : S256x1024.Idx)
    rw [he] at h
    rw [e] at h
    exact ⟨t, flush7 m hO t, h⟩

end Cert.KernelIdeal.Body
end
-- ==== Proof.RefI.lean ====
module

public import proofs.«01_k».proof.Proof.Gen.ReferenceIdeal.Read
public import proofs.«01_k».proof.Proof.Expert
public import Idealize.ShloMosaic.Lib.Pointwise

@[expose] public section

set_option maxRecDepth 16384

noncomputable section

namespace Cert.ReferenceIdeal.Body

open Cert.ReferenceIdeal Cert.ReferenceIdeal.Gen Cert.ReferenceIdeal.Read
open Idealize.ShloMosaic Idealize.ShloMosaic.TcCoe

/-- One expert's term of the reference's sum: its gates' column times its result. -/
def term (g : FVec Ideal S23040x16 .f32) (t : FVec Ideal S23040x1024 .f32) (x4 x5 : FVec Ideal S4x16x1024x512 .f32) (x6 : FVec Ideal S4x16x512x1024 .f32) (e : Nat)
    (h1 : S4x16x1024x512.Slices ![0, e, 0, 0] S1x1x1024x512) (h2 : S4x16x512x1024.Slices ![0, e, 0, 0] S1x1x512x1024) (h3 : S23040x16.Slices ![0, e] S23040x1) : FVec Ideal S23040x1024 .f32 :=
  let w1 : FVec Ideal S1024x512 .f32 := shapeCast _ (extractStridedSlice S1x1x1024x512 ![0, e, 0, 0] x4 h1) shapeCasts_S1x1x1024x512_S1024x512
  let w3 : FVec Ideal S1024x512 .f32 := shapeCast _ (extractStridedSlice S1x1x1024x512 ![0, e, 0, 0] x5 h1) shapeCasts_S1x1x1024x512_S1024x512
  let w2 : FVec Ideal S512x1024 .f32 := shapeCast _ (extractStridedSlice S1x1x512x1024 ![0, e, 0, 0] x6 h2) shapeCasts_S1x1x512x1024_S512x1024
  let a : FVec Ideal S23040x512 .f32 := Host.dotGeneral dot_S23040x1024_S1024x512_S23040x512_1_0_0_1_n_n none t w1
  let one : FVec Ideal S23040x512 .f32 := broadcastInDim S23040x512 ![] bcast_S_S23040x512 (constant S_ .f32 0x3F800000#32)
  let l : FVec Ideal S23040x512 .f32 := Host.divf one (addf one (Host.exp (Host.negf a)))
  mulf (broadcastInDim S23040x1024 ![0, 1] bcast_S23040x1_S23040x1024_0_1 (extractStridedSlice S23040x1 ![0, e] g h3))
    (Host.dotGeneral dot_S23040x512_S512x1024_S23040x1024_1_0_0_1_n_n none
      (mulf (mulf a l) (Host.dotGeneral dot_S23040x1024_S1024x512_S23040x512_1_0_0_1_n_n none t w3)) w2)

/-- The term, entry by entry. -/
theorem term_at (g : FVec Ideal S23040x16 .f32) (t : FVec Ideal S23040x1024 .f32) (x4 x5 : FVec Ideal S4x16x1024x512 .f32) (x6 : FVec Ideal S4x16x512x1024 .f32) (e : Fin 16)
    (h1 : S4x16x1024x512.Slices ![0, e.val, 0, 0] S1x1x1024x512) (h2 : S4x16x512x1024.Slices ![0, e.val, 0, 0] S1x1x512x1024) (h3 : S23040x16.Slices ![0, e.val] S23040x1)
    (r : Fin 23040) (j : Fin 1024) :
    term g t x4 x5 x6 e.val h1 h2 h3 (ix2 r j) = g (ix2 r e)
      * Cert.Experts.expert (fun i => t (ix2 r i)) (fun i k => x4 (ix4 0 e i k)) (fun i k => x5 (ix4 0 e i k)) (fun k j => x6 (ix4 0 e k j)) j := by
  pointwise [term, Cert.Experts.expert, Cert.Experts.hid, Cert.Experts.silu]

/-- The reference's result is its sixteen experts' terms added up from zero. -/
theorem sum_terms (x0 x1 x2 : IVec S90 32) (x3 : FVec Ideal S23040x1152 .f32) (x4 x5 : FVec Ideal S4x16x1024x512 .f32) (x6 : FVec Ideal S4x16x512x1024 .f32) :
    val_main_v275 (F := Ideal) x0 x1 x2 x3 x4 x5 x6 =
      (addf (addf (addf (addf (addf (addf (addf (addf (addf (addf (addf (addf (addf (addf (addf (addf (val_main_v35 (F := Ideal))
      (term (val_main_v34 (F := Ideal) x0 x1 x2 x3) (val_main_v0 (F := Ideal) x3) x4 x5 x6 0 slices_S4x16x1024x512_S1x1x1024x512_0_0_0_0 slices_S4x16x512x1024_S1x1x512x1024_0_0_0_0 slices_S23040x16_S23040x1_0_0))
      (term (val_main_v34 (F := Ideal) x0 x1 x2 x3) (val_main_v0 (F := Ideal) x3) x4 x5 x6 1 slices_S4x16x1024x512_S1x1x1024x512_0_1_0_0 slices_S4x16x512x1024_S1x1x512x1024_0_1_0_0 slices_S23040x16_S23040x1_0_1))
      (term (val_main_v34 (F := Ideal) x0 x1 x2 x3) (val_main_v0 (F := Ideal) x3) x4 x5 x6 2 slices_S4x16x1024x512_S1x1x1024x512_0_2_0_0 slices_S4x16x512x1024_S1x1x512x1024_0_2_0_0 slices_S23040x16_S23040x1_0_2))
      (term (val_main_v34 (F := Ideal) x0 x1 x2 x3) (val_main_v0 (F := Ideal) x3) x4 x5 x6 3 slices_S4x16x1024x512_S1x1x1024x512_0_3_0_0 slices_S4x16x512x1024_S1x1x512x1024_0_3_0_0 slices_S23040x16_S23040x1_0_3))
      (term (val_main_v34 (F := Ideal) x0 x1 x2 x3) (val_main_v0 (F := Ideal) x3) x4 x5 x6 4 slices_S4x16x1024x512_S1x1x1024x512_0_4_0_0 slices_S4x16x512x1024_S1x1x512x1024_0_4_0_0 slices_S23040x16_S23040x1_0_4))
      (term (val_main_v34 (F := Ideal) x0 x1 x2 x3) (val_main_v0 (F := Ideal) x3) x4 x5 x6 5 slices_S4x16x1024x512_S1x1x1024x512_0_5_0_0 slices_S4x16x512x1024_S1x1x512x1024_0_5_0_0 slices_S23040x16_S23040x1_0_5))
      (term (val_main_v34 (F := Ideal) x0 x1 x2 x3) (val_main_v0 (F := Ideal) x3) x4 x5 x6 6 slices_S4x16x1024x512_S1x1x1024x512_0_6_0_0 slices_S4x16x512x1024_S1x1x512x1024_0_6_0_0 slices_S23040x16_S23040x1_0_6))
      (term (val_main_v34 (F := Ideal) x0 x1 x2 x3) (val_main_v0 (F := Ideal) x3) x4 x5 x6 7 slices_S4x16x1024x512_S1x1x1024x512_0_7_0_0 slices_S4x16x512x1024_S1x1x512x1024_0_7_0_0 slices_S23040x16_S23040x1_0_7))
      (term (val_main_v34 (F := Ideal) x0 x1 x2 x3) (val_main_v0 (F := Ideal) x3) x4 x5 x6 8 slices_S4x16x1024x512_S1x1x1024x512_0_8_0_0 slices_S4x16x512x1024_S1x1x512x1024_0_8_0_0 slices_S23040x16_S23040x1_0_8))
      (term (val_main_v34 (F := Ideal) x0 x1 x2 x3) (val_main_v0 (F := Ideal) x3) x4 x5 x6 9 slices_S4x16x1024x512_S1x1x1024x512_0_9_0_0 slices_S4x16x512x1024_S1x1x512x1024_0_9_0_0 slices_S23040x16_S23040x1_0_9))
      (term (val_main_v34 (F := Ideal) x0 x1 x2 x3) (val_main_v0 (F := Ideal) x3) x4 x5 x6 10 slices_S4x16x1024x512_S1x1x1024x512_0_10_0_0 slices_S4x16x512x1024_S1x1x512x1024_0_10_0_0 slices_S23040x16_S23040x1_0_10))
      (term (val_main_v34 (F := Ideal) x0 x1 x2 x3) (val_main_v0 (F := Ideal) x3) x4 x5 x6 11 slices_S4x16x1024x512_S1x1x1024x512_0_11_0_0 slices_S4x16x512x1024_S1x1x512x1024_0_11_0_0 slices_S23040x16_S23040x1_0_11))
      (term (val_main_v34 (F := Ideal) x0 x1 x2 x3) (val_main_v0 (F := Ideal) x3) x4 x5 x6 12 slices_S4x16x1024x512_S1x1x1024x512_0_12_0_0 slices_S4x16x512x1024_S1x1x512x1024_0_12_0_0 slices_S23040x16_S23040x1_0_12))
      (term (val_main_v34 (F := Ideal) x0 x1 x2 x3) (val_main_v0 (F := Ideal) x3) x4 x5 x6 13 slices_S4x16x1024x512_S1x1x1024x512_0_13_0_0 slices_S4x16x512x1024_S1x1x512x1024_0_13_0_0 slices_S23040x16_S23040x1_0_13))
      (term (val_main_v34 (F := Ideal) x0 x1 x2 x3) (val_main_v0 (F := Ideal) x3) x4 x5 x6 14 slices_S4x16x1024x512_S1x1x1024x512_0_14_0_0 slices_S4x16x512x1024_S1x1x512x1024_0_14_0_0 slices_S23040x16_S23040x1_0_14))
      (term (val_main_v34 (F := Ideal) x0 x1 x2 x3) (val_main_v0 (F := Ideal) x3) x4 x5 x6 15 slices_S4x16x1024x512_S1x1x1024x512_0_15_0_0 slices_S4x16x512x1024_S1x1x512x1024_0_15_0_0 slices_S23040x16_S23040x1_0_15)) := rfl

/-- The gates of a row: each expert's column. -/
theorem gates_at (x0 x1 x2 : IVec S90 32) (x3 : FVec Ideal S23040x1152 .f32)
    (h0 : ∀ j, (x0 j).toNat < 16) (h1 : ∀ j, (x1 j).toNat < 16) (r : Fin 23040) (e : Fin 16) :
    val_main_v34 (F := Ideal) x0 x1 x2 x3 (ix2 r e)
      = (if x2 (ix1 (Cert.Experts.tileOf r)) ≠ 0#32 ∧ e = Cert.Experts.expertOf (x0 (ix1 (Cert.Experts.tileOf r))) then Cert.Experts.gate x2 x3 false r else 0)
        + (if x2 (ix1 (Cert.Experts.tileOf r)) ≠ 0#32 ∧ e = Cert.Experts.expertOf (x1 (ix1 (Cert.Experts.tileOf r))) then Cert.Experts.gate x2 x3 true r else 0) := by
  have z : (id (constant (F := Ideal) S_ .f32 0#32) : S_.Idx → EReal) ix0 = 0 := by
    show constant (F := Ideal) S_ .f32 0#32 ix0 = 0
    pointwise
  pointwise [val_main_v1, val_main_v2, val_main_v3, val_main_v4, val_main_v5, val_main_v6, val_main_v7, val_main_v8, val_main_v9, val_main_v10, val_main_v11, val_main_v12, val_main_v13, val_main_c, val_main_v14, val_main_v15, val_main_c_0, val_main_v16, val_main_v17, val_main_v18, val_main_v19, val_main_v20, val_main_v21, val_main_v22, val_main_v23, val_main_cst, val_main_call1_v0, val_main_call1_v1, val_main_call1_v2, val_main_v24, val_main_c_1, val_main_v25, val_main_v26, val_main_v27, val_main_v28, val_main_v29, val_main_v30, val_main_v31, val_main_v32, val_main_cst_2, val_main_call3_v0, val_main_call3_v1, val_main_call3_v2, val_main_v33, val_main_v34]
  simp only [Cert.Experts.sel_ne_eq, Cert.Experts.sel_eq]
  simp only [Cert.Experts.word_eq _ (h0 _), Cert.Experts.word_eq _ (h1 _), z]
  rfl

/-- The tokens' columns. -/
theorem rows_at (x3 : FVec Ideal S23040x1152 .f32) (r : Fin 23040) (i : Fin 1024) : val_main_v0 (F := Ideal) x3 (ix2 r i) = x3 (ix2 r ⟨i.val, by omega⟩) := by
  pointwise [val_main_v0]

/-- The reference's result, entry by entry. -/
theorem total_at (x0 x1 x2 : IVec S90 32) (x3 : FVec Ideal S23040x1152 .f32) (x4 x5 : FVec Ideal S4x16x1024x512 .f32) (x6 : FVec Ideal S4x16x512x1024 .f32)
    (h0 : ∀ j, (x0 j).toNat < 16) (h1 : ∀ j, (x1 j).toNat < 16)
    (hg : ∀ (r : Fin 23040) (l : Fin 1152), l.val = 1046 ∨ l.val = 1047 → 0 ≤ x3 (ix2 r l)) (r : Fin 23040) (j : Fin 1024) :
    val_main_v275 (F := Ideal) x0 x1 x2 x3 x4 x5 x6 (ix2 r j) = Cert.Experts.total x0 x1 x2 x3 x4 x5 x6 r j := by
  have hd : ∀ (e : Fin 16) (q1 : S4x16x1024x512.Slices ![0, e.val, 0, 0] S1x1x1024x512) (q2 : S4x16x512x1024.Slices ![0, e.val, 0, 0] S1x1x512x1024) (q3 : S23040x16.Slices ![0, e.val] S23040x1),
      term (val_main_v34 (F := Ideal) x0 x1 x2 x3) (val_main_v0 (F := Ideal) x3) x4 x5 x6 e.val q1 q2 q3 (ix2 r j)
      = ((if x2 (ix1 (Cert.Experts.tileOf r)) ≠ 0#32 ∧ e = Cert.Experts.expertOf (x0 (ix1 (Cert.Experts.tileOf r))) then Cert.Experts.gate x2 x3 false r else 0)
        + (if x2 (ix1 (Cert.Experts.tileOf r)) ≠ 0#32 ∧ e = Cert.Experts.expertOf (x1 (ix1 (Cert.Experts.tileOf r))) then Cert.Experts.gate x2 x3 true r else 0))
        * Cert.Experts.result x3 x4 x5 x6 r j e := by
    intro e q1 q2 q3
    rw [term_at, gates_at x0 x1 x2 x3 h0 h1]
    simp only [rows_at]
    rfl
  have hp : ∀ b, 0 ≤ Cert.Experts.gate x2 x3 b r := by
    intro b
    unfold Cert.Experts.gate
    cases b <;> split <;> exact hg _ _ (by decide)
  have hs := Cert.Experts.two_experts (x2 (ix1 (Cert.Experts.tileOf r)) ≠ 0#32) (Cert.Experts.expertOf (x0 (ix1 (Cert.Experts.tileOf r)))) (Cert.Experts.expertOf (x1 (ix1 (Cert.Experts.tileOf r))))
    _ _ (hp false) (hp true) (Cert.Experts.result x3 x4 x5 x6 r j)
  unfold Cert.Experts.total
  rw [← hs, Cert.Experts.sum16, sum_terms]
  have z : val_main_v35 (F := Ideal) (ix2 r j) = 0 := by
    pointwise [val_main_v35, val_main_cst_3]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) z (hd 0 slices_S4x16x1024x512_S1x1x1024x512_0_0_0_0 slices_S4x16x512x1024_S1x1x512x1024_0_0_0_0 slices_S23040x16_S23040x1_0_0)) (hd 1 slices_S4x16x1024x512_S1x1x1024x512_0_1_0_0 slices_S4x16x512x1024_S1x1x512x1024_0_1_0_0 slices_S23040x16_S23040x1_0_1)) (hd 2 slices_S4x16x1024x512_S1x1x1024x512_0_2_0_0 slices_S4x16x512x1024_S1x1x512x1024_0_2_0_0 slices_S23040x16_S23040x1_0_2)) (hd 3 slices_S4x16x1024x512_S1x1x1024x512_0_3_0_0 slices_S4x16x512x1024_S1x1x512x1024_0_3_0_0 slices_S23040x16_S23040x1_0_3)) (hd 4 slices_S4x16x1024x512_S1x1x1024x512_0_4_0_0 slices_S4x16x512x1024_S1x1x512x1024_0_4_0_0 slices_S23040x16_S23040x1_0_4)) (hd 5 slices_S4x16x1024x512_S1x1x1024x512_0_5_0_0 slices_S4x16x512x1024_S1x1x512x1024_0_5_0_0 slices_S23040x16_S23040x1_0_5)) (hd 6 slices_S4x16x1024x512_S1x1x1024x512_0_6_0_0 slices_S4x16x512x1024_S1x1x512x1024_0_6_0_0 slices_S23040x16_S23040x1_0_6)) (hd 7 slices_S4x16x1024x512_S1x1x1024x512_0_7_0_0 slices_S4x16x512x1024_S1x1x512x1024_0_7_0_0 slices_S23040x16_S23040x1_0_7)) (hd 8 slices_S4x16x1024x512_S1x1x1024x512_0_8_0_0 slices_S4x16x512x1024_S1x1x512x1024_0_8_0_0 slices_S23040x16_S23040x1_0_8)) (hd 9 slices_S4x16x1024x512_S1x1x1024x512_0_9_0_0 slices_S4x16x512x1024_S1x1x512x1024_0_9_0_0 slices_S23040x16_S23040x1_0_9)) (hd 10 slices_S4x16x1024x512_S1x1x1024x512_0_10_0_0 slices_S4x16x512x1024_S1x1x512x1024_0_10_0_0 slices_S23040x16_S23040x1_0_10)) (hd 11 slices_S4x16x1024x512_S1x1x1024x512_0_11_0_0 slices_S4x16x512x1024_S1x1x512x1024_0_11_0_0 slices_S23040x16_S23040x1_0_11)) (hd 12 slices_S4x16x1024x512_S1x1x1024x512_0_12_0_0 slices_S4x16x512x1024_S1x1x512x1024_0_12_0_0 slices_S23040x16_S23040x1_0_12)) (hd 13 slices_S4x16x1024x512_S1x1x1024x512_0_13_0_0 slices_S4x16x512x1024_S1x1x512x1024_0_13_0_0 slices_S23040x16_S23040x1_0_13)) (hd 14 slices_S4x16x1024x512_S1x1x1024x512_0_14_0_0 slices_S4x16x512x1024_S1x1x512x1024_0_14_0_0 slices_S23040x16_S23040x1_0_14)) (hd 15 slices_S4x16x1024x512_S1x1x1024x512_0_15_0_0 slices_S4x16x512x1024_S1x1x512x1024_0_15_0_0 slices_S23040x16_S23040x1_0_15))

end Cert.ReferenceIdeal.Body
end
-- ==== Proof.Pre.lean ====
module

public import proofs.«01_k».proof.Proof.Gen.Pre_in_range
public import proofs.«01_k».proof.Proof.Gen.Pre_gated
public import proofs.«01_k».proof.Proof.Gen.Pre_placed
public import Idealize.ShloMosaic.Lib.Pointwise
public import Idealize.ShloMosaic.Lib.StableHlo.Predicate

@[expose] public section

set_option maxRecDepth 16384

noncomputable section

namespace Cert.Words

open Idealize.ShloMosaic

theorem both (a b : BitVec 1) : IntOp.andi a b = 1#1 → a = 1#1 ∧ b = 1#1 := by
  revert a b; decide

theorem bit (b : Bool) (h : BitVec.ofBool b = 1#1) : b = true := by
  revert h; cases b <;> decide

/-- A word at least 0 and below `n`, signed, is below `n`. -/
theorem below (n : ℕ) (hn : n < 2147483648) (w : BitVec 32) (h : IntOp.andi (IntOp.cmpi CmpIPredicate.sge w 0#32) (IntOp.cmpi CmpIPredicate.slt w (BitVec.ofNat 32 n)) = 1#1) : w.toNat < n := by
  obtain ⟨h1, h2⟩ := both _ _ h
  have k1 : (0#32).sle w = true := bit _ h1
  have k2 : w.slt (BitVec.ofNat 32 n) = true := bit _ h2
  have l1 : (0#32).toInt ≤ w.toInt := by simpa only [BitVec.sle, decide_eq_true_eq] using k1
  have l2 : w.toInt < (BitVec.ofNat 32 n).toInt := by simpa only [BitVec.slt, decide_eq_true_eq] using k2
  have z0 : (0#32).toInt = 0 := by decide
  have zn : (BitVec.ofNat 32 n).toInt = n := by
    rw [BitVec.toInt_eq_toNat_of_lt (by rw [BitVec.toNat_ofNat]; omega), BitVec.toNat_ofNat]
    omega
  rw [z0] at l1
  rw [zn] at l2
  rw [BitVec.toInt_eq_toNat_cond] at l1 l2
  have := w.isLt
  split at l1 <;> split at l2 <;> omega

/-- A word at least 0 and below 16, signed, is below 16. -/
theorem small (w : BitVec 32) (h : IntOp.andi (IntOp.cmpi CmpIPredicate.sge w 0#32) (IntOp.cmpi CmpIPredicate.slt w 16#32) = 1#1) : w.toNat < 16 :=
  below 16 (by decide) w h

section
open Cert.Pre_in_range
variable {F : FTy → Type} [FloatOps F] (x0 x1 x2 : IVec S90 32) (x3 : FVec F S23040x1152 .f32) (x4 x5 : FVec F S4x16x1024x512 .f32) (x6 : FVec F S4x16x512x1024 .f32)

theorem range_a (h : (Cert.Pre_in_range.fn (F := F) x0 x1 x2 x3 x4 x5 x6).1 = fun _ => 1#1) (j : S90.Idx) : (x0 j).toNat < 16 :=
  small _ (congrFun h j)

theorem range_b (h : (Cert.Pre_in_range.fn (F := F) x0 x1 x2 x3 x4 x5 x6).2 = fun _ => 1#1) (j : S90.Idx) : (x1 j).toNat < 16 :=
  small _ (congrFun h j)
end

section
open Cert.Pre_placed
variable {F : FTy → Type} [FloatOps F] (x0 : IVec S16896 32) (x1 : FVec F S16896x1024 .f32) (x2 : FVec F S8x6x1024 .f32) (x3 : FVec F S23040x1024 .f32) (x4 : FVec F S1024 .f32)

theorem placed_at (h : Cert.Pre_placed.fn (F := F) x0 x1 x2 x3 x4 = fun _ => 1#1) (j : S16896.Idx) : (x0 j).toNat < 23040 :=
  below 23040 (by decide) _ (congrFun h j)
end

section
open Cert.Pre_gated
variable (x0 x1 x2 : IVec S90 32) (x3 : FVec Ideal S23040x1152 .f32) (x4 x5 : FVec Ideal S4x16x1024x512 .f32) (x6 : FVec Ideal S4x16x512x1024 .f32)

theorem gated_a (h : (Cert.Pre_gated.fn (F := Ideal) x0 x1 x2 x3 x4 x5 x6).1 = fun _ => 1#1) (j : S90.Idx) : (x0 j).toNat < 16 :=
  small _ (congrFun h j)

theorem gated_b (h : (Cert.Pre_gated.fn (F := Ideal) x0 x1 x2 x3 x4 x5 x6).2.1 = fun _ => 1#1) (j : S90.Idx) : (x1 j).toNat < 16 :=
  small _ (congrFun h j)

/-- The two gate columns hold numbers at least 0 and not infinite. -/
theorem gated_c (h : (Cert.Pre_gated.fn (F := Ideal) x0 x1 x2 x3 x4 x5 x6).2.2 = fun _ => 1#1) (r : Fin 23040) (l : Fin 1152) (hl : l.val = 1046 ∨ l.val = 1047) :
    0 ≤ (show EReal from x3 (ix2 r l)) ∧ (show EReal from x3 (ix2 r l)) ≠ ⊤ := by
  have key : ∀ q : Fin 2, 0 ≤ (show EReal from x3 (ix2 r ⟨1046 + q.val, by omega⟩)) ∧ (show EReal from x3 (ix2 r ⟨1046 + q.val, by omega⟩)) ≠ ⊤ := by
    intro q
    have g := congrFun h (ix2 r q)
    pointwise [Cert.Pre_gated.fn] at g
    obtain ⟨g1, g2⟩ := both _ _ g
    exact ⟨of_decide_eq_true (bit _ g1), (lt_of_lt_of_le (of_decide_eq_true (bit _ g2)) le_top).ne⟩
  rcases hl with hl | hl
  · rw [show l = ⟨1046 + (0 : Fin 2).val, by decide⟩ from Fin.ext hl]; exact key 0
  · rw [show l = ⟨1046 + (1 : Fin 2).val, by decide⟩ from Fin.ext hl]; exact key 1
end

end Cert.Words
end
-- ==== Proof.Even.lean ====
module

public import Idealize.ShloMosaic.Lib.Pointwise

@[expose] public section

set_option maxRecDepth 16384

noncomputable section

/-! The even layers' opening: a row of the stream is normalised, scaled, shifted and multiplied with the weights. -/

namespace Cert.Even

open Idealize.ShloMosaic

/-- An entry of a row over the root of the row's mean square. -/
def norm (x : Fin 1024 → EReal) (k : Fin 1024) : EReal :=
  x k * Ideal.rsqrt (Ideal.div (∑ i : Fin 1024, x i * x i) (Ideal.ofBits FTy.f32 1149239296#32) + Ideal.ofBits FTy.f32 897988541#32)

/-- The normalised row under gain, scale and shift, times a column of the weights. -/
def proj (x g sc sh w : Fin 1024 → EReal) : EReal :=
  ∑ k : Fin 1024, (norm x k * g k * (1 + sc k) + sh k) * w k

/-- The row of the modulation that a row of the stream takes: its sequence's, or the third for the context. -/
def modRow (r : Fin 16896) : Fin 8 := ⟨if r.val % 8448 < 256 then 2 else r.val / 8448, by split <;> omega⟩

/-- An entry of the projected stream. -/
def entry (x : (⟨2, ![16896, 1024]⟩ : Shape).Idx → EReal) (md : (⟨3, ![8, 6, 1024]⟩ : Shape).Idx → EReal) (g : (⟨1, ![1024]⟩ : Shape).Idx → EReal)
    (w : (⟨2, ![1024, 2560]⟩ : Shape).Idx → EReal) (r : Fin 16896) (j : Fin 2560) : EReal :=
  proj (fun k => x (ix2 r k)) (fun k => g (ix1 k)) (fun k => md (ix3 (modRow r) 1 k)) (fun k => md (ix3 (modRow r) 0 k)) (fun k => w (ix2 k j))

/-- A value under the logistic function of another. -/
def gate (a b : EReal) : EReal := a * Ideal.div 1 (1 + Ideal.exp (-b))

theorem zero_minus (a : EReal) : 0 - a = -a := by rw [sub_eq_add_neg, zero_add]

/-- A row of the context, or one of the latents, in its sequence. -/
theorem split_row (f : Fin 16896 → EReal) (a : Fin 2 → Fin 256 → EReal) (l : Fin 2 → Fin 8192 → EReal)
    (ha : ∀ b p, a b p = f ⟨b.val * 8448 + p.val, by omega⟩) (hl : ∀ b p, l b p = f ⟨b.val * 8448 + (256 + p.val), by omega⟩) (r : Fin 16896) :
    (if h : r.val % 8448 < 256 then a ⟨r.val / 8448, by omega⟩ ⟨r.val % 8448, h⟩
      else l ⟨r.val / 8448, by omega⟩ ⟨r.val % 8448 - 256, by omega⟩) = f r := by
  split
  · rw [ha]; congr 1; apply Fin.ext; show r.val / 8448 * 8448 + r.val % 8448 = r.val; omega
  · rw [hl]; congr 1; apply Fin.ext; show r.val / 8448 * 8448 + (256 + (r.val % 8448 - 256)) = r.val; omega

/-- The stream of the first layer: each sequence's context, then its rows. -/
def joined (x : (⟨3, ![2, 8192, 1024]⟩ : Shape).Idx → EReal) (ctx : (⟨3, ![2, 256, 1024]⟩ : Shape).Idx → EReal) (i : (⟨2, ![16896, 1024]⟩ : Shape).Idx) : EReal :=
  if h : (i 0).val % 8448 < 256 then ctx (ix3 ⟨(i 0).val / 8448, by have := (i 0).isLt; simp at this; omega⟩ ⟨(i 0).val % 8448, h⟩ (i 1))
  else x (ix3 ⟨(i 0).val / 8448, by have := (i 0).isLt; simp at this; omega⟩ ⟨(i 0).val % 8448 - 256, by omega⟩ (i 1))

/-- The three results. -/
def first (x : (⟨2, ![16896, 1024]⟩ : Shape).Idx → EReal) (md : (⟨3, ![8, 6, 1024]⟩ : Shape).Idx → EReal) (g : (⟨1, ![1024]⟩ : Shape).Idx → EReal)
    (w : (⟨2, ![1024, 2560]⟩ : Shape).Idx → EReal) (r : Fin 16896) (j : Fin 512) : EReal :=
  gate (entry x md g w r ⟨j.val, by omega⟩) (entry x md g w r ⟨512 + j.val, by omega⟩)
def second (x : (⟨2, ![16896, 1024]⟩ : Shape).Idx → EReal) (md : (⟨3, ![8, 6, 1024]⟩ : Shape).Idx → EReal) (g : (⟨1, ![1024]⟩ : Shape).Idx → EReal)
    (w : (⟨2, ![1024, 2560]⟩ : Shape).Idx → EReal) (r : Fin 16896) (j : Fin 512) : EReal :=
  entry x md g w r ⟨1024 + j.val, by omega⟩
def third (x : (⟨2, ![16896, 1024]⟩ : Shape).Idx → EReal) (md : (⟨3, ![8, 6, 1024]⟩ : Shape).Idx → EReal) (g : (⟨1, ![1024]⟩ : Shape).Idx → EReal)
    (w : (⟨2, ![1024, 2560]⟩ : Shape).Idx → EReal) (r : Fin 16896) (j : Fin 512) : EReal :=
  entry x md g w r ⟨1536 + j.val, by omega⟩ * entry x md g w r ⟨2048 + j.val, by omega⟩

end Cert.Even
end
-- ==== Proof.EvenI.lean ====
module

public import proofs.«01_k».proof.Proof.Gen.Kernel2Ideal.Value
public import proofs.«01_k».proof.Proof.Even
public import Idealize.ShloMosaic.Lib.Tactic
public import Idealize.ShloMosaic.Lib.Pointwise
public import Idealize.ShloMosaic.Lib.Pipeline.ValueKit

@[expose] public section
set_option maxRecDepth 16384
noncomputable section

namespace Cert.Kernel2Ideal.Body

open Cert.Kernel2Ideal Cert.Kernel2Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- A tile's projection, entry by entry. -/
theorem pay3_at (P0 : FVec Ideal S1x6x1024 .f32) (P1 : FVec Ideal S256x1024 .f32) (P2 : FVec Ideal S1x1024 .f32) (P3 : FVec Ideal S1024x2560 .bf16) (p : Fin 256) (j : Fin 2560) :
    k0_pay3 (F := Ideal) P0 P1 P2 P3 (ix2 p j)
      = Cert.Even.proj (fun k => P1 (ix2 p k)) (fun k => P2 (ix2 0 k)) (fun k => P0 (ix3 0 1 k)) (fun k => P0 (ix3 0 0 k)) (fun k => P3 (ix2 k j)) := by
  pointwise [k0_pay3, Cert.Even.proj, Cert.Even.norm]

/-- The blocks' places, all points at once. -/
theorem idx : ∀ t : Fin cfg0.N, win0_0.index t = ![t.val, 0] ∧ win0_1.index t = ![if t.val % 33 = 0 then 2 else t.val / 33, 0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

abbrev arr0 (c : Dev nD) : S16896x1024.Idx → EReal := m ((c : Thread nD τ).loc main_arg0)
abbrev arr1 (c : Dev nD) : S8x6x1024.Idx → EReal := m ((c : Thread nD τ).loc main_arg1)
abbrev arr2 (c : Dev nD) : S1024.Idx → EReal := m ((c : Thread nD τ).loc main_arg2)
abbrev arr3 (c : Dev nD) : S1024x2560.Idx → EReal := m ((c : Thread nD τ).loc main_arg3)

abbrev row (t : Fin cfg0.N) (p : Fin 256) : Fin 16896 := ⟨t.val * 256 + p.val, by
  have h : t.val < 66 := t.isLt
  omega⟩

theorem x_at (c : Dev nD) (t : Fin cfg0.N) (p : Fin 256) (k : Fin 1024) : (iblk m c 0 t : FVec Ideal S256x1024 .f32) (ix2 p k) = arr0 m c (ix2 (row t p) k) := by
  blk_ext [iblk, V, idx t]
theorem mod_at (c : Dev nD) (t : Fin cfg0.N) (p : Fin 256) (s : Fin 6) (k : Fin 1024) : (iblk m c 1 t : FVec Ideal S1x6x1024 .f32) (ix3 0 s k) = arr1 m c (ix3 (Cert.Even.modRow (row t p)) s k) := by
  blk_ext [iblk, V, idx t]
  show _ = if (t.val * 256 + p.val) % 8448 < 256 then 2 else (t.val * 256 + p.val) / 8448
  split <;> split <;> omega
theorem g_at (c : Dev nD) (t : Fin cfg0.N) (k : Fin 1024) : (iblk m c 2 t : FVec Ideal S1x1024 .f32) (ix2 0 k) = arr2 m c (ix1 k) := by
  blk_simp [iblk, idx t]
  entry_read
  pointwise
  blk_ext [idx t]
theorem w_at (c : Dev nD) (t : Fin cfg0.N) (k : Fin 1024) (j : Fin 2560) : (iblk m c 3 t : FVec Ideal S1024x2560 .bf16) (ix2 k j) = arr3 m c (ix2 k j) := by
  blk_simp [iblk, idx t]
  entry_read
  pointwise
  blk_ext [idx t]

/-- A tile's projection is the stream's. -/
theorem proj_at (c : Dev nD) (t : Fin cfg0.N) (p : Fin 256) (j : Fin 2560) :
    k0_pay3 (F := Ideal) (iblk m c 1 t) (iblk m c 0 t) (iblk m c 2 t) (iblk m c 3 t) (ix2 p j)
      = Cert.Even.entry (arr0 m c) (arr1 m c) (arr2 m c) (arr3 m c) (row t p) j := by
  refine (pay3_at _ _ _ _ p j).trans ?_
  unfold Cert.Even.entry
  simp only [x_at, mod_at m c t p, g_at, w_at]

theorem first_pt (c : Dev nD) (t : Fin cfg0.N) (p : Fin 256) (j : Fin 512) :
    k0_pay4 (F := Ideal) (iblk m c 1 t) (iblk m c 0 t) (iblk m c 2 t) (iblk m c 3 t) (ix2 p j)
      = Cert.Even.first (arr0 m c) (arr1 m c) (arr2 m c) (arr3 m c) (row t p) j := by
  have h : ∀ (P0 : FVec Ideal S1x6x1024 .f32) (P1 : FVec Ideal S256x1024 .f32) (P2 : FVec Ideal S1x1024 .f32) (P3 : FVec Ideal S1024x2560 .bf16),
      k0_pay4 (F := Ideal) P0 P1 P2 P3 (ix2 p j) = Cert.Even.gate (k0_pay3 (F := Ideal) P0 P1 P2 P3 (ix2 p ⟨j.val, by omega⟩)) (k0_pay3 (F := Ideal) P0 P1 P2 P3 (ix2 p ⟨512 + j.val, by omega⟩)) := by
    intro P0 P1 P2 P3
    pointwise [k0_pay4, Cert.Even.gate]
    rw [Cert.Even.zero_minus]
  refine (h _ _ _ _).trans ?_
  unfold Cert.Even.first
  rw [proj_at, proj_at]
theorem second_pt (c : Dev nD) (t : Fin cfg0.N) (p : Fin 256) (j : Fin 512) :
    k0_pay1 (F := Ideal) (k0_pay3 (iblk m c 1 t) (iblk m c 0 t) (iblk m c 2 t) (iblk m c 3 t)) (ix2 p j)
      = Cert.Even.second (arr0 m c) (arr1 m c) (arr2 m c) (arr3 m c) (row t p) j := by
  unfold Cert.Even.second
  rw [← proj_at]
  generalize k0_pay3 (F := Ideal) _ _ _ _ = u
  pointwise [k0_pay1]
theorem third_pt (c : Dev nD) (t : Fin cfg0.N) (p : Fin 256) (j : Fin 512) :
    k0_pay2 (F := Ideal) (k0_pay3 (iblk m c 1 t) (iblk m c 0 t) (iblk m c 2 t) (iblk m c 3 t)) (ix2 p j)
      = Cert.Even.third (arr0 m c) (arr1 m c) (arr2 m c) (arr3 m c) (row t p) j := by
  unfold Cert.Even.third
  rw [← proj_at, ← proj_at]
  generalize k0_pay3 (F := Ideal) _ _ _ _ = u
  pointwise [k0_pay2]

/-- A projection computed once for two results. -/
theorem pay5_eq (P0 : FVec Ideal S256x1024 .f32) (P1 : FVec Ideal S1x6x1024 .f32) (P2 : FVec Ideal S1x1024 .f32) (P3 : FVec Ideal S1024x2560 .bf16) :
    k0_pay5 (F := Ideal) P0 P1 P2 P3 = k0_pay3 (F := Ideal) P1 P0 P2 P3 := by
  unfold k0_pay5
  frame_out

/-- The three arrays the kernel leaves. -/
abbrev arr4 (c : Dev nD) : FVec Ideal S16896x512 .f32 := fun i => Cert.Even.first (arr0 m c) (arr1 m c) (arr2 m c) (arr3 m c) (i 0) (i 1)
abbrev arr5 (c : Dev nD) : FVec Ideal S16896x512 .f32 := fun i => Cert.Even.second (arr0 m c) (arr1 m c) (arr2 m c) (arr3 m c) (i 0) (i 1)
abbrev arr6 (c : Dev nD) : FVec Ideal S16896x512 .f32 := fun i => Cert.Even.third (arr0 m c) (arr1 m c) (arr2 m c) (arr3 m c) (i 0) (i 1)

theorem emb4 (t : Fin cfg0.N) (p : Fin 256) (j : Fin 512) : (((cfg0.win 4).blk t).view.emb (ix2 p j) : S16896x512.Idx) = ix2 (row t p) j := by
  blk_ext [idx t]
theorem out4 (c : Dev nD) (t : Fin cfg0.N) (y : S256x512.Idx) :
    k0_pay4 (F := Ideal) (iblk m c 1 t) (iblk m c 0 t) (iblk m c 2 t) (iblk m c 3 t) y = arr4 m c (((cfg0.win 4).blk t).view.emb y) := by
  obtain ⟨p, j, rfl⟩ : ∃ (p : Fin 256) (j : Fin 512), y = ix2 p j := ⟨y 0, y 1, eq_ix2 y⟩
  exact (first_pt m c t p j).trans (congrArg (arr4 m c) (emb4 t p j)).symm
theorem final4 (c : Dev nD) : (dats m 0 c).arrAt 4 cfg0.N = arr4 m c := by
  refine (dats m 0 c).arrAt_eq_of_covers 4 _ (by decide +kernel) fun t _ y => ?_
  blk_simp
  rw [after0_4]; frame_out
  exact out4 m c t y

theorem emb5 (t : Fin cfg0.N) (p : Fin 256) (j : Fin 512) : (((cfg0.win 5).blk t).view.emb (ix2 p j) : S16896x512.Idx) = ix2 (row t p) j := by
  blk_ext [idx t]
theorem out5 (c : Dev nD) (t : Fin cfg0.N) (y : S256x512.Idx) :
    k0_pay1 (F := Ideal) (k0_pay3 (iblk m c 1 t) (iblk m c 0 t) (iblk m c 2 t) (iblk m c 3 t)) y = arr5 m c (((cfg0.win 5).blk t).view.emb y) := by
  obtain ⟨p, j, rfl⟩ : ∃ (p : Fin 256) (j : Fin 512), y = ix2 p j := ⟨y 0, y 1, eq_ix2 y⟩
  exact (second_pt m c t p j).trans (congrArg (arr5 m c) (emb5 t p j)).symm
theorem final5 (c : Dev nD) : (dats m 0 c).arrAt 5 cfg0.N = arr5 m c := by
  refine (dats m 0 c).arrAt_eq_of_covers 5 _ (by decide +kernel) fun t _ y => ?_
  blk_simp
  rw [after0_5]; frame_out
  rw [pay5_eq]
  exact out5 m c t y

theorem emb6 (t : Fin cfg0.N) (p : Fin 256) (j : Fin 512) : (((cfg0.win 6).blk t).view.emb (ix2 p j) : S16896x512.Idx) = ix2 (row t p) j := by
  blk_ext [idx t]
theorem out6 (c : Dev nD) (t : Fin cfg0.N) (y : S256x512.Idx) :
    k0_pay2 (F := Ideal) (k0_pay3 (iblk m c 1 t) (iblk m c 0 t) (iblk m c 2 t) (iblk m c 3 t)) y = arr6 m c (((cfg0.win 6).blk t).view.emb y) := by
  obtain ⟨p, j, rfl⟩ : ∃ (p : Fin 256) (j : Fin 512), y = ix2 p j := ⟨y 0, y 1, eq_ix2 y⟩
  exact (third_pt m c t p j).trans (congrArg (arr6 m c) (emb6 t p j)).symm
theorem final6 (c : Dev nD) : (dats m 0 c).arrAt 6 cfg0.N = arr6 m c := by
  refine (dats m 0 c).arrAt_eq_of_covers 6 _ (by decide +kernel) fun t _ y => ?_
  blk_simp
  rw [after0_6]; frame_out
  rw [pay5_eq]
  exact out6 m c t y

end Cert.Kernel2Ideal.Body
end
-- ==== Proof.EvenRef.lean ====
module

public import proofs.«01_k».proof.Proof.Gen.Reference2Ideal.Read
public import proofs.«01_k».proof.Proof.Even
public import Idealize.ShloMosaic.Lib.Pointwise

@[expose] public section

set_option maxRecDepth 16384

noncomputable section

namespace Cert.Reference2Ideal.Body

open Cert.Reference2Ideal Cert.Reference2Ideal.Read
open Idealize.ShloMosaic Idealize.ShloMosaic.TcCoe

variable (x0 : FVec Ideal S16896x1024 .f32) (x1 : FVec Ideal S8x6x1024 .f32) (x2 : FVec Ideal S1024 .f32) (x3 : FVec Ideal S1024x2560 .f32)

/-- The context's rows, projected. -/
theorem ctx_at (b : Fin 2) (p : Fin 256) (j : Fin 2560) :
    val_main_v26 (F := Ideal) x0 x1 x2 x3 (ix3 b p j) = Cert.Even.entry x0 x1 x2 x3 ⟨b.val * 8448 + p.val, by omega⟩ j := by
  have hm : Cert.Even.modRow ⟨b.val * 8448 + p.val, by omega⟩ = 2 := by
    apply Fin.ext; show (if (b.val * 8448 + p.val) % 8448 < 256 then 2 else _) = 2
    rw [if_pos (by omega)]
  unfold Cert.Even.entry; rw [hm]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0,
    val_main_cst, val_main_cst_0, val_main_cst_1, val_main_cst_2, Cert.Even.proj, Cert.Even.norm]

/-- The latents' rows, projected. -/
theorem lat_at (b : Fin 2) (p : Fin 8192) (j : Fin 2560) :
    val_main_v62 (F := Ideal) x0 x1 x2 x3 (ix3 b p j) = Cert.Even.entry x0 x1 x2 x3 ⟨b.val * 8448 + (256 + p.val), by omega⟩ j := by
  have hm : Cert.Even.modRow ⟨b.val * 8448 + (256 + p.val), by omega⟩ = ⟨b.val, by omega⟩ := by
    apply Fin.ext; show (if (b.val * 8448 + (256 + p.val)) % 8448 < 256 then 2 else (b.val * 8448 + (256 + p.val)) / 8448) = b.val
    rw [if_neg (by omega)]; omega
  unfold Cert.Even.entry; rw [hm]
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v4, val_main_v3, val_main_v0,
    val_main_cst_5, val_main_cst_6, val_main_cst_7, val_main_cst_8, Cert.Even.proj, Cert.Even.norm]

/-- The three results, entry by entry. -/
theorem first_at (r : Fin 16896) (j : Fin 512) : val_main_v78 (F := Ideal) x0 x1 x2 x3 (ix2 r j) = Cert.Even.first x0 x1 x2 x3 r j := by
  pointwise [val_main_v78, val_main_v77]
  refine Cert.Even.split_row (fun r => Cert.Even.first x0 x1 x2 x3 r j) (fun b p => val_main_v35 (F := Ideal) x0 x1 x2 x3 (ix3 b p j))
    (fun b p => val_main_v71 (F := Ideal) x0 x1 x2 x3 (ix3 b p j)) (fun b p => ?_) (fun b p => ?_) r
  · show _ = Cert.Even.gate _ _
    rw [← ctx_at, ← ctx_at]
    pointwise [val_main_v35, val_main_v34, val_main_v33, val_main_v32, val_main_v31, val_main_v30, val_main_v29, val_main_v28, val_main_v27, val_main_cst_3, val_main_cst_4, Cert.Even.gate]
  · show _ = Cert.Even.gate _ _
    rw [← lat_at, ← lat_at]
    pointwise [val_main_v71, val_main_v70, val_main_v69, val_main_v68, val_main_v67, val_main_v66, val_main_v65, val_main_v64, val_main_v63, val_main_cst_9, val_main_cst_10, Cert.Even.gate]
theorem second_at (r : Fin 16896) (j : Fin 512) : val_main_v80 (F := Ideal) x0 x1 x2 x3 (ix2 r j) = Cert.Even.second x0 x1 x2 x3 r j := by
  pointwise [val_main_v80, val_main_v79]
  refine Cert.Even.split_row (fun r => Cert.Even.second x0 x1 x2 x3 r j) (fun b p => val_main_v37 (F := Ideal) x0 x1 x2 x3 (ix3 b p j))
    (fun b p => val_main_v73 (F := Ideal) x0 x1 x2 x3 (ix3 b p j)) (fun b p => ?_) (fun b p => ?_) r
  · show _ = Cert.Even.entry _ _ _ _ _ _
    rw [← ctx_at]
    pointwise [val_main_v37, val_main_v36]
  · show _ = Cert.Even.entry _ _ _ _ _ _
    rw [← lat_at]
    pointwise [val_main_v73, val_main_v72]
theorem third_at (r : Fin 16896) (j : Fin 512) : val_main_v82 (F := Ideal) x0 x1 x2 x3 (ix2 r j) = Cert.Even.third x0 x1 x2 x3 r j := by
  pointwise [val_main_v82, val_main_v81]
  refine Cert.Even.split_row (fun r => Cert.Even.third x0 x1 x2 x3 r j) (fun b p => val_main_v40 (F := Ideal) x0 x1 x2 x3 (ix3 b p j))
    (fun b p => val_main_v76 (F := Ideal) x0 x1 x2 x3 (ix3 b p j)) (fun b p => ?_) (fun b p => ?_) r
  · show _ = Cert.Even.entry _ _ _ _ _ _ * Cert.Even.entry _ _ _ _ _ _
    rw [← ctx_at, ← ctx_at]
    pointwise [val_main_v40, val_main_v39, val_main_v38, val_main_v36]
    have e1 : 1024 + (512 + j.val) = 1536 + j.val := by omega
    have e2 : 1024 + (1024 + j.val) = 2048 + j.val := by omega
    simp only [e1, e2]
  · show _ = Cert.Even.entry _ _ _ _ _ _ * Cert.Even.entry _ _ _ _ _ _
    rw [← lat_at, ← lat_at]
    pointwise [val_main_v76, val_main_v75, val_main_v74, val_main_v72]
    have e1 : 1024 + (512 + j.val) = 1536 + j.val := by omega
    have e2 : 1024 + (1024 + j.val) = 2048 + j.val := by omega
    simp only [e1, e2]

end Cert.Reference2Ideal.Body
end
-- ==== Proof.EvenClaim.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import proofs.«01_k».proof.Proof.EvenI
public import proofs.«01_k».proof.Proof.EvenRef
public import Idealize.ShloMosaic.Adequacy
public import Idealize.ShloMosaic.Init

@[expose] public section

set_option maxRecDepth 16384

noncomputable section

/-! The claims about the even layers' opening. -/

namespace Cert.Proof

open Idealize.ShloMosaic Idealize.SL.Sem

theorem even_frame_p : Cert.quiescent_Kernel2 := fun m ρ _ => Cert.Kernel2.Gen.frame m ρ
theorem even_frame_pi : Cert.quiescent_Kernel2Ideal := fun m ρ _ => Cert.Kernel2Ideal.Gen.frame m ρ
theorem even_frame_ri : Cert.quiescent_Reference2Ideal := by
  intro m g _
  exact (θ_run Cert.Reference2Ideal.defs _ _).mono (fun r h => ⟨fun c => (h c).2.2.2, Idealize.ShloMosaic.sem_eq_zero_of_no_sems (by decide) r.2⟩)
    (Cert.Reference2Ideal.Value.run m g)

/-- The three results are the reference's. -/
theorem even_value : Cert.algebraic_Kernel2Ideal_Reference2Ideal := by
  intro m g m' g' _ hagree
  refine ⟨fun c => Cert.Kernel2Ideal.Body.arr4 m c, fun c => Cert.Kernel2Ideal.Body.arr5 m c, fun c => Cert.Kernel2Ideal.Body.arr6 m c,
    (θ_run Cert.Kernel2Ideal.defs _ _).mono (fun r h c => ⟨(h c).1.trans (Cert.Kernel2Ideal.Body.final4 m c),
      (h c).2.1.trans (Cert.Kernel2Ideal.Body.final5 m c), (h c).2.2.1.trans (Cert.Kernel2Ideal.Body.final6 m c), (h c).2.2.2⟩) (Cert.Kernel2Ideal.Value.run_blocks m g),
    (θ_run Cert.Reference2Ideal.defs _ _).mono (fun r h c => ⟨?_, ?_, ?_, (h c).2.2.2⟩) (Cert.Reference2Ideal.Value.run m' g')⟩
  · refine ((h c).1.trans (Cert.Reference2Ideal.Read.val_main_v78_eq m' c)).trans ?_
    rw [(hagree c).1, (hagree c).2.1, (hagree c).2.2.1, (hagree c).2.2.2]
    funext i
    obtain ⟨r, j, rfl⟩ : ∃ (r : Fin 16896) (j : Fin 512), i = ix2 r j := ⟨i 0, i 1, eq_ix2 i⟩
    exact Cert.Reference2Ideal.Body.first_at _ _ _ _ r j
  · refine ((h c).2.1.trans (Cert.Reference2Ideal.Read.val_main_v80_eq m' c)).trans ?_
    rw [(hagree c).1, (hagree c).2.1, (hagree c).2.2.1, (hagree c).2.2.2]
    funext i
    obtain ⟨r, j, rfl⟩ : ∃ (r : Fin 16896) (j : Fin 512), i = ix2 r j := ⟨i 0, i 1, eq_ix2 i⟩
    exact Cert.Reference2Ideal.Body.second_at _ _ _ _ r j
  · refine ((h c).2.2.1.trans (Cert.Reference2Ideal.Read.val_main_v82_eq m' c)).trans ?_
    rw [(hagree c).1, (hagree c).2.1, (hagree c).2.2.1, (hagree c).2.2.2]
    funext i
    obtain ⟨r, j, rfl⟩ : ∃ (r : Fin 16896) (j : Fin 512), i = ix2 r j := ⟨i 0, i 1, eq_ix2 i⟩
    exact Cert.Reference2Ideal.Body.third_at _ _ _ _ r j

end Cert.Proof
end
-- ==== Proof.MoveI.lean ====
module

public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import Idealize.ShloMosaic.Lib.Tactic
public import Idealize.ShloMosaic.Lib.Batch
public import Idealize.ShloMosaic.Lib.Ring
public import Idealize.ShloMosaic.Lib.Pipeline.FrameBody
public import Idealize.ShloMosaic.Lib.Pipeline.Value

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## The rows -/

/-- The table of places, the experts' rows, and the buffer the rows are moved into. -/
abbrev tW : Memref sig .tc .smem S16896 .i32 := Memref.whole main_arg0
abbrev yW : Memref sig .tc .hbm S23040x1024 .f32 := Memref.whole main_arg3
abbrev bW : Memref sig .tc .vmem S256x1024 .f32 := Memref.whole cc0_scratch0
/-- The semaphore the moves credit. -/
abbrev dsem : DmaSem sig := cc0_scratch1.sem

theorem brow_inb (j : ℕ) (h : j < 256) : ∀ a, (![j, 0] : Fin 2 → ℕ) a + S1x1024.size a ≤ S256x1024.size a := by
  intro a; fin_cases a
  · show j + 1 ≤ 256; omega
  · show 0 + 1024 ≤ 1024; omega
theorem yrow_inb (r : ℕ) (h : r < 23040) : ∀ a, (![r, 0] : Fin 2 → ℕ) a + S1x1024.size a ≤ S23040x1024.size a := by
  intro a; fin_cases a
  · show r + 1 ≤ 23040; omega
  · show 0 + 1024 ≤ 1024; omega
theorem word_inb (n : ℕ) (h : n < 16896) : ∀ a, (![n] : Fin 1 → ℕ) a + S1.size a ≤ S16896.size a := by
  intro a; fin_cases a; show n + 1 ≤ 16896; omega

/-- Row `j` of the buffer; row `r` of the experts' rows. -/
abbrev bRow (j : ℕ) (h : j < 256) : Memref sig .tc .vmem S1x1024 .f32 := bW.slice (Rect.unit (s := S256x1024) ![j, 0] S1x1024.size (brow_inb j h)) (fun _ => rfl)
abbrev yRow (r : ℕ) (h : r < 23040) : Memref sig .tc .hbm S1x1024 .f32 := yW.slice (Rect.unit (s := S23040x1024) ![r, 0] S1x1024.size (yrow_inb r h)) (fun _ => rfl)

/-- Their elements. -/
abbrev bset (j : ℕ) (h : j < 256) : Finset S256x1024.Idx := (Rect.unit (s := S256x1024) ![j, 0] S1x1024.size (brow_inb j h)).set
abbrev yset (r : ℕ) (h : r < 23040) : Finset S23040x1024.Idx := (Rect.unit (s := S23040x1024) ![r, 0] S1x1024.size (yrow_inb r h)).set
theorem bset_eq (j : ℕ) (h : j < 256) : (bRow j h).view.set = bset j h := View.set_slice_whole _ _
theorem yset_eq (r : ℕ) (h : r < 23040) : (yRow r h).view.set = yset r h := View.set_slice_whole _ _

/-- The one index of a single word read from the table. -/
abbrev i0 : S1.Idx := Shape.Idx.first (s := S1) (numel1_S1.symm ▸ Nat.one_pos)
/-- The table's index `n`. -/
def tix (n : ℕ) (h : n < 16896) : S16896.Idx := fun a => ⟨n, by fin_cases a; exact h⟩
/-- The place of row `n`. -/
def place (x : Vec F S16896 .i32) (n : ℕ) (h : n < 16896) : BitVec 32 := x (tix n h)

theorem pos_lt (i : grid0.Coords) (j : ℕ) (h : j < 256) : 256 * (i 0).val + j < 16896 := by
  have : (i 0).val < 66 := (i 0).isLt
  omega

/-- Every place is one of the experts' rows. -/
def Placed (x : Vec F S16896 .i32) : Prop := ∀ n h, (place x n h).toNat < 23040

section Rows

variable (c : Dev nD) (i : grid0.Coords) (x : Vec F S16896 .i32) (hx : Placed x) (y : Vec F S23040x1024 .f32) (f0 : Vec F S256x1024 .f32)

/-- The experts' row that goes to row `j` of tile `i`. -/
def src (j : ℕ) (h : j < 256) : ℕ := (place x (256 * (i 0).val + j) (pos_lt i j h)).toNat
include hx in
theorem src_lt (j : ℕ) (h : j < 256) : src i x j h < 23040 := hx _ _

/-- The tile's rows, once moved. -/
def moved : Vec F S256x1024 .f32 := fun p => y (fun a => if h : a.val = 0 then ⟨src i x (p 0).val (p 0).isLt, by
    have := src_lt i x hx (p 0).val (p 0).isLt
    obtain ⟨a, ha⟩ := a; cases a with
    | zero => exact this
    | succ n => exact absurd h (Nat.succ_ne_zero n)⟩ else ⟨(p 1).val, by
    have := (p 1).isLt
    obtain ⟨a, ha⟩ := a; cases a with
    | zero => exact absurd rfl h
    | succ n => cases n with
      | zero => exact this
      | succ n => exact absurd ha (by show ¬ (n + 1 + 1 < 2); omega)⟩)

/-- A share of the experts' row that goes to row `t`. -/
def piece (t : Fin 256) : sProp 𝕄 :=
  yW.view.loc (c : Thread nD τ) ↦[yset (src i x t.val t.isLt) (src_lt i x hx t.val t.isLt)]{Transfers.shareTokN fullShare t.val} y
/-- Row `t` of the buffer, at contents `f`. -/
def rowAt (f : Vec F S256x1024 .f32) (t : Fin 256) : sProp 𝕄 :=
  bW.view.loc (c : Thread nD τ) ↦[bset t.val t.isLt]{fullShare} f
/-- What move `t` delivers. -/
def deliv (t : Fin 256) : sProp 𝕄 := iprop(rowAt c (moved i x hx y) t ∗ piece c i x hx y t)
instance deliv_storable (t : Fin 256) : BI.Storable (upEmb : UEmb _ 𝕄) (deliv c i x hx y t) := by
  unfold deliv rowAt piece; infer_instance

/-- One row's credit. -/
def NN : ℕ := (bRow 0 (by decide)).view.dmaCredit

/-- The moves of a tile: `j` issued, `u` consumed. -/
def batch (j u : ℕ) : sProp 𝕄 :=
  Transfers.Batch (countersEmb (U := UD sig nD τ)) (c : Thread nD τ) (.dma dsem) () NN (deliv c i x hx y) j u

/-- Before move `j`. -/
def Inv (q : PosShare TreeShare) (j : ℕ) : sProp 𝕄 :=
  iprop((tW.view.loc (c : Thread nD τ) ↦{q} x) ∗ batch c i x hx y j 0
    ∗ bigSep (Ring.rangeSet 256 j 256) fun t => iprop(rowAt c f0 t ∗ piece c i x hx y t))

theorem moved_row (j : ℕ) (h : j < 256) (f : Vec F S256x1024 .f32) :
    ∀ p ∈ bset j h, (bRow j h).view.write (Elt F) f (ReadAs.same.apply ((yRow (src i x j h) (src_lt i x hx j h)).view.read (Elt F) y)) Finset.univ p
      = moved i x hx y p := by
  intro p hp
  rw [← bset_eq] at hp
  obtain ⟨z, -, rfl⟩ := Finset.mem_map.mp hp
  rw [View.write_emb_of_mem _ _ (Finset.mem_univ z)]
  have hz0 : (z 0).val = 0 := by have : (z 0).val < 1 := (z 0).isLt; omega
  have e0 : (((bRow j h).view.emb z) 0).val = j := by show j + 1 * (z 0).val = j; omega
  have e1 : (((bRow j h).view.emb z) 1).val = (z 1).val := by show 0 + 1 * (z 1).val = _; omega
  show y _ = y _
  congr 1
  funext a
  fin_cases a
  · apply Fin.ext
    show src i x j h + 1 * (z 0).val = src i x (((bRow j h).view.emb z) 0).val (((bRow j h).view.emb z) 0).isLt
    rw [hz0]; simp only [e0]; rfl
  · apply Fin.ext
    show 0 + 1 * (z 1).val = (((bRow j h).view.emb z) 1).val
    rw [e1]; omega

theorem row_step {q : PosShare TreeShare} (j : ℕ) (hj : j < 256)
    {off1 : Fin 1 → ℕ} {inb1 : ∀ a, off1 a + S1.size a ≤ S16896.size a} {hw : (tW.access (Rect.unit (s := S16896) off1 S1.size inb1)).Loads}
    {chk : BitVec 32 → Prop} {dec : ∀ v, Decidable (chk v)} {offy : BitVec 32 → Fin 2 → ℕ}
    {inby : ∀ v, PLift (chk v) → ∀ a, offy v a + S1x1024.size a ≤ S23040x1024.size a}
    {off2 : Fin 2 → ℕ} {inb2 : ∀ a, off2 a + S1x1024.size a ≤ S256x1024.size a}
    {ha : ∀ v (h : PLift (chk v)) a, (Rect.unit (s := S23040x1024) (offy v) S1x1024.size (inby v h)).stride a = 1}
    {hb : ∀ a, (Rect.unit (s := S256x1024) off2 S1x1024.size inb2).stride a = 1} {hs : ∀ v h, View.WordExact (yW.slice (Rect.unit (s := S23040x1024) (offy v) S1x1024.size (inby v h)) (ha v h)).view}
    {hd : View.WordExact (bW.slice (Rect.unit (s := S256x1024) off2 S1x1024.size inb2) hb).view}
    {hsem : DmaTarget.Typed (nD := nD) .hbm (.dma dsem) (DmaTarget.here (p := (Proc.tc : Proc τ)) (bW.slice (Rect.unit (s := S256x1024) off2 S1x1024.size inb2) hb))}
    {k : PUnit → Prog (TpuEff nD τ sig (Elt F) Λ₀ .tc) PUnit} {Q : PUnit → sProp 𝕄}
    (h1 : off1 = ![256 * (i 0).val + j]) (h2 : off2 = ![j, 0]) (hy : offy = fun v => ![v.toNat, 0])
    (hc : chk = fun v => ∀ a, offy v a + S1x1024.size a ≤ S23040x1024.size a) :
    Inv c i x hx y f0 q j ⊢ iprop((Inv c i x hx y f0 q (j + 1) -∗ wp frame (wpE (defs₀ (F := F)) Variants.none (c : Thread nD τ) none) Set.univ (k ⟨⟩) Q)
      -∗ wp frame (wpE (defs₀ (F := F)) Variants.none (c : Thread nD τ) none) Set.univ
        (smemLoadElt tW (Rect.unit (s := S16896) off1 S1.size inb1) hw i0 fun v =>
          .op (.assume (chk v) (dec v)) fun h =>
          .op (.enqueueDmaAs (yW.slice (Rect.unit (s := S23040x1024) (offy v) S1x1024.size (inby v h)) (ha v h))
            (.here (bW.slice (Rect.unit (s := S256x1024) off2 S1x1024.size inb2) hb)) .same (.dma dsem) (hs v h) hd hsem) k) Q) := by
  subst h1 h2 hy hc
  unfold Inv
  rw [Ring.bigSep_rangeSet_head hj hj]
  iintro ⟨Ht, HB, ⟨Hr, Hp⟩, Hrest⟩ Hk
  iapply (wp_smemLoadElt_named (defs := defs₀ (F := F)) Variants.none (c : Thread nD τ) none Set.univ (m := tW) (r := Rect.unit (s := S16896) ![256 * (i 0).val + j] S1.size inb1) (x := i0) (S := (Finset.univ : Finset S16896.Idx)) (q := q) (f := x) (fun _ _ => Finset.mem_univ _)) $$ Ht
  iintro Ht %w %hw
  have hv : (tW.access (Rect.unit (s := S16896) ![256 * (i 0).val + j] S1.size inb1)).read (Elt F) x i0 = place x (256 * (i 0).val + j) (pos_lt i j hj) := by
    show x _ = x _
    congr 1
    funext a
    fin_cases a
    apply Fin.ext
    show 256 * (i 0).val + j + 1 * 0 = 256 * (i 0).val + j
    omega
  rw [hv] at hw; subst hw
  iapply (wp_assume (defs := defs₀ (F := F)) Variants.none (c : Thread nD τ) none Set.univ (yrow_inb _ (hx _ _)))
  unfold batch
  iapply (Transfers.wp_dmaBatch (countersEmb (U := UD sig nD τ)) Variants.none (c : Thread nD τ) none (src := yRow (src i x j hj) (src_lt i x hx j hj)) (dst := bRow j hj)
    (q := Transfers.shareTokN fullShare j) (fs := y) (fd := f0) (D := deliv c i x hx y) (j := j) (u := 0) () NN rfl (Finset.Subset.refl _) hj (Nat.zero_le _) ?_) $$ [Hr Hp HB]
  · unfold deliv rowAt piece
    exact by
      rw [bset_eq, yset_eq]
      exact sep_mono_left (Entails.of_eq (pointsTo_congr (moved_row i x hx y j hj f0)))
  · isplitl [Hp]; · unfold piece; rw [yset_eq]; iexact Hp
    isplitl [Hr]; · unfold rowAt; rw [bset_eq]; iexact Hr
    iexact HB
  iintro HB
  iapply Hk
  isplitl [Ht]; · iexact Ht
  isplitl [HB]; · iexact HB
  iexact Hrest

theorem pure_then {α β : Type} (a : α) (k : α → Prog (TpuEff nD τ sig (Elt F) Λ₀ .tc) β) : (Pure.pure a >>= k) = k a := rfl

set_option maxHeartbeats 800000 in
theorem issue_step (q : PosShare TreeShare)
    (arg2 : Memref sig .tc .vmem S256x1024 .f32) (harg2 : arg2.IsWhole) (arg3 : Memref sig .tc .vmem S1x6x1024 .f32) (harg3 : arg3.IsWhole) (arg4 : Memref sig .tc .vmem S1x1024 .f32) (harg4 : arg4.IsWhole)
    (arg6 : Memref sig .tc .vmem S1x256x1024 .f32) (harg6 : arg6.IsWhole) (v0 : BitVec 32) (k : Fin k0_t1_loop.trips) (acc : Unit) :
    Inv c i x hx y f0 q (32 * k.val) ⊢ wp frame (wpE (defs₀ (F := F)) Variants.none (c : Thread nD τ) none) Set.univ
      (k0_t1_body i tW (Memref.isWhole_whole _) arg2 harg2 arg3 harg3 arg4 harg4 yW (Memref.isWhole_whole _) arg6 harg6 bW (Memref.isWhole_whole _) cc0_scratch1 v0 k acc)
      (fun _ => Inv c i x hx y f0 q (32 * (k.val + 1))) := by
  have hk : k.val < 8 := lt_of_lt_of_eq k.isLt (by decide)
  unfold k0_t1_body
  simp only [k0_part7_eq_skeleton, k0_part7_skel, k0_part6_eq_skeleton, k0_part6_skel, k0_part5_eq_skeleton, k0_part5_skel, k0_part4_eq_skeleton, k0_part4_skel,
    k0_part3_eq_skeleton, k0_part3_skel, k0_part2_eq_skeleton, k0_part2_skel, k0_part1_eq_skeleton, k0_part1_skel]
  simp only [smemLoad, smemLoadElt_bind, Prog.bind_assoc, Prog.bind_lift, Prog.bind_op, Prog.bind_ret, pure_then]
  iintro HI
  iterate 32
    iapply (row_step c i x hx y f0 (q := q) _ ?hj ?h1 ?h2 ?hy ?hc) $$ HI
    case hj => omega
    case h1 => exact (ClosedOff.eq (off := _)).trans rfl
    case h2 => exact (ClosedOff.eq (off := _)).trans rfl
    case hy => rfl
    case hc => rfl
    iintro HI
  sl_step
  rw [show 32 * (k.val + 1) = 32 * k.val + 32 from rfl]
  iexact HI

end Rows

end Cert.Kernel3Ideal.Body

end
-- ==== Proof.DrainI.lean ====
module

public import proofs.«01_k».proof.Proof.MoveI

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (c : Dev nD) (i : grid0.Coords) (x : Vec F S16896 .i32) (hx : Placed x) (y : Vec F S23040x1024 .f32) (f0 : Vec F S256x1024 .f32)

/-- Before wait `k`: that many rows' units consumed; after the last, the semaphore at zero and every row moved. -/
def Drain (q : PosShare TreeShare) (k : ℕ) : sProp 𝕄 :=
  iprop((tW.view.loc (c : Thread nD τ) ↦{q} x) ∗ (∃ W, owes (c : Thread nD τ) 0 W)
    ∗ (if k < 256 then batch c i x hx y 256 (k * NN)
      else iprop(semVal ((c : Thread nD τ), SemLoc.dma dsem) 0 ∗ bigSep Finset.univ (deliv c i x hx y))))

theorem NN_pos : 0 < NN := View.dmaCredit_pos _ (by decide)

set_option maxHeartbeats 800000 in
theorem drain_step (q : PosShare TreeShare)
    (arg2 : Memref sig .tc .vmem S256x1024 .f32) (harg2 : arg2.IsWhole) (arg3 : Memref sig .tc .vmem S1x6x1024 .f32) (harg3 : arg3.IsWhole) (arg4 : Memref sig .tc .vmem S1x1024 .f32) (harg4 : arg4.IsWhole)
    (arg6 : Memref sig .tc .vmem S1x256x1024 .f32) (harg6 : arg6.IsWhole) (k : Fin k0_t2_loop.trips) (acc : Unit) :
    Drain c i x hx y q k.val ⊢ wp frame (wpE (defs₀ (F := F)) Variants.none (c : Thread nD τ) none) Set.univ
      (k0_t2_body i tW (Memref.isWhole_whole _) arg2 harg2 arg3 harg3 arg4 harg4 yW (Memref.isWhole_whole _) arg6 harg6 bW (Memref.isWhole_whole _) cc0_scratch1 k acc)
      (fun _ => Drain c i x hx y q (k.val + 1)) := by
  have hk : k.val < 256 := lt_of_lt_of_eq k.isLt (by decide +kernel)
  unfold k0_t2_body Drain
  simp only [smemLoad, smemLoadElt_bind, Prog.bind_assoc, Prog.bind_lift, Prog.bind_op, Prog.bind_ret, pure_then]
  rw [if_pos hk]
  iintro ⟨Ht, ⟨%W, HO⟩, HB⟩
  iapply (wp_smemLoadElt_named (defs := defs₀ (F := F)) Variants.none (c : Thread nD τ) none Set.univ (m := tW) (r := Rect.unit (s := S16896) (k0_off97 i k) S1.size (k0_off97_inb i k)) (x := i0) (S := (Finset.univ : Finset S16896.Idx)) (q := q) (f := x) (fun _ _ => Finset.mem_univ _)) $$ Ht
  iintro Ht %w %hw
  have hv : (tW.access (Rect.unit (s := S16896) (k0_off97 i k) S1.size (k0_off97_inb i k))).read (Elt F) x i0 = place x (256 * (i 0).val + k.val) (pos_lt i k.val hk) := by
    show x _ = x _
    congr 1
    funext a
    fin_cases a
    apply Fin.ext
    show k0_off97 i k 0 + 1 * 0 = 256 * (i 0).val + k.val
    rw [k0_off97_eq i k]; rfl
  rw [hv] at hw; subst hw
  iapply (wp_assume (defs := defs₀ (F := F)) Variants.none (c : Thread nD τ) none Set.univ (yrow_inb _ (hx _ _)))
  unfold batch
  by_cases h1 : k.val + 1 < 256
  · iapply (Transfers.wp_waitBatch (countersEmb (U := UD sig nD τ)) Variants.none (c : Thread nD τ) none (N := NN) (u := k.val * NN) (W := W) () ?_
      (by rw [← Nat.succ_mul, Nat.mul_comm NN]; exact Nat.mul_lt_mul_of_pos_right h1 NN_pos)) $$ [HB HO]
    · rfl
    · isplitl [HB] <;> iassumption
    iintro ⟨HB, HO⟩
    sl_step
    rw [if_pos h1, show (k.val + 1) * NN = k.val * NN + NN from Nat.succ_mul _ _]
    isplitl [Ht]; · iexact Ht
    isplitl [HO]; · iexists _; iexact HO
    iexact HB
  · iapply (Transfers.wp_waitBatchLast (countersEmb (U := UD sig nD τ)) Variants.none (c : Thread nD τ) none (N := NN) (u := k.val * NN) (W := W) () ?_ NN_pos
      (by rw [← Nat.succ_mul, Nat.mul_comm NN, show k.val.succ = 256 by omega])) $$ [HB HO]
    · rfl
    · isplitl [HB] <;> iassumption
    iintro ⟨HD, Hs, HO⟩
    sl_step
    rw [if_neg h1]
    isplitl [Ht]; · iexact Ht
    isplitl [HO]; · iexists _; iexact HO
    isplitl [Hs] <;> iassumption

/-! ## The whole buffers as rows -/

theorem mem_bset (j : ℕ) (h : j < 256) (p : S256x1024.Idx) : p ∈ bset j h ↔ (p 0).val = j := by
  rw [Rect.mem_set_unit]
  have h1 : (p 1).val < 1024 := (p 1).isLt
  constructor
  · intro H; have a0 : j ≤ (p 0).val ∧ (p 0).val < j + 1 := H 0; omega
  · intro H a; fin_cases a
    · show j ≤ (p 0).val ∧ (p 0).val < j + 1; omega
    · show 0 ≤ (p 1).val ∧ (p 1).val < 0 + 1024; omega
theorem bset_disjoint : ∀ b b' : Fin 256, b ≠ b' → Disjoint (bset b.val b.isLt) (bset b'.val b'.isLt) := fun b b' hne => by
  rw [Finset.disjoint_left]; intro p hp hp'; rw [mem_bset] at hp hp'; exact hne (Fin.ext (by omega))
theorem bset_cover : Finset.univ.biUnion (fun b : Fin 256 => bset b.val b.isLt) = Finset.univ := by
  ext p; simp only [Finset.mem_biUnion, Finset.mem_univ, true_and, iff_true]; exact ⟨p 0, (mem_bset _ _ _).mpr rfl⟩

/-- The buffer whole is its rows. -/
theorem rows_eq (f : Vec F S256x1024 .f32) :
    (bW.view.loc (c : Thread nD τ) ↦{fullShare} f : sProp 𝕄) = bigSep Finset.univ (rowAt c f) :=
  Ring.pointsTo_blocks (ℓ := bW.view.loc (c : Thread nD τ)) (q := fullShare) (fun b : Fin 256 => bset b.val b.isLt) bset_disjoint bset_cover f

/-- What is left of a share of the experts' rows without the row that goes to row `t`. -/
def others (t : Fin 256) : sProp 𝕄 :=
  yW.view.loc (c : Thread nD τ) ↦[Finset.univ \ yset (src i x t.val t.isLt) (src_lt i x hx t.val t.isLt)]{Transfers.shareTokN fullShare t.val} y

theorem tok_eq (t : Fin 256) :
    (yW.view.loc (c : Thread nD τ) ↦[Finset.univ]{Transfers.shareTok fullShare 256 t} y : sProp 𝕄) ⊣⊢ iprop(piece c i x hx y t ∗ others c i x hx y t) :=
  pointsTo_split_subset (Finset.subset_univ _)

/-- The experts' rows whole, as a share for each row moved and the rest. -/
theorem toks_split : (yW.view.loc (c : Thread nD τ) ↦{fullShare} y : sProp 𝕄)
    ⊢ iprop((yW.view.loc (c : Thread nD τ) ↦{Transfers.shareDrop fullShare 256} y) ∗ bigSep Finset.univ (piece c i x hx y) ∗ bigSep Finset.univ (others c i x hx y)) := by
  refine (Transfers.pointsTo_toks_split fullShare 256).trans (sep_mono_right ?_)
  refine (BI.bigSep_mono fun t _ => (tok_eq c i x hx y t).1).trans ?_
  exact Entails.of_eq (BI.bigSep_sep _ _ _)
theorem toks_join : iprop((yW.view.loc (c : Thread nD τ) ↦{Transfers.shareDrop fullShare 256} y) ∗ bigSep Finset.univ (piece c i x hx y) ∗ bigSep Finset.univ (others c i x hx y))
    ⊢ (yW.view.loc (c : Thread nD τ) ↦{fullShare} y : sProp 𝕄) := by
  refine (sep_mono_right ?_).trans (Transfers.pointsTo_toks_join fullShare 256)
  exact (Entails.of_eq (BI.bigSep_sep _ _ _).symm).trans (BI.bigSep_mono fun t _ => (tok_eq c i x hx y t).2)

theorem z2 : (![0, 0] : Fin 2 → Nat) = fun _ => 0 := by decide
theorem z3 : (![0, 0, 0] : Fin 3 → Nat) = fun _ => 0 := by decide

/-- Reading a buffer overwritten whole. -/
theorem read_over {sp : Space} {s : Shape} {e : EltTy} (v : View sig .tc sp s e) (f : v.ty.Contents (Elt F))
    {off : Fin s.rank → Nat} (h : off = fun _ => 0) (inb : ∀ a, off a + s.size a ≤ s.size a) (p : s.Idx → Elt F e) :
    v.read (Elt F) (v.writes (Elt F) f [⟨Rect.unit off s.size inb, p⟩]) = p := by
  rw [View.read_writes_eq_canon _ _ _ (fun y => ⟨_, List.mem_singleton_self _, View.mem_set_unit_zero h inb y⟩), View.canon_unit_zero h]

/-- Loading all of it. -/
theorem readAt_full {sp : Space} {s : Shape} {e : EltTy} (v : View sig .tc sp s e) (f : v.ty.Contents (Elt F))
    {off : Fin s.rank → Nat} (h : off = fun _ => 0) (inb : ∀ a, off a + s.size a ≤ s.size a) :
    v.readAt (Elt F) (Rect.unit off s.size inb).toLoadRect f = v.read (Elt F) f := by
  rw [View.readAt_eq_ld, View.ld_unit_zero h]

set_option maxHeartbeats 1600000 in
theorem sound_kernel (q : PosShare TreeShare)
    (arg2 : Memref sig .tc .vmem S256x1024 .f32) (harg2 : arg2.IsWhole) (arg3 : Memref sig .tc .vmem S1x6x1024 .f32) (harg3 : arg3.IsWhole) (arg4 : Memref sig .tc .vmem S1x1024 .f32) (harg4 : arg4.IsWhole)
    (arg6 : Memref sig .tc .vmem S1x256x1024 .f32) (harg6 : arg6.IsWhole)
    (x2 : Vec F S256x1024 .f32) (x3 : Vec F S1x6x1024 .f32) (x4 : Vec F S1x1024 .f32) (K : PUnit → sProp 𝕄) :
    iprop((tW.view.loc (c : Thread nD τ) ↦{q} x) ∗ owns c arg2 fullShare x2 ∗ owns c arg3 fullShare x3 ∗ owns c arg4 fullShare x4 ∗ (∃ d, owns c arg6 fullShare d)
      ∗ (yW.view.loc (c : Thread nD τ) ↦{fullShare} y) ∗ (bW.view.loc (c : Thread nD τ) ↦{fullShare} f0) ∗ semVal ((c : Thread nD τ), SemLoc.dma dsem) 0 ∗ (∃ W, owes (c : Thread nD τ) 0 W)
      ∗ (iprop((tW.view.loc (c : Thread nD τ) ↦{q} x) ∗ owns c arg2 fullShare x2 ∗ owns c arg3 fullShare x3 ∗ owns c arg4 fullShare x4 ∗ owns c arg6 fullShare (k0_pay1 x2 x3 (moved i x hx y) x4)
        ∗ (yW.view.loc (c : Thread nD τ) ↦{fullShare} y) ∗ (∃ f, bW.view.loc (c : Thread nD τ) ↦{fullShare} f) ∗ semVal ((c : Thread nD τ), SemLoc.dma dsem) 0 ∗ (∃ W, owes (c : Thread nD τ) 0 W)) -∗ K ⟨⟩))
      ⊢ wp frame (wpE (defs₀ (F := F)) Variants.none (c : Thread nD τ) none) Set.univ
        (cc0_moe_combine_final i tW (Memref.isWhole_whole _) arg2 harg2 arg3 harg3 arg4 harg4 yW (Memref.isWhole_whole _) arg6 harg6 bW (Memref.isWhole_whole _) cc0_scratch1) K := by
  simp only [cc0_moe_combine_final_eq_skeleton]
  sl_unfold [cc0_moe_combine_final_skel]
  dsimp only
  unfold owns
  iintro ⟨Ht, ⟨%f2, %hf2, H2⟩, ⟨%f3, %hf3, H3⟩, ⟨%f4, %hf4, H4⟩, ⟨%d6, %f6, -, H6⟩, Hy, Hb, Hs, HO, Hk⟩
  subst hf2 hf3 hf4
  ihave Hy' := (toks_split c i x hx y) $$ Hy
  icases Hy' with ⟨Hy0, Hp, Ho⟩
  ihave Hr := (Entails.of_eq (rows_eq c f0)) $$ Hb
  imod (Transfers.batch_alloc' (Lvl := ℕ) (countersEmb (U := UD sig nD τ)) (c : Thread nD τ) () NN (deliv c i x hx y) (sm := .dma dsem) (E := Set.univ)) $$ Hs with HB
  ihave HI := (show iprop((tW.view.loc (c : Thread nD τ) ↦{q} x) ∗ batch c i x hx y 0 0 ∗ bigSep Finset.univ (rowAt c f0) ∗ bigSep Finset.univ (piece c i x hx y)) ⊢ Inv c i x hx y f0 q 0 from by
    unfold Inv
    rw [Ring.rangeSet_univ]
    exact sep_mono_right (sep_mono_right (Entails.of_eq (BI.bigSep_sep _ _ _).symm))) $$ [Ht HB Hr Hp]
  · unfold batch
    isplitl [Ht]; · iexact Ht
    isplitl [HB]; · iexact HB
    isplitl [Hr] <;> iassumption
  sl_for (fun k (_ : Unit) => Inv c i x hx y f0 q (32 * k)) $$ [HI]
  · intro k acc; exact issue_step c i x hx y f0 q arg2 harg2 arg3 harg3 arg4 harg4 arg6 harg6 _ k acc
  · iexact HI
  iintro %acc HL
  sl_for (fun k (_ : Unit) => Drain c i x hx y q k) $$ [HL HO]
  · intro k acc; exact drain_step c i x hx y q arg2 harg2 arg3 harg3 arg4 harg4 arg6 harg6 k acc
  · unfold Drain
    rw [if_pos (by decide), Nat.zero_mul]
    ihave HL := (show Inv c i x hx y f0 q (32 * k0_t1_loop.trips) ⊢ iprop((tW.view.loc (c : Thread nD τ) ↦{q} x) ∗ batch c i x hx y 256 0) from by
      rw [show 32 * k0_t1_loop.trips = 256 from by decide +kernel]
      unfold Inv
      rw [Ring.bigSep_rangeSet_empty (le_refl _)]
      iintro ⟨Ht, HB, -⟩
      isplitl [Ht] <;> iassumption) $$ HL
    icases HL with ⟨Ht, HB⟩
    isplitl [Ht]; · iexact Ht
    isplitl [HO]; · iexact HO
    iexact HB
  iintro %acc2 HL
  ihave HL := (show Drain c i x hx y q k0_t2_loop.trips ⊢ iprop((tW.view.loc (c : Thread nD τ) ↦{q} x) ∗ (∃ W, owes (c : Thread nD τ) 0 W)
      ∗ semVal ((c : Thread nD τ), SemLoc.dma dsem) 0 ∗ (bW.view.loc (c : Thread nD τ) ↦{fullShare} moved i x hx y) ∗ bigSep Finset.univ (piece c i x hx y)) from by
    rw [show k0_t2_loop.trips = 256 from by decide +kernel]
    unfold Drain
    rw [if_neg (by decide), rows_eq]
    exact sep_mono_right (sep_mono_right (sep_mono_right (Entails.of_eq (BI.bigSep_sep _ _ _))))) $$ HL
  icases HL with ⟨Ht, HO, Hs, Hb, Hp⟩
  ihave Hy := (toks_join c i x hx y) $$ [Hy0 Hp Ho]
  · isplitl [Hy0]; · iexact Hy0
    isplitl [Hp] <;> iassumption
  sl_exec
  sl_step
  iapply Hk
  isplitl [Ht]; · iexact Ht
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (read_over _ _ z3 _ _).trans ?_
    rw [readAt_full _ _ z2, readAt_full _ _ z3, readAt_full _ _ z2, readAt_full _ _ z2]
    rfl
  isplitl [Hy]; · iexact Hy
  isplitl [Hb]; · iexists _; iexact Hb
  isplitl [Hs] <;> iassumption

end Cert.Kernel3Ideal.Body

end
-- ==== Proof.MoveRunI.lean ====
module

public import proofs.«01_k».proof.Proof.DrainI
import Idealize.ShloMosaic.Lib.StableHlo.RunRead

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation BodyObligationLoose cellOf)

variable {F : FTy → Type} [FloatOps F]

local notation "𝕄" => MT nD τ sig Unit (Elt F) ℕ (UD sig nD τ) ℕ

variable (m : (ℓ : Loc nD τ sig) → Buf (Elt F) ℓ)

/-! ## The contents at the loop's entry -/

/-- What each buffer holds when the loop is entered: the launch memory after the host operation. -/
def V (c : Dev nD) (b : Ref sig .tc) : Buf (Elt F) ((c.tc : Thread nD τ).loc b) :=
  StableHlo.after hostOps0 (fun b => m (c, b)) b

/-- The one buffer the host operation writes: the gains as a row. -/
abbrev written : List (Ref sig .tc) := [main_v0]

/-- Any other buffer still holds its launch contents. -/
theorem V_kept (c : Dev nD) (b : Ref sig .tc) (hb : b ∉ written) : V m c b = m ((c.tc : Thread nD τ).loc b) :=
  StableHlo.after_unwritten written rfl hb _

/-- The gains' row. -/
theorem V_gain (c : Dev nD) : V m c main_v0 = broadcastInDim S1x1024 ![1] bcast_S1024_S1x1024_1 (m ((c.tc : Thread nD τ).loc main_arg4)) := by
  unfold V
  after_reads_simp

/-- The table's contents when the loop is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tW.view.loc (c : Thread nD τ) ↦{fullShare.right} V m c main_arg0) := by
  obtain rfl : c = 0 := Subsingleton.elim _ _
  unfold Pipeline.ΦT Pipeline.prefHeld
  rw [show (Finset.univ : Finset (Fin 1)) = {(0 : Fin 1)} from by decide, bigSep_singleton]
  rfl

/-! ## The loop's proof data -/

/-- Window `w`'s block of its array at point `t`. -/
def iblk (c : Dev nD) (w : Fin 4) (t : Fin (cfgM m).N) : (((cfgM m).win w).xblock ((cfgM m).grid.coords t)).Idx → Elt F ((cfgM m).win w).elt :=
  (((cfgM m).win w).blk t).view.read (Elt F) (V m c (Pipeline.arrRef spec0 w))

/-- The stream's tile, the modulation's block and the gains at point `t`. -/
def xblk (c : Dev nD) (t : Fin (cfgM m).N) : Vec F S256x1024 .f32 := iblk m c 0 t
def mblk (c : Dev nD) (t : Fin (cfgM m).N) : Vec F S1x6x1024 .f32 := iblk m c 1 t
def gblk (c : Dev nD) (t : Fin (cfgM m).N) : Vec F S1x1024 .f32 := iblk m c 2 t

variable (hx : ∀ c, Placed (V m c main_arg0))

/-- The tile the body leaves at point `t`. -/
def otile (c : Dev nD) (t : Fin (cfgM m).N) : FVec F S1x256x1024 .f32 :=
  k0_pay1 (xblk m c t) (mblk m c t) (moved (grid0.coords t) (V m c main_arg0) (hx c) (V m c main_arg3)) (gblk m c t)

/-- The invariant at every point: the buffer the rows are moved into, the generator register, the moves' semaphore at zero, the
    experts' rows and the table. -/
def PhiS (c : Dev nD) : sProp 𝕄 :=
  iprop((∃ f, bW.view.loc (c : Thread nD τ) ↦{fullShare} f) ∗ (∃ r, prngReg c r) ∗ semVal ((c : Thread nD τ), SemLoc.dma dsem) 0
    ∗ (yW.view.loc (c : Thread nD τ) ↦{fullShare} V m c main_arg3) ∗ (tW.view.loc (c : Thread nD τ) ↦{fullShare.right} V m c main_arg0))

/-- The loop's proof data: every input block kept, the output tile `otile`. -/
def dats (_p : Fin 1) (c : Dev nD) : Dat τ (Elt F) Unit ℕ (UD sig nD τ) ℕ (cfgM m) c where
  A w := V m c (Pipeline.arrRef spec0 w)
  after w t := match w with
    | 0 => iblk m c 0 t
    | 1 => iblk m c 1 t
    | 2 => iblk m c 2 t
    | 3 => otile m hx c t
    | ⟨_ + 4, h⟩ => absurd h (Nat.not_lt.2 (Nat.le_add_left _ _))
  Φ _ := PhiS m c
  q _ := fullShare
  recorded _ := Set.univ
  owed _ := 0

theorem A_eq (c : Dev nD) (w : Fin (cfgM m).W) : (dats m hx 0 c).A w = V m c (Pipeline.arrRef spec0 w) := by
  dsimp only [dats]

theorem before_in (c : Dev nD) (t : Fin (cfgM m).N) :
    (∀ d, (dats m hx 0 c).before (0 : Fin 4) t d = xblk m c t) ∧ (∀ d, (dats m hx 0 c).before (1 : Fin 4) t d = mblk m c t)
    ∧ (∀ d, (dats m hx 0 c).before (2 : Fin 4) t d = gblk m c t) := by
  refine ⟨?_, ?_, ?_⟩
  · intro d; exact ((dats m hx 0 c).before_in_eq_fetched (0 : Fin 4) rfl (fun _ => rfl) (fun _ _ _ => rfl) (fun _ => rfl) t d).trans rfl
  · intro d; exact ((dats m hx 0 c).before_in_eq_fetched (1 : Fin 4) rfl (fun _ => rfl) (fun _ _ _ => rfl) (fun _ => rfl) t d).trans rfl
  · intro d; exact ((dats m hx 0 c).before_in_eq_fetched (2 : Fin 4) rfl (fun _ => rfl) (fun _ _ _ => rfl) (fun _ => rfl) t d).trans rfl

/-- The body as the loop runs it at point `t`. -/
abbrev bodyAt (t : Fin (cfgM m).N) : Prog (TpuEff nD τ sig (Elt F) Λ₀ .tc) PUnit :=
  cc0_moe_combine_final (grid0.coords t) tW (Memref.isWhole_whole _) (spec0_0.stage ((cfgM m).slots t (0 : Fin 4))) (hstage0_0 (((cfgM m).slots t (0 : Fin 4)).cast nbuf0_0)) (spec0_1.stage ((cfgM m).slots t (1 : Fin 4))) (hstage0_1 (((cfgM m).slots t (1 : Fin 4)).cast nbuf0_1)) (spec0_2.stage ((cfgM m).slots t (2 : Fin 4))) (hstage0_2 (((cfgM m).slots t (2 : Fin 4)).cast nbuf0_2))
    yW (Memref.isWhole_whole _) (spec0_3.stage ((cfgM m).slots t (3 : Fin 4))) (hstage0_3 (((cfgM m).slots t (3 : Fin 4)).cast nbuf0_3)) bW (Memref.isWhole_whole _) cc0_scratch1

theorem sound_body (c : Dev nD) (t : Fin (cfgM m).N) :
    iprop((dats m hx 0 c).Φ t.castSucc ∗ (dats m hx 0 c).owesAt () t.castSucc
      ∗ (∃ d, owns c (spec0_0.stage ((cfgM m).slots t (0 : Fin 4))) fullShare ((dats m hx 0 c).before (0 : Fin 4) t d))
      ∗ (∃ d, owns c (spec0_1.stage ((cfgM m).slots t (1 : Fin 4))) fullShare ((dats m hx 0 c).before (1 : Fin 4) t d))
      ∗ (∃ d, owns c (spec0_2.stage ((cfgM m).slots t (2 : Fin 4))) fullShare ((dats m hx 0 c).before (2 : Fin 4) t d))
      ∗ (∃ d, owns c (spec0_3.stage ((cfgM m).slots t (3 : Fin 4))) fullShare ((dats m hx 0 c).before (3 : Fin 4) t d)))
    ⊢ wp frame (wpE (defs₀ (F := F)) Variants.none c none) Set.univ (bodyAt m t) fun _ =>
      iprop((dats m hx 0 c).Φ t.succ ∗ (dats m hx 0 c).owesAt () t.succ
      ∗ owns c (spec0_0.stage ((cfgM m).slots t (0 : Fin 4))) fullShare (xblk m c t)
      ∗ owns c (spec0_1.stage ((cfgM m).slots t (1 : Fin 4))) fullShare (mblk m c t)
      ∗ owns c (spec0_2.stage ((cfgM m).slots t (2 : Fin 4))) fullShare (gblk m c t)
      ∗ owns c (spec0_3.stage ((cfgM m).slots t (3 : Fin 4))) fullShare (otile m hx c t)) := by
  obtain ⟨b0, b1, b2⟩ := before_in m hx c t
  simp only [b0, b1, b2]
  rw [show (dats m hx 0 c).Φ t.castSucc = PhiS m c from rfl, show (dats m hx 0 c).Φ t.succ = PhiS m c from rfl]
  unfold PhiS
  iintro ⟨⟨⟨%f, Hb⟩, Hg, Hs, Hy, Ht⟩, ⟨%W, -, Ho⟩, ⟨%d0, H0⟩, ⟨%d1, H1⟩, ⟨%d2, H2⟩, ⟨%d3, H3⟩⟩
  iapply (sound_kernel c (grid0.coords t) (V m c main_arg0) (hx c) (V m c main_arg3) f fullShare.right
    (spec0_0.stage ((cfgM m).slots t (0 : Fin 4))) (hstage0_0 (((cfgM m).slots t (0 : Fin 4)).cast nbuf0_0)) (spec0_1.stage ((cfgM m).slots t (1 : Fin 4))) (hstage0_1 (((cfgM m).slots t (1 : Fin 4)).cast nbuf0_1)) (spec0_2.stage ((cfgM m).slots t (2 : Fin 4))) (hstage0_2 (((cfgM m).slots t (2 : Fin 4)).cast nbuf0_2))
    (spec0_3.stage ((cfgM m).slots t (3 : Fin 4))) (hstage0_3 (((cfgM m).slots t (3 : Fin 4)).cast nbuf0_3)) (xblk m c t) (mblk m c t) (gblk m c t))
  isplitl [Ht]; · iexact Ht
  isplitl [H0]; · iexact H0
  isplitl [H1]; · iexact H1
  isplitl [H2]; · iexact H2
  isplitl [H3]; · iexists _; iexact H3
  isplitl [Hy]; · iexact Hy
  isplitl [Hb]; · iexact Hb
  isplitl [Hs]; · iexact Hs
  isplitl [Ho]; · iexists _; iexact Ho
  iintro ⟨Ht, H0, H1, H2, H3, Hy, Hb, Hs, ⟨%W', Ho⟩⟩
  isplitl [Hb Hg Hs Hy Ht]
  · isplitl [Hb]; · iexact Hb
    isplitl [Hg]; · iexact Hg
    isplitl [Hs]; · iexact Hs
    isplitl [Hy] <;> iassumption
  isplitl [Ho]
  · iexists W'
    isplitr
    · ipureintro; exact fun _ _ => Or.inl trivial
    iexact Ho
  isplitl [H0]; · iexact H0
  isplitl [H1]; · iexact H1
  isplitl [H2]; · iexact H2
  iexact H3

theorem body_obligation (c : Dev nD) : BodyObligation (dats m hx 0 c) defs₀ Variants.none () Set.univ := fun t => by
  rw [bigSep_W0, bigSep_W0]
  exact sound_body m hx c t

/-- The moves' semaphore, the one the kernel waits on itself. -/
abbrev osem : Unit → SemLoc sig := fun _ => .dma dsem

theorem own : Pipeline.OwnSemFacts spec0 osem := by decide

theorem PhiD_eq (c : Dev nD) : (Pipeline.ΦD osem spec0 {main_arg3} (V m) c : sProp 𝕄)
    = iprop((∃ f, bW.view.loc (c : Thread nD τ) ↦{fullShare} f) ∗ (∃ r, prngReg c r) ∗ semVal ((c : Thread nD τ), SemLoc.dma dsem) 0
      ∗ (yW.view.loc (c : Thread nD τ) ↦{fullShare} V m c main_arg3)) := by
  rw [Pipeline.ΦD_eq, scopedRest0_eq, bigSep_singleton]
  unfold Pipeline.ownSems0
  rw [show (Finset.univ : Finset Unit) = {()} from by decide, bigSep_singleton]

/-- What the launch hands the loop is the invariant. -/
theorem hin (c : Dev nD) : iprop(Pipeline.ΦD osem spec0 {main_arg3} (V m) c ∗ Pipeline.ΦT pre0 (tbl m) c) ⊢ (dats m hx 0 c).Φ 0 := by
  rw [show (dats m hx 0 c).Φ 0 = PhiS m c from rfl, PhiD_eq, PhiT_eq]
  unfold PhiS
  iintro ⟨⟨Hb, Hg, Hs, Hy⟩, Ht⟩
  isplitl [Hb]; · iexact Hb
  isplitl [Hg]; · iexact Hg
  isplitl [Hs]; · iexact Hs
  isplitl [Hy] <;> iassumption

/-- After the last point it gives everything but the table back. -/
theorem hout (c : Dev nD) : (dats m hx 0 c).Φ (Fin.last (cfgM m).N) ⊢ Pipeline.ΦD osem spec0 {main_arg3} (V m) c := by
  rw [show (dats m hx 0 c).Φ (Fin.last (cfgM m).N) = PhiS m c from rfl, PhiD_eq]
  unfold PhiS
  iintro ⟨Hb, Hg, Hs, Hy, -⟩
  isplitl [Hb]; · iexact Hb
  isplitl [Hg]; · iexact Hg
  isplitl [Hs] <;> iassumption

theorem hostOps0_fresh : (hostOps0 : List (HloOp τ sig (Elt F))).Forall fun op => op.fresh = ∅ := by
  simp only [List.Forall]; repeat' constructor

theorem hmain (𝒱 : Variants) : Pipeline.HMainP (Ix := Unit) (Name := ℕ) (U := UD sig nD τ) (Lvl := ℕ) pcfgs (0 : Fin 1) (defs₀ (F := F)) 𝒱 m main (V m) :=
  Pipeline.hmainP_prefix pcfgs (0 : Fin 1) defs₀ 𝒱 m main hostOps0 hostOps0_sub hostOps0_fresh main_chain

theorem rest : ({main_arg3} : Finset (Ref sig .tc)) ⊆ Pipeline.restRefsP sig pre0 spec0 := by decide

set_option backward.isDefEq.respectTransparency.types false in
/-- THE RUN: from any launch memory whose table names existing rows the program terminates without a fault, the output array
    written tile by tile by `otile`, every other array unchanged, the semaphores at zero. -/
theorem run (ρ : Dev nD → PrngReg) :
    θ_run (defs (F := F)) (onTc (τ := τ) (Val := Elt F) main) ⟨m, fun _ => 0, ρ⟩ (fun r => Pipeline.FramePost (Pipeline.pin pcfgs (fun _ => adm m)) (dats m hx) (0 : Fin 1) (V m) r ∧ r.2.sem = fun _ => 0) :=
  Pipeline.θ_run_frameP_dma pcfgs (fun _ => adm m) (dats m hx) (0 : Fin 1) launch0 osem defs₀ Variants.none own {main_arg3} rest m ρ main
    (hbody := fun c => (body_obligation m hx c).loose)
    (hshare := fun c w => (dats m hx 0 c).share_full (fun _ => rfl) w)
    (howed := fun _ _ => rfl) (V := V m) (hmain := hmain m Variants.none) (hA := A_eq m hx) (hpf := V_pre m)
    (hin := hin m hx) (hout := hout m hx)
    (Q' := fun r => Pipeline.FramePost (Pipeline.pin pcfgs (fun _ => adm m)) (dats m hx) (0 : Fin 1) (V m) r ∧ r.2.sem = fun _ => 0)
    (hQ' := fun _ h => h)

/-- The run read off array by array: the output's tiles, every argument unchanged, the semaphores at zero. -/
theorem run_reads (ρ : Dev nD → PrngReg) :
    θ_run (defs (F := F)) (onTc (τ := τ) (Val := Elt F) main) ⟨m, fun _ => 0, ρ⟩ (fun r => (∀ c : Dev nD,
      r.2.mem ((c.tc : Thread nD τ).loc main_v1) = (dats m hx 0 c).arrAt (3 : Fin 4) (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run _ _ _).mono (fun r h => ⟨fun c => ?_, h.2⟩) (run m hx ρ)
  obtain ⟨hw, hr⟩ := h.1 c
  refine ⟨hw (3 : Fin 4), ?_, ?_, ?_, ?_, ?_⟩
  · exact (hr main_arg0 (Pipeline.mem_restRefs_of main_arg0 rfl (by decide : ∀ w, (spec0 w).arr.view.ref ≠ main_arg0))).trans (V_kept m c _ (by decide))
  · exact (hw (0 : Fin 4)).trans (((dats m hx 0 c).arrAt_in (0 : Fin 4) rfl _).trans (V_kept m c main_arg1 (by decide)))
  · exact (hw (1 : Fin 4)).trans (((dats m hx 0 c).arrAt_in (1 : Fin 4) rfl _).trans (V_kept m c main_arg2 (by decide)))
  · exact (hr main_arg3 (Pipeline.mem_restRefs_of main_arg3 rfl (by decide : ∀ w, (spec0 w).arr.view.ref ≠ main_arg3))).trans (V_kept m c _ (by decide))
  · exact (hr main_arg4 (Pipeline.mem_restRefs_of main_arg4 rfl (by decide : ∀ w, (spec0 w).arr.view.ref ≠ main_arg4))).trans (V_kept m c _ (by decide))

end Cert.Kernel3Ideal.Body
end
-- ==== Proof.Final.lean ====
module

public import proofs.«01_k».proof.Proof.Even

@[expose] public section

set_option maxRecDepth 16384

noncomputable section

/-! The last norm: a row of the latents takes the experts' row placed for it, under the modulation, and is normalised. -/

namespace Cert.Final

open Idealize.ShloMosaic

/-- A row number of the stream: a latent of a sequence. -/
abbrev latent (b : Fin 2) (r : Fin 8192) : Fin 16896 := ⟨b.val * 8448 + (256 + r.val), by omega⟩

/-- The experts' row a table of places gives to a row of the stream. -/
def placeOf (d : (⟨1, ![16896]⟩ : Shape).Idx → BitVec 32) (n : Fin 16896) : Fin 23040 := ⟨min (d (ix1 n)).toNat 23039, by omega⟩

/-- An entry of the result. -/
def out (d : (⟨1, ![16896]⟩ : Shape).Idx → BitVec 32) (x : (⟨2, ![16896, 1024]⟩ : Shape).Idx → EReal) (md : (⟨3, ![8, 6, 1024]⟩ : Shape).Idx → EReal)
    (y : (⟨2, ![23040, 1024]⟩ : Shape).Idx → EReal) (g : (⟨1, ![1024]⟩ : Shape).Idx → EReal) (b : Fin 2) (r : Fin 8192) (j : Fin 1024) : EReal :=
  Cert.Even.norm (fun k => x (ix2 (latent b r) k) + md (ix3 ⟨b.val, by omega⟩ 5 k) * y (ix2 (placeOf d (latent b r)) k)) j * g (ix1 j)

end Cert.Final
end
-- ==== Proof.FinalI.lean ====
module

public import proofs.«01_k».proof.Proof.MoveRunI
public import proofs.«01_k».proof.Proof.Final
public import Idealize.ShloMosaic.Lib.Pointwise
public import Idealize.ShloMosaic.Lib.Pipeline.ValueKit

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- A tile's entry. -/
theorem pay1_at (x : FVec Ideal S256x1024 .f32) (md : FVec Ideal S1x6x1024 .f32) (y : FVec Ideal S256x1024 .f32) (g : FVec Ideal S1x1024 .f32) (p : Fin 256) (j : Fin 1024) :
    k0_pay1 (F := Ideal) x md y g (ix3 0 p j)
      = Cert.Even.norm (fun k => x (ix2 p k) + md (ix3 0 5 k) * y (ix2 p k)) j * g (ix2 0 j) := by
  pointwise [k0_pay1, Cert.Even.norm]

/-- A row moved is the experts' row at its place. -/
theorem moved_at (i : grid0.Coords) (x : Vec Ideal S16896 .i32) (hx : Placed x) (y : FVec Ideal S23040x1024 .f32) (p : Fin 256) (k : Fin 1024) :
    moved i x hx y (ix2 p k) = y (ix2 ⟨src i x p.val p.isLt, src_lt i x hx p.val p.isLt⟩ k) := by
  unfold moved
  refine congrArg y (funext fun a => ?_)
  fin_cases a <;> rfl

/-- A grid point's coordinate is its number. -/
theorem coords_val (t : Fin grid0.N) : (grid0.coords t 0).val = t.val := by
  have : ∀ t : Fin grid0.N, (grid0.coords t 0).val = t.val := by decide +kernel
  exact this t

/-- The blocks' places, all points at once. -/
theorem idx0 : ∀ t : Fin grid0.N, cc0_transform_0 (grid0.coords t) = ![t.val, 0] ∧ cc0_transform_1 (grid0.coords t) = ![if t.val % 33 = 0 then 2 else t.val / 33, 0, 0]
    ∧ cc0_transform_2 (grid0.coords t) = ![0, 0] ∧ cc0_transform_4 (grid0.coords t) = ![t.val / 33, t.val % 33 - 1, 0] := by decide +kernel

theorem idx (t : Fin grid0.N) : ((cfgM m).win (0 : Fin 4)).index t = ![t.val, 0] ∧ ((cfgM m).win (1 : Fin 4)).index t = ![if t.val % 33 = 0 then 2 else t.val / 33, 0, 0]
    ∧ ((cfgM m).win (2 : Fin 4)).index t = ![0, 0] ∧ ((cfgM m).win (3 : Fin 4)).index t = ![t.val / 33, t.val % 33 - 1, 0] := idx0 t

/-- Only the latents' tiles are written back. -/
theorem flush_lat (t : Fin grid0.N) (h : ((cfgM m).win (3 : Fin 4)).flush t = true) : t.val % 33 ≠ 0 := by
  have h' : Pipeline.Window.flushOf grid0 true cc0_transform_4 t = true := h
  clear h
  revert t
  decide +kernel

theorem flushed_lat (t : Fin grid0.N) (h : t.val % 33 ≠ 0) : ((cfgM m).win (3 : Fin 4)).flush t = true := by
  show Pipeline.Window.flushOf grid0 true cc0_transform_4 t = true
  revert t
  decide +kernel

abbrev arr1 (c : Dev nD) : S16896x1024.Idx → EReal := m ((c.tc : Thread nD τ).loc main_arg1)
abbrev arr2 (c : Dev nD) : S8x6x1024.Idx → EReal := m ((c.tc : Thread nD τ).loc main_arg2)
abbrev arr3 (c : Dev nD) : S23040x1024.Idx → EReal := m ((c.tc : Thread nD τ).loc main_arg3)
abbrev arr4 (c : Dev nD) : S1024.Idx → EReal := m ((c.tc : Thread nD τ).loc main_arg4)
abbrev tab (c : Dev nD) : S16896.Idx → BitVec 32 := m ((c.tc : Thread nD τ).loc main_arg0)

/-- The row of the stream at row `p` of tile `t`. -/
abbrev row (t : Fin grid0.N) (p : Fin 256) : Fin 16896 := ⟨t.val * 256 + p.val, by
  have h : t.val < 66 := t.isLt
  omega⟩

theorem x_at (c : Dev nD) (t : Fin grid0.N) (p : Fin 256) (k : Fin 1024) : (xblk m c t : FVec Ideal S256x1024 .f32) (ix2 p k) = arr1 m c (ix2 (row t p) k) := by
  unfold xblk iblk
  rw [V_kept m c (Pipeline.arrRef spec0 0) (by decide)]
  blk_ext [idx m t]
theorem mod_at (c : Dev nD) (t : Fin grid0.N) (s : Fin 6) (k : Fin 1024) : (mblk m c t : FVec Ideal S1x6x1024 .f32) (ix3 0 s k)
    = arr2 m c (ix3 ⟨if t.val % 33 = 0 then 2 else t.val / 33, by have h : t.val < 66 := t.isLt; split <;> omega⟩ s k) := by
  unfold mblk iblk
  rw [V_kept m c (Pipeline.arrRef spec0 1) (by decide)]
  blk_ext [idx m t]
theorem g_at (c : Dev nD) (t : Fin grid0.N) (k : Fin 1024) : (gblk m c t : FVec Ideal S1x1024 .f32) (ix2 0 k) = arr4 m c (ix1 k) := by
  unfold gblk iblk
  rw [show V m c (Pipeline.arrRef spec0 2) = _ from V_gain m c]
  blk_simp [idx m t]
  pointwise
  blk_ext [idx m t]

variable (hx : ∀ c, Placed (V m c main_arg0))

/-- The tile left at a latents' point is the result's. -/
theorem otile_at (c : Dev nD) (t : Fin grid0.N) (ht : t.val % 33 ≠ 0) (p : Fin 256) (j : Fin 1024) :
    otile m hx c t (ix3 0 p j) = Cert.Final.out (tab m c) (arr1 m c) (arr2 m c) (arr3 m c) (arr4 m c)
      ⟨t.val / 33, by have h : t.val < 66 := t.isLt; omega⟩ ⟨(t.val % 33 - 1) * 256 + p.val, by omega⟩ j := by
  have h66 : t.val < 66 := t.isLt
  have er : ∀ hb hr, Cert.Final.latent ⟨t.val / 33, hb⟩ ⟨(t.val % 33 - 1) * 256 + p.val, hr⟩ = row t p := fun hb hr => Fin.ext (by
    show t.val / 33 * 8448 + (256 + ((t.val % 33 - 1) * 256 + p.val)) = t.val * 256 + p.val
    omega)
  unfold otile
  rw [pay1_at]
  unfold Cert.Final.out
  simp only [x_at, mod_at, g_at, moved_at, er, if_neg ht]
  have hk : V m c main_arg0 = m ((c.tc : Thread nD τ).loc main_arg0) := V_kept m c main_arg0 (by decide)
  have hk3 : V m c main_arg3 = m ((c.tc : Thread nD τ).loc main_arg3) := V_kept m c main_arg3 (by decide)
  have ep : (⟨src (grid0.coords t) (V m c main_arg0) p.val p.isLt, src_lt _ _ (hx c) p.val p.isLt⟩ : Fin 23040) = Cert.Final.placeOf (tab m c) (row t p) := by
    apply Fin.ext
    have hl := src_lt (grid0.coords t) _ (hx c) p.val p.isLt
    have e : src (grid0.coords t) (V m c main_arg0) p.val p.isLt = (tab m c (ix1 (row t p))).toNat := by
      unfold src place
      rw [hk]
      refine congrArg BitVec.toNat (congrArg (tab m c) (funext fun a => Fin.ext ?_))
      fin_cases a
      show 256 * (grid0.coords t 0).val + p.val = t.val * 256 + p.val
      rw [coords_val]; omega
    show src (grid0.coords t) (V m c main_arg0) p.val p.isLt = min (tab m c (ix1 (row t p))).toNat 23039
    rw [e] at hl ⊢
    omega
  rw [ep, hk3]

/-- The array the kernel leaves. -/
abbrev res (c : Dev nD) : FVec Ideal S2x8192x1024 .f32 := fun i => Cert.Final.out (tab m c) (arr1 m c) (arr2 m c) (arr3 m c) (arr4 m c) (i 0) (i 1) (i 2)

theorem emb3 (t : Fin grid0.N) (ht : t.val % 33 ≠ 0) (p : Fin 256) (j : Fin 1024) :
    ((((cfgM m).win (3 : Fin 4)).blk t).view.emb (ix3 0 p j : S1x256x1024.Idx) : S2x8192x1024.Idx)
      = ix3 ⟨t.val / 33, by have h : t.val < 66 := t.isLt; omega⟩ ⟨(t.val % 33 - 1) * 256 + p.val, by omega⟩ j := by
  blk_ext [idx m t]

theorem flushed3 (c : Dev nD) (t : Fin grid0.N) : (dats m hx 0 c).flushed (3 : Fin 4) t = otile m hx c t := by
  refine Eq.trans ?_ (show (dats m hx 0 c).after (3 : Fin 4) t = otile m hx c t by dsimp only [dats])
  rfl

/-- The whole result. -/
theorem final (c : Dev nD) : (dats m hx 0 c).arrAt (3 : Fin 4) (cfgM m).N = res m c := by
  refine (dats m hx 0 c).arrAt_eq_of_cover (3 : Fin 4) _ (fun t ht => ?_) (fun i => ?_)
  · refine funext fun (y : S1x256x1024.Idx) => ?_
    have hl := flush_lat m t ht
    rw [View.read_apply, flushed3]
    obtain ⟨p, j, rfl⟩ : ∃ (p : Fin 256) (j : Fin 1024), y = ix3 0 p j := ⟨y 1, y 2, (eq_ix3 y).trans (congrArg (fun a => ix3 a (y 1) (y 2)) (Subsingleton.elim (α := Fin 1) _ _))⟩
    refine (otile_at m hx c t hl p j).trans ?_
    exact (congrArg (res m c) (emb3 m t hl p j)).symm
  · have h0 : (i 0).val < 2 := (i 0).isLt
    have h1 : (i 1).val < 8192 := (i 1).isLt
    obtain ⟨t, ht⟩ : ∃ t : Fin grid0.N, t.val = (i 0).val * 33 + ((i 1).val / 256 + 1) := ⟨⟨(i 0).val * 33 + ((i 1).val / 256 + 1), by show _ < 66; omega⟩, rfl⟩
    obtain ⟨p, hp⟩ : ∃ p : Fin 256, p.val = (i 1).val % 256 := ⟨⟨(i 1).val % 256, Nat.mod_lt _ (by decide)⟩, rfl⟩
    have hl : t.val % 33 ≠ 0 := by omega
    have he := emb3 m t hl p (i 2)
    have h := (((cfgM m).win (3 : Fin 4)).blk t).view.emb_mem_set (ix3 0 p (i 2) : S1x256x1024.Idx)
    rw [he] at h
    refine ⟨t, flushed_lat m t hl, ?_⟩
    have e : (ix3 ⟨t.val / 33, by have h : t.val < 66 := t.isLt; omega⟩ ⟨(t.val % 33 - 1) * 256 + p.val, by omega⟩ (i 2) : S2x8192x1024.Idx) = i := by
      refine Eq.trans ?_ (eq_ix3 i).symm
      refine congrArg₂ (fun a b => ix3 a b (i 2)) (Fin.ext ?_) (Fin.ext ?_)
      · show t.val / 33 = (i 0).val; omega
      · show (t.val % 33 - 1) * 256 + p.val = (i 1).val; omega
    rw [e] at h
    exact h

end Cert.Kernel3Ideal.Body
end
-- ==== Proof.FinalRef.lean ====
module

public import proofs.«01_k».proof.Proof.Gen.Reference3Ideal.Read
public import proofs.«01_k».proof.Proof.Final
public import Idealize.ShloMosaic.Lib.Pointwise
public import Idealize.ShloMosaic.Lib.Routing.Ops

@[expose] public section

set_option maxRecDepth 16384

noncomputable section

namespace Cert.Reference3Ideal.Body

open Cert.Reference3Ideal Cert.Reference3Ideal.Read
open Idealize.ShloMosaic Idealize.ShloMosaic.TcCoe

variable (x0 : IVec S16896 32) (x1 : FVec Ideal S16896x1024 .f32) (x2 : FVec Ideal S8x6x1024 .f32) (x3 : FVec Ideal S23040x1024 .f32) (x4 : FVec Ideal S1024 .f32)

/-- A place below the number of rows is not negative as a signed word, so it is taken as it stands. -/
theorem taken (w : BitVec 32) (h : w.toNat < 23040) : Scalar.select (IntOp.cmpi .slt w 0#32) (IntOp.addi w 23040#32) w = w := by
  have hn : w.slt 0#32 = false := by
    have h1 : w.toInt = w.toNat := BitVec.toInt_eq_toNat_of_lt (by omega)
    have h2 : (0#32).toInt = 0 := by decide
    rw [BitVec.slt, h1, h2]
    exact decide_eq_false (by omega)
  unfold Scalar.select IntOp.cmpi
  show (if BitVec.ofBool (w.slt 0#32) = 1#1 then _ else _) = w
  rw [hn]
  rfl

variable (h0 : ∀ j, (x0 j).toNat < 23040)
include h0

/-- The rows read by their places. -/
theorem rows_at (n : Fin 16896) (k : Fin 1024) : val_main_v8 (F := Ideal) x0 x3 (ix2 n k) = x3 (ix2 (Cert.Final.placeOf x0 n) k) := by
  unfold val_main_v8
  refine Routing.gather_row _ rfl rfl rfl rfl rfl x3 _ n k _ ?_ (by decide)
  rw [val_main_v7_apply, val_main_v6_apply, val_main_v3_apply, val_main_v5_apply, val_main_v2_apply, val_main_v4_apply, val_main_c_apply, val_main_c_0_apply]
  have e : idx_main_v7 (ValueIdx.ix2 n (0 : Fin 1)) = ix1 n := funext fun a => by fin_cases a; rfl
  rw [e]
  have hw := h0 (ix1 n)
  refine (taken _ hw).trans ?_
  apply BitVec.eq_of_toNat_eq
  rw [BitVec.toNat_ofNat]
  show _ = min (x0 (ix1 n)).toNat 23039 % 2 ^ 32
  omega

/-- The result, entry by entry. -/
theorem out_at (b : Fin 2) (r : Fin 8192) (j : Fin 1024) :
    val_main_v27 (F := Ideal) x0 x1 x2 x3 x4 (ix3 b r j) = Cert.Final.out x0 x1 x2 x3 x4 b r j := by
  unfold Cert.Final.out
  simp only [← rows_at x0 x3 h0]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v1, val_main_v0,
    val_main_cst, val_main_cst_1, val_main_cst_2, Cert.Even.norm]

end Cert.Reference3Ideal.Body
end
-- ==== Proof.FinalClaim.lean ====
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.MoveRun
public import proofs.«01_k».proof.Proof.FinalI
public import proofs.«01_k».proof.Proof.FinalRef
public import proofs.«01_k».proof.Proof.Pre
public import Idealize.ShloMosaic.Adequacy
public import Idealize.ShloMosaic.Init

@[expose] public section

set_option maxRecDepth 16384

noncomputable section

/-! The claims about the experts' rows moved back and the last norm. -/

namespace Cert.Proof

open Idealize.ShloMosaic Idealize.SL.Sem

theorem final_frame_p : Cert.quiescent_Kernel3 := by
  intro m g hp
  have hx : ∀ c, Cert.Kernel3.Body.Placed (Cert.Kernel3.Body.V m c Cert.Kernel3.main_arg0) := fun c n h => by
    rw [Cert.Kernel3.Body.V_kept m c Cert.Kernel3.main_arg0 (by decide)]
    exact Cert.Words.placed_at _ _ _ _ _ (hp c) _
  exact (θ_run Cert.Kernel3.defs _ _).mono (fun r h => ⟨fun c => (h.1 c).2, h.2⟩) (Cert.Kernel3.Body.run_reads m hx g)

theorem placed_of (m : (ℓ : Loc Cert.Kernel3Ideal.nD Cert.Kernel3Ideal.τ Cert.Kernel3Ideal.sig) → Buf (Elt Ideal) ℓ) (hp : Cert.Pre_Kernel3Ideal m) :
    ∀ c, Cert.Kernel3Ideal.Body.Placed (Cert.Kernel3Ideal.Body.V m c Cert.Kernel3Ideal.main_arg0) := fun c n h => by
  rw [Cert.Kernel3Ideal.Body.V_kept m c Cert.Kernel3Ideal.main_arg0 (by decide)]
  exact Cert.Words.placed_at _ _ _ _ _ (hp c) _

theorem final_frame_pi : Cert.quiescent_Kernel3Ideal := by
  intro m g hp
  exact (θ_run Cert.Kernel3Ideal.defs _ _).mono (fun r h => ⟨fun c => (h.1 c).2, h.2⟩) (Cert.Kernel3Ideal.Body.run_reads m (placed_of m hp) g)

theorem final_frame_ri : Cert.quiescent_Reference3Ideal := by
  intro m g _
  exact (θ_run Cert.Reference3Ideal.defs _ _).mono (fun r h => ⟨fun c => (h c).2, Idealize.ShloMosaic.sem_eq_zero_of_no_sems (by decide) r.2⟩)
    (Cert.Reference3Ideal.Value.run m g)

theorem final_frame_ri_placed : Cert.quiescent_Reference3Ideal_pre_placed := fun m g _ => final_frame_ri m g trivial

/-- The result is the reference's. -/
theorem final_value : Cert.algebraic_Kernel3Ideal_Reference3Ideal := by
  intro m g m' g' hp hagree
  have hx := placed_of m hp
  refine ⟨fun c => Cert.Kernel3Ideal.Body.res m c,
    (θ_run Cert.Kernel3Ideal.defs _ _).mono (fun r h c => ⟨(h.1 c).1.trans (Cert.Kernel3Ideal.Body.final m hx c), (h.1 c).2⟩) (Cert.Kernel3Ideal.Body.run_reads m hx g),
    (θ_run Cert.Reference3Ideal.defs _ _).mono (fun r h c => ⟨?_, (h c).2⟩) (Cert.Reference3Ideal.Value.run m' g')⟩
  refine ((h c).1.trans (Cert.Reference3Ideal.Read.val_main_v27_eq _ _ _ _ _)).trans ?_
  rw [(hagree c).1, (hagree c).2.1, (hagree c).2.2.1, (hagree c).2.2.2.1, (hagree c).2.2.2.2]
  funext i
  obtain ⟨b, r, j, rfl⟩ : ∃ (b : Fin 2) (r : Fin 8192) (j : Fin 1024), i = ix3 b r j := ⟨i 0, i 1, i 2, eq_ix3 i⟩
  exact Cert.Reference3Ideal.Body.out_at _ _ _ _ _ (fun j => Cert.Words.placed_at _ _ _ _ _ (hp c) j) b r j

end Cert.Proof
end
-- ==== Proof.OpenI.lean ====
module

public import proofs.«01_k».proof.Proof.Gen.Kernel4Ideal.Value
public import proofs.«01_k».proof.Proof.Even
public import Idealize.ShloMosaic.Lib.Tactic
public import Idealize.ShloMosaic.Lib.Pointwise
public import Idealize.ShloMosaic.Lib.Pipeline.ValueKit

@[expose] public section
set_option maxRecDepth 16384
noncomputable section

/-! The first layer's opening: a tile's rows come from the context or from the sequence. -/

namespace Cert.Kernel4Ideal.Body

open Cert.Kernel4Ideal Cert.Kernel4Ideal.Gen
open Idealize.ShloMosaic Idealize.ShloMosaic.TcCoe Idealize.ShloMosaic.Tactic
open Idealize.ShloMosaic.Pipeline (Dat)

/-- The kernel's test for a context tile, on a tile's number as a word. -/
def test (w : BitVec 32) : BitVec 1 :=
  let d : BitVec 32 := Scalar.select (Scalar.cmpi .eq 33#32 0#32) 1#32 33#32
  let r : BitVec 32 := Scalar.remsi w d
  Scalar.cmpi .eq (Scalar.select (Scalar.andi (Scalar.xori (Scalar.cmpi .slt r 0#32) (Scalar.cmpi .slt d 0#32)) (Scalar.cmpi .ne r 0#32)) (Scalar.addi r d) r) 0#32

theorem test_eq : ∀ a : Fin 66, test (BitVec.ofNat 32 a.val) = if a.val % 33 = 0 then 1#1 else 0#1 := by decide +kernel

/-- A tile's rows, normalised and under the gain: those of the context in a context tile, else the sequence's. -/
theorem pay7_at (i : grid0.Coords) (C X : FVec Ideal S1x256x1024 .f32) (G : FVec Ideal S1x1024 .f32) (p : Fin 256) (k : Fin 1024) :
    k0_pay7 (F := Ideal) i C X G (ix2 p k)
      = Cert.Even.norm (fun k => if (i 0).val % 33 = 0 then C (ix3 0 p k) else X (ix3 0 p k)) k * G (ix2 0 k) := by
  have ht : test (BitVec.ofNat 32 (i 0).val) = _ := test_eq (i 0)
  unfold test at ht
  dsimp only at ht
  unfold k0_pay7
  simp only [ht]
  by_cases h : (i 0).val % 33 = 0
  · simp only [if_pos h]
    pointwise [Cert.Even.norm]
  · simp only [if_neg h]
    pointwise [Cert.Even.norm]

/-- A tile's projection, entry by entry. -/
theorem pay1_at (i : grid0.Coords) (M : FVec Ideal S1x6x1024 .f32) (C X : FVec Ideal S1x256x1024 .f32) (G : FVec Ideal S1x1024 .f32) (W : FVec Ideal S1024x2560 .bf16)
    (p : Fin 256) (j : Fin 2560) :
    k0_pay1 (F := Ideal) (k0_pay6 M) (k0_pay7 i C X G) (k0_pay8 M) W (ix2 p j)
      = Cert.Even.proj (fun k => if (i 0).val % 33 = 0 then C (ix3 0 p k) else X (ix3 0 p k)) (fun k => G (ix2 0 k))
          (fun k => M (ix3 0 1 k)) (fun k => M (ix3 0 0 k)) (fun k => W (ix2 k j)) := by
  unfold Cert.Even.proj
  simp only [← pay7_at i C X G p]
  generalize k0_pay7 (F := Ideal) i C X G = u
  pointwise [k0_pay1, k0_pay6, k0_pay8, k0_pay5]

variable (m : (ℓ : Loc nD τ sig) → Buf (Elt Ideal) ℓ)

/-- The blocks' places, all points at once. -/
theorem idx : ∀ t : Fin cfg0.N, win0_0.index t = ![t.val / 33, t.val % 33 - 1, 0] ∧ win0_1.index t = ![t.val / 33, 0, 0]
    ∧ win0_2.index t = ![if t.val % 33 = 0 then 2 else t.val / 33, 0, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)
theorem coord : ∀ t : Fin cfg0.N, (grid0.coords t 0).val = t.val := (by decide +kernel : ∀ t : Fin grid0.N, _)

abbrev arr0 (c : Dev nD) : S2x8192x1024.Idx → EReal := m ((c : Thread nD τ).loc main_arg0)
abbrev arr1 (c : Dev nD) : S2x256x1024.Idx → EReal := m ((c : Thread nD τ).loc main_arg1)
abbrev arr2 (c : Dev nD) : S8x6x1024.Idx → EReal := m ((c : Thread nD τ).loc main_arg2)
abbrev arr3 (c : Dev nD) : S1024.Idx → EReal := m ((c : Thread nD τ).loc main_arg3)
abbrev arr4 (c : Dev nD) : S1024x2560.Idx → EReal := m ((c : Thread nD τ).loc main_arg4)
abbrev stream (c : Dev nD) : (⟨2, ![16896, 1024]⟩ : Shape).Idx → EReal := Cert.Even.joined (arr0 m c) (arr1 m c)

abbrev row (t : Fin cfg0.N) (p : Fin 256) : Fin 16896 := ⟨t.val * 256 + p.val, by
  have h : t.val < 66 := t.isLt
  omega⟩

theorem seq_at (c : Dev nD) (t : Fin cfg0.N) (p : Fin 256) (k : Fin 1024) : (iblk m c 0 t : FVec Ideal S1x256x1024 .f32) (ix3 0 p k)
    = arr0 m c (ix3 ⟨t.val / 33, by have h : t.val < 66 := t.isLt; omega⟩ ⟨(t.val % 33 - 1) * 256 + p.val, by omega⟩ k) := by
  blk_ext [iblk, V, idx t]
theorem ctx_at (c : Dev nD) (t : Fin cfg0.N) (p : Fin 256) (k : Fin 1024) : (iblk m c 1 t : FVec Ideal S1x256x1024 .f32) (ix3 0 p k)
    = arr1 m c (ix3 ⟨t.val / 33, by have h : t.val < 66 := t.isLt; omega⟩ p k) := by
  blk_ext [iblk, V, idx t]
theorem mod_at (c : Dev nD) (t : Fin cfg0.N) (p : Fin 256) (s : Fin 6) (k : Fin 1024) : (iblk m c 2 t : FVec Ideal S1x6x1024 .f32) (ix3 0 s k) = arr2 m c (ix3 (Cert.Even.modRow (row t p)) s k) := by
  blk_ext [iblk, V, idx t]
  show _ = if (t.val * 256 + p.val) % 8448 < 256 then 2 else (t.val * 256 + p.val) / 8448
  split <;> split <;> omega
theorem g_at (c : Dev nD) (t : Fin cfg0.N) (k : Fin 1024) : (iblk m c 3 t : FVec Ideal S1x1024 .f32) (ix2 0 k) = arr3 m c (ix1 k) := by
  blk_simp [iblk, idx t]
  entry_read
  pointwise
  blk_ext [idx t]
theorem w_at (c : Dev nD) (t : Fin cfg0.N) (k : Fin 1024) (j : Fin 2560) : (iblk m c 4 t : FVec Ideal S1024x2560 .bf16) (ix2 k j) = arr4 m c (ix2 k j) := by
  blk_simp [iblk, idx t]
  entry_read
  pointwise
  blk_ext [idx t]

/-- The rows a tile takes are the joined stream's. -/
theorem row_at (c : Dev nD) (t : Fin cfg0.N) (p : Fin 256) (k : Fin 1024) :
    (if (grid0.coords t 0).val % 33 = 0 then (iblk m c 1 t : FVec Ideal S1x256x1024 .f32) (ix3 0 p k) else (iblk m c 0 t : FVec Ideal S1x256x1024 .f32) (ix3 0 p k))
      = stream m c (ix2 (row t p) k) := by
  rw [coord t, seq_at, ctx_at]
  have ht : t.val < 66 := t.isLt
  show _ = (if h : (t.val * 256 + p.val) % 8448 < 256 then _ else _)
  by_cases h : t.val % 33 = 0
  · rw [if_pos h, dif_pos (by omega)]
    refine congrArg (arr1 m c) ?_
    congr 1 <;> apply Fin.ext
    · show t.val / 33 = (t.val * 256 + p.val) / 8448; omega
    · show p.val = (t.val * 256 + p.val) % 8448; omega
  · rw [if_neg h, dif_neg (by omega)]
    refine congrArg (arr0 m c) ?_
    congr 1 <;> apply Fin.ext
    · show t.val / 33 = (t.val * 256 + p.val) / 8448; omega
    · show (t.val % 33 - 1) * 256 + p.val = (t.val * 256 + p.val) % 8448 - 256; omega

/-- The projection of a tile, from its blocks. -/
abbrev tile (c : Dev nD) (t : Fin cfg0.N) : FVec Ideal S256x2560 .f32 :=
  k0_pay1 (F := Ideal) (k0_pay6 (iblk m c 2 t)) (k0_pay7 (grid0.coords t) (iblk m c 1 t) (iblk m c 0 t) (iblk m c 3 t)) (k0_pay8 (iblk m c 2 t)) (iblk m c 4 t)

theorem tile_at (c : Dev nD) (t : Fin cfg0.N) (p : Fin 256) (j : Fin 2560) :
    tile m c t (ix2 p j) = Cert.Even.entry (stream m c) (arr2 m c) (arr3 m c) (arr4 m c) (row t p) j := by
  refine (pay1_at _ _ _ _ _ _ p j).trans ?_
  unfold Cert.Even.entry
  simp only [mod_at m c t p, g_at, w_at]
  congr 1
  exact funext fun k => row_at m c t p k

/-- The three arrays the kernel leaves. -/
abbrev res5 (c : Dev nD) : FVec Ideal S16896x512 .f32 := fun i => Cert.Even.first (stream m c) (arr2 m c) (arr3 m c) (arr4 m c) (i 0) (i 1)
abbrev res6 (c : Dev nD) : FVec Ideal S16896x512 .f32 := fun i => Cert.Even.second (stream m c) (arr2 m c) (arr3 m c) (arr4 m c) (i 0) (i 1)
abbrev res7 (c : Dev nD) : FVec Ideal S16896x512 .f32 := fun i => Cert.Even.third (stream m c) (arr2 m c) (arr3 m c) (arr4 m c) (i 0) (i 1)

section
variable (A : FVec Ideal S1x1024 .f32) (B D : FVec Ideal S256x1024 .f32) (W : FVec Ideal S1024x2560 .bf16) (p : Fin 256) (j : Fin 512)

/-- The three results of a tile, from its projection. -/
theorem pay2_at : k0_pay2 (F := Ideal) A B D W (ix2 p j) = Cert.Even.gate (k0_pay1 (F := Ideal) A B D W (ix2 p ⟨j.val, by omega⟩)) (k0_pay1 (F := Ideal) A B D W (ix2 p ⟨512 + j.val, by omega⟩)) := by
  unfold k0_pay2
  generalize k0_pay1 (F := Ideal) A B D W = u
  pointwise [Cert.Even.gate]
  rw [Cert.Even.zero_minus]
theorem pay3_at : k0_pay3 (F := Ideal) A B D W (ix2 p j) = k0_pay1 (F := Ideal) A B D W (ix2 p ⟨1024 + j.val, by omega⟩) := by
  unfold k0_pay3
  generalize k0_pay1 (F := Ideal) A B D W = u
  pointwise
theorem pay4_at : k0_pay4 (F := Ideal) A B D W (ix2 p j) = k0_pay1 (F := Ideal) A B D W (ix2 p ⟨1536 + j.val, by omega⟩) * k0_pay1 (F := Ideal) A B D W (ix2 p ⟨2048 + j.val, by omega⟩) := by
  unfold k0_pay4
  generalize k0_pay1 (F := Ideal) A B D W = u
  pointwise
end

theorem emb5 (t : Fin cfg0.N) (p : Fin 256) (j : Fin 512) : (((View.whole main_v2_0).slice (win0_5.rect t)).emb (ix2 p j) : S16896x512.Idx) = ix2 (row t p) j := by
  blk_ext [idx t]
theorem emb6 (t : Fin cfg0.N) (p : Fin 256) (j : Fin 512) : (((View.whole main_v2_1).slice (win0_6.rect t)).emb (ix2 p j) : S16896x512.Idx) = ix2 (row t p) j := by
  blk_ext [idx t]
theorem emb7 (t : Fin cfg0.N) (p : Fin 256) (j : Fin 512) : (((View.whole main_v2_2).slice (win0_7.rect t)).emb (ix2 p j) : S16896x512.Idx) = ix2 (row t p) j := by
  blk_ext [idx t]

theorem final5 (c : Dev nD) : (dats m 0 c).arrAt 5 cfg0.N = res5 m c := by
  refine (dats m 0 c).arrAt_eq_of_covers 5 _ (by decide +kernel) fun t _ y => ?_
  blk_simp
  rw [after0_5]; unfold_out out0_5; frame_out
  obtain ⟨p, j, rfl⟩ : ∃ (p : Fin 256) (j : Fin 512), y = ix2 p j := ⟨y 0, y 1, eq_ix2 y⟩
  refine Eq.trans ?_ (congrArg (res5 m c) (emb5 t p j)).symm
  refine (pay2_at _ _ _ _ p j).trans ?_
  exact congrArg₂ Cert.Even.gate (tile_at m c t p _) (tile_at m c t p _)
theorem final6 (c : Dev nD) : (dats m 0 c).arrAt 6 cfg0.N = res6 m c := by
  refine (dats m 0 c).arrAt_eq_of_covers 6 _ (by decide +kernel) fun t _ y => ?_
  blk_simp
  rw [after0_6]; unfold_out out0_6; frame_out
  obtain ⟨p, j, rfl⟩ : ∃ (p : Fin 256) (j : Fin 512), y = ix2 p j := ⟨y 0, y 1, eq_ix2 y⟩
  refine Eq.trans ?_ (congrArg (res6 m c) (emb6 t p j)).symm
  exact (pay3_at _ _ _ _ p j).trans (tile_at m c t p _)
theorem final7 (c : Dev nD) : (dats m 0 c).arrAt 7 cfg0.N = res7 m c := by
  refine (dats m 0 c).arrAt_eq_of_covers 7 _ (by decide +kernel) fun t _ y => ?_
  blk_simp
  rw [after0_7]; unfold_out out0_7; frame_out
  obtain ⟨p, j, rfl⟩ : ∃ (p : Fin 256) (j : Fin 512), y = ix2 p j := ⟨y 0, y 1, eq_ix2 y⟩
  refine Eq.trans ?_ (congrArg (res7 m c) (emb7 t p j)).symm
  refine (pay4_at _ _ _ _ p j).trans ?_
  exact congrArg₂ (· * ·) (tile_at m c t p _) (tile_at m c t p _)

end Cert.Kernel4Ideal.Body
end
-- ==== Proof.OpenRef.lean ====
module

public import proofs.«01_k».proof.Proof.Gen.Reference4Ideal.Read
public import proofs.«01_k».proof.Proof.EvenRef

@[expose] public section

set_option maxRecDepth 16384

noncomputable section

/-! The first layer's opening in the reference: it is a later even layer's, of the two streams joined. -/

namespace Cert.Reference4Ideal.Body

open Cert.Reference4Ideal Cert.Reference4Ideal.Read
open Idealize.ShloMosaic Idealize.ShloMosaic.TcCoe

variable (x0 : FVec Ideal S2x8192x1024 .f32) (x1 : FVec Ideal S2x256x1024 .f32) (x2 : FVec Ideal S8x6x1024 .f32) (x3 : FVec Ideal S1024 .f32) (x4 : FVec Ideal S1024x2560 .f32)

/-- The joined stream's context rows. -/
theorem ctx_eq : Cert.Reference2Ideal.Read.val_main_v1 (F := Ideal) (Cert.Even.joined x0 x1) = x1 := by
  funext i
  obtain ⟨b, p, k, rfl⟩ : ∃ (b : Fin 2) (p : Fin 256) (k : Fin 1024), i = ix3 b p k := ⟨i 0, i 1, i 2, eq_ix3 i⟩
  have h : Cert.Even.joined x0 x1 (ix2 ⟨b.val * 8448 + p.val, by omega⟩ k) = x1 (ix3 b p k) := by
    show (if h : (b.val * 8448 + p.val) % 8448 < 256 then _ else _) = _
    rw [dif_pos (by omega)]
    refine congrArg x1 ?_
    congr 1 <;> apply Fin.ext
    · show (b.val * 8448 + p.val) / 8448 = b.val; omega
    · show (b.val * 8448 + p.val) % 8448 = p.val; omega
  rw [← h]
  generalize Cert.Even.joined x0 x1 = s
  pointwise [Cert.Reference2Ideal.Read.val_main_v1, Cert.Reference2Ideal.Read.val_main_v0]

/-- The joined stream's sequence rows. -/
theorem seq_eq : Cert.Reference2Ideal.Read.val_main_v3 (F := Ideal) (Cert.Even.joined x0 x1) = x0 := by
  funext i
  obtain ⟨b, p, k, rfl⟩ : ∃ (b : Fin 2) (p : Fin 8192) (k : Fin 1024), i = ix3 b p k := ⟨i 0, i 1, i 2, eq_ix3 i⟩
  have h : Cert.Even.joined x0 x1 (ix2 ⟨b.val * 8448 + (256 + p.val), by omega⟩ k) = x0 (ix3 b p k) := by
    show (if h : (b.val * 8448 + (256 + p.val)) % 8448 < 256 then _ else _) = _
    rw [dif_neg (by omega)]
    refine congrArg x0 ?_
    congr 1 <;> apply Fin.ext
    · show (b.val * 8448 + (256 + p.val)) / 8448 = b.val; omega
    · show (b.val * 8448 + (256 + p.val)) % 8448 - 256 = p.val; omega
  rw [← h]
  generalize Cert.Even.joined x0 x1 = s
  pointwise [Cert.Reference2Ideal.Read.val_main_v3, Cert.Reference2Ideal.Read.val_main_v0]

section
variable (s : FVec Ideal Cert.Reference2Ideal.S16896x1024 .f32)

/-- The three results of a stream taken apart are the stream's. -/
theorem apart_first : val_main_v75 (F := Ideal) (Cert.Reference2Ideal.Read.val_main_v3 (F := Ideal) s) (Cert.Reference2Ideal.Read.val_main_v1 (F := Ideal) s) x2 x3 x4
    = Cert.Reference2Ideal.Read.val_main_v78 (F := Ideal) s x2 x3 x4 := rfl
theorem apart_second : val_main_v77 (F := Ideal) (Cert.Reference2Ideal.Read.val_main_v3 (F := Ideal) s) (Cert.Reference2Ideal.Read.val_main_v1 (F := Ideal) s) x2 x3 x4
    = Cert.Reference2Ideal.Read.val_main_v80 (F := Ideal) s x2 x3 x4 := rfl
theorem apart_third : val_main_v79 (F := Ideal) (Cert.Reference2Ideal.Read.val_main_v3 (F := Ideal) s) (Cert.Reference2Ideal.Read.val_main_v1 (F := Ideal) s) x2 x3 x4
    = Cert.Reference2Ideal.Read.val_main_v82 (F := Ideal) s x2 x3 x4 := rfl
end

/-- The three results, entry by entry. -/
theorem first_at (r : Fin 16896) (j : Fin 512) : val_main_v75 (F := Ideal) x0 x1 x2 x3 x4 (ix2 r j) = Cert.Even.first (Cert.Even.joined x0 x1) x2 x3 x4 r j := by
  have h := apart_first x2 x3 x4 (Cert.Even.joined x0 x1)
  rw [ctx_eq, seq_eq] at h
  exact (congrFun h _).trans (Cert.Reference2Ideal.Body.first_at _ x2 x3 x4 r j)
theorem second_at (r : Fin 16896) (j : Fin 512) : val_main_v77 (F := Ideal) x0 x1 x2 x3 x4 (ix2 r j) = Cert.Even.second (Cert.Even.joined x0 x1) x2 x3 x4 r j := by
  have h := apart_second x2 x3 x4 (Cert.Even.joined x0 x1)
  rw [ctx_eq, seq_eq] at h
  exact (congrFun h _).trans (Cert.Reference2Ideal.Body.second_at _ x2 x3 x4 r j)
theorem third_at (r : Fin 16896) (j : Fin 512) : val_main_v79 (F := Ideal) x0 x1 x2 x3 x4 (ix2 r j) = Cert.Even.third (Cert.Even.joined x0 x1) x2 x3 x4 r j := by
  have h := apart_third x2 x3 x4 (Cert.Even.joined x0 x1)
  rw [ctx_eq, seq_eq] at h
  exact (congrFun h _).trans (Cert.Reference2Ideal.Body.third_at _ x2 x3 x4 r j)

end Cert.Reference4Ideal.Body
end
-- ==== Proof.OpenClaim.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Run
public import proofs.«01_k».proof.Proof.OpenI
public import proofs.«01_k».proof.Proof.OpenRef
public import Idealize.ShloMosaic.Adequacy
public import Idealize.ShloMosaic.Init

@[expose] public section

set_option maxRecDepth 16384

noncomputable section

/-! The claims about the first layer's opening. -/

namespace Cert.Proof

open Idealize.ShloMosaic Idealize.SL.Sem

theorem open_frame_p : Cert.quiescent_Kernel4 := fun m ρ _ => Cert.Kernel4.Gen.frame m ρ
theorem open_frame_pi : Cert.quiescent_Kernel4Ideal := fun m ρ _ => Cert.Kernel4Ideal.Gen.frame m ρ
theorem open_frame_ri : Cert.quiescent_Reference4Ideal := by
  intro m g _
  exact (θ_run Cert.Reference4Ideal.defs _ _).mono (fun r h => ⟨fun c => (h c).2.2.2, Idealize.ShloMosaic.sem_eq_zero_of_no_sems (by decide) r.2⟩)
    (Cert.Reference4Ideal.Value.run m g)

/-- The three results are the reference's. -/
theorem open_value : Cert.algebraic_Kernel4Ideal_Reference4Ideal := by
  intro m g m' g' _ hagree
  refine ⟨fun c => Cert.Kernel4Ideal.Body.res5 m c, fun c => Cert.Kernel4Ideal.Body.res6 m c, fun c => Cert.Kernel4Ideal.Body.res7 m c,
    (θ_run Cert.Kernel4Ideal.defs _ _).mono (fun r h c => ⟨(h c).1.trans (Cert.Kernel4Ideal.Body.final5 m c),
      (h c).2.1.trans (Cert.Kernel4Ideal.Body.final6 m c), (h c).2.2.1.trans (Cert.Kernel4Ideal.Body.final7 m c), (h c).2.2.2⟩) (Cert.Kernel4Ideal.Value.run_blocks m g),
    (θ_run Cert.Reference4Ideal.defs _ _).mono (fun r h c => ⟨?_, ?_, ?_, (h c).2.2.2⟩) (Cert.Reference4Ideal.Value.run m' g')⟩
  · refine ((h c).1.trans (Cert.Reference4Ideal.Read.val_main_v75_eq m' c)).trans ?_
    rw [(hagree c).1, (hagree c).2.1, (hagree c).2.2.1, (hagree c).2.2.2.1, (hagree c).2.2.2.2]
    funext i
    obtain ⟨r, j, rfl⟩ : ∃ (r : Fin 16896) (j : Fin 512), i = ix2 r j := ⟨i 0, i 1, eq_ix2 i⟩
    exact Cert.Reference4Ideal.Body.first_at _ _ _ _ _ r j
  · refine ((h c).2.1.trans (Cert.Reference4Ideal.Read.val_main_v77_eq _ _ _ _ _)).trans ?_
    rw [(hagree c).1, (hagree c).2.1, (hagree c).2.2.1, (hagree c).2.2.2.1, (hagree c).2.2.2.2]
    funext i
    obtain ⟨r, j, rfl⟩ : ∃ (r : Fin 16896) (j : Fin 512), i = ix2 r j := ⟨i 0, i 1, eq_ix2 i⟩
    exact Cert.Reference4Ideal.Body.second_at _ _ _ _ _ r j
  · refine ((h c).2.2.1.trans (Cert.Reference4Ideal.Read.val_main_v79_eq m' c)).trans ?_
    rw [(hagree c).1, (hagree c).2.1, (hagree c).2.2.1, (hagree c).2.2.2.1, (hagree c).2.2.2.2]
    funext i
    obtain ⟨r, j, rfl⟩ : ∃ (r : Fin 16896) (j : Fin 512), i = ix2 r j := ⟨i 0, i 1, eq_ix2 i⟩
    exact Cert.Reference4Ideal.Body.third_at _ _ _ _ _ r j

end Cert.Proof
end
-- ==== Proof.Mod.lean ====
module

public import proofs.«01_k».proof.Proof.Expert
public import Idealize.ShloMosaic.Lib.Pointwise

@[expose] public section

set_option maxRecDepth 16384

noncomputable section

/-! The modulation: every layer's projection of the sequences' conditioning rows, then of the context's. -/

namespace Cert.Mod

open Idealize.ShloMosaic

/-- The rows projected: the sequences', the context's, and zero in the rows no sequence takes. -/
def cond (x : (⟨2, ![2, 1024]⟩ : Shape).Idx → EReal) (y : (⟨1, ![1024]⟩ : Shape).Idx → EReal) (r : Fin 8) (k : Fin 1024) : EReal :=
  if h : r.val < 2 then x (ix2 ⟨r.val, h⟩ k) else if r.val < 3 then y (ix1 k) else 0

/-- One entry of a layer's modulation of a row. -/
def proj (x w : Fin 1024 → EReal) (b : EReal) : EReal := ∑ k, Cert.Experts.silu (x k) * w k + b

/-- A row of zeros leaves the bias. -/
theorem proj_zero (w : Fin 1024 → EReal) (b : EReal) : proj (fun _ => 0) w b = b := by
  simp [proj, Cert.Experts.silu]

/-- One entry of the result. -/
def entry (x : (⟨2, ![2, 1024]⟩ : Shape).Idx → EReal) (y : (⟨1, ![1024]⟩ : Shape).Idx → EReal) (w : (⟨3, ![4, 1024, 6144]⟩ : Shape).Idx → EReal)
    (b : (⟨2, ![4, 6144]⟩ : Shape).Idx → EReal) (l : Fin 4) (r : Fin 8) (j : Fin 6144) : EReal :=
  proj (cond x y r) (fun k => w (ix3 l k j)) (b (ix2 l j))

end Cert.Mod
end
-- ==== Proof.ModI.lean ====
module

public import proofs.«01_k».proof.Proof.Gen.Kernel5Ideal.Value
public import proofs.«01_k».proof.Proof.Even
public import proofs.«01_k».proof.Proof.Mod
public import Idealize.ShloMosaic.Lib.Tactic
public import Idealize.ShloMosaic.Lib.Pointwise
public import Idealize.ShloMosaic.Lib.Pipeline.ValueKit

@[expose] public section
set_option maxRecDepth 16384
noncomputable section

/-! What the modulation's kernel leaves. -/

namespace Cert.Kernel5Ideal.Body

open Cert.Kernel5Ideal Cert.Kernel5Ideal.Gen
open Idealize.ShloMosaic Idealize.ShloMosaic.TcCoe Idealize.ShloMosaic.Tactic
open Idealize.ShloMosaic.Pipeline (Dat)

/-- A block's projection, entry by entry. -/
theorem pay1_at (P0 : FVec Ideal S8x1024 .f32) (P1 : FVec Ideal S1x1024x1536 .f32) (P2 : FVec Ideal S1x1x1536 .f32) (r : Fin 8) (j : Fin 1536) :
    k0_pay1 (F := Ideal) P0 P1 P2 (ix3 0 r j) = Cert.Mod.proj (fun k => P0 (ix2 r k)) (fun k => P1 (ix3 0 k j)) (P2 (ix3 0 0 j)) := by
  pointwise [k0_pay1, Cert.Mod.proj, Cert.Experts.silu]
  simp only [Cert.Even.zero_minus]

variable (m : (ℓ : Loc nD τ sig) → Buf (Elt Ideal) ℓ)

/-- The blocks' places, all points at once. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

abbrev arr0 (c : Dev nD) : S2x1024.Idx → EReal := m ((c : Thread nD τ).loc main_arg0)
abbrev arr1 (c : Dev nD) : S1024.Idx → EReal := m ((c : Thread nD τ).loc main_arg1)
abbrev arr2 (c : Dev nD) : S4x1024x6144.Idx → EReal := m ((c : Thread nD τ).loc main_arg2)
abbrev arr3 (c : Dev nD) : S4x6144.Idx → EReal := m ((c : Thread nD τ).loc main_arg3)

abbrev lay (t : Fin cfg0.N) : Fin 4 := ⟨t.val / 4, by
  have h : t.val < 16 := t.isLt
  omega⟩
abbrev col (t : Fin cfg0.N) (j : Fin 1536) : Fin 6144 := ⟨t.val % 4 * 1536 + j.val, by omega⟩

/-- The rows the kernel takes, joined before it starts. -/
abbrev rows (c : Dev nD) : FVec Ideal S8x1024 .f32 :=
  concatenate S8x1024 0 [⟨S2x1024, (arr0 m c : FVec Ideal S2x1024 .f32)⟩, ⟨S1x1024, (broadcastInDim S1x1024 ![1] bcast_S1024_S1x1024_1 (arr1 m c : FVec Ideal S1024 .f32) : FVec Ideal S1x1024 .f32)⟩,
    ⟨S5x1024, (broadcastInDim S5x1024 ![] bcast_S_S5x1024 (constant S_ .f32 0x00000000#32 : FVec Ideal S_ .f32) : FVec Ideal S5x1024 .f32)⟩] concatenates_S2x1024_S1x1024_S5x1024_S8x1024_d0

theorem rows_eq (c : Dev nD) : V m c main_v2 = rows m c := by
  have key : ∀ (a a' : FVec Ideal S2x1024 .f32) (b b' : FVec Ideal S1x1024 .f32) (d d' : FVec Ideal S5x1024 .f32), a = a' → b = b' → d = d' →
      (concatenate S8x1024 0 [⟨S2x1024, a⟩, ⟨S1x1024, b⟩, ⟨S5x1024, d⟩] concatenates_S2x1024_S1x1024_S5x1024_S8x1024_d0 : FVec Ideal S8x1024 .f32)
        = concatenate S8x1024 0 [⟨S2x1024, a'⟩, ⟨S1x1024, b'⟩, ⟨S5x1024, d'⟩] concatenates_S2x1024_S1x1024_S5x1024_S8x1024_d0 := by
    rintro a _ b _ d _ rfl rfl rfl; rfl
  show StableHlo.after hostOps0 _ _ = _
  unfold hostOps0
  rw [StableHlo.after_cons, StableHlo.after_cons, StableHlo.after_cons, StableHlo.after_cons, StableHlo.after_cons, StableHlo.after_nil]
  rw [StableHlo.reshape_result_ne (h := by decide), StableHlo.nary_result']
  refine key _ _ _ _ _ _ ?_ ?_ ?_
  · refine (StableHlo.unary_result_ne _ _ _ _ _ _ (r := main_arg0) (by decide)).trans ?_
    refine (StableHlo.nullary_result_ne _ _ _ _ (r := main_arg0) (by decide)).trans ?_
    exact StableHlo.unary_result_ne _ _ _ _ _ _ (r := main_arg0) (by decide)
  · refine (StableHlo.unary_result_ne _ _ _ _ _ _ (r := main_v0) (by decide)).trans ?_
    refine (StableHlo.nullary_result_ne _ _ _ _ (r := main_v0) (by decide)).trans ?_
    exact StableHlo.unary_result _ _ _ _ _ _
  · refine (StableHlo.unary_result main_cst main_v1 _ _ _ _).trans ?_
    rw [StableHlo.nullary_result]

theorem x_at (c : Dev nD) (t : Fin cfg0.N) (r : Fin 8) (k : Fin 1024) : (iblk m c 0 t : FVec Ideal S8x1024 .f32) (ix2 r k) = Cert.Mod.cond (arr0 m c) (arr1 m c) r k := by
  have h : (iblk m c 0 t : FVec Ideal S8x1024 .f32) (ix2 r k) = (V m c main_v2 : FVec Ideal S8x1024 .f32) (ix2 r k) := by
    generalize hv : V m c = v
    unfold iblk
    rw [hv]
    blk_ext [idx t]
  rw [h, rows_eq]
  pointwise [rows, Cert.Mod.cond]
  split
  · rfl
  · split <;> split <;> first | rfl | omega
theorem w_at (c : Dev nD) (t : Fin cfg0.N) (k : Fin 1024) (j : Fin 1536) : (iblk m c 1 t : FVec Ideal S1x1024x1536 .f32) (ix3 0 k j) = arr2 m c (ix3 (lay t) k (col t j)) := by
  blk_ext [iblk, V, idx t]
theorem b_at (c : Dev nD) (t : Fin cfg0.N) (j : Fin 1536) : (iblk m c 2 t : FVec Ideal S1x1x1536 .f32) (ix3 0 0 j) = arr3 m c (ix2 (lay t) (col t j)) := by
  blk_simp [iblk, idx t]
  entry_read
  pointwise
  blk_ext [idx t]

/-- A block's entry is the result's. -/
theorem pt_at (c : Dev nD) (t : Fin cfg0.N) (r : Fin 8) (j : Fin 1536) :
    k0_pay1 (F := Ideal) (iblk m c 0 t) (iblk m c 1 t) (iblk m c 2 t) (ix3 0 r j)
      = Cert.Mod.entry (arr0 m c) (arr1 m c) (arr2 m c) (arr3 m c) (lay t) r (col t j) := by
  refine (pay1_at _ _ _ r j).trans ?_
  unfold Cert.Mod.entry
  simp only [x_at, w_at, b_at]

/-- The array the kernel leaves. -/
abbrev res (c : Dev nD) : FVec Ideal S4x8x6144 .f32 := fun i => Cert.Mod.entry (arr0 m c) (arr1 m c) (arr2 m c) (arr3 m c) (i 0) (i 1) (i 2)

theorem emb3 (t : Fin cfg0.N) (r : Fin 8) (j : Fin 1536) : (((cfg0.win 3).blk t).view.emb (ix3 0 r j) : S4x8x6144.Idx) = ix3 (lay t) r (col t j) := by
  blk_ext [idx t]
theorem out3 (c : Dev nD) (t : Fin cfg0.N) (y : S1x8x1536.Idx) :
    k0_pay1 (F := Ideal) (iblk m c 0 t) (iblk m c 1 t) (iblk m c 2 t) y = res m c (((cfg0.win 3).blk t).view.emb y) := by
  obtain ⟨z, r, j, rfl⟩ : ∃ (z : Fin 1) (r : Fin 8) (j : Fin 1536), y = ix3 z r j := ⟨y 0, y 1, y 2, eq_ix3 y⟩
  obtain rfl : z = 0 := Subsingleton.elim _ _
  exact (pt_at m c t r j).trans (congrArg (res m c) (emb3 t r j)).symm
theorem final3 (c : Dev nD) : (dats m 0 c).arrAt 3 cfg0.N = res m c := by
  refine (dats m 0 c).arrAt_eq_of_covers 3 _ (by decide +kernel) fun t _ y => ?_
  blk_simp
  rw [after0_3]; frame_out
  exact out3 m c t y

end Cert.Kernel5Ideal.Body
end
-- ==== Proof.ModRef.lean ====
module

public import proofs.«01_k».proof.Proof.Gen.Reference5Ideal.Read
public import proofs.«01_k».proof.Proof.Mod
public import Idealize.ShloMosaic.Lib.Tactic
public import Idealize.ShloMosaic.Lib.Pointwise

@[expose] public section

set_option maxRecDepth 16384

noncomputable section

/-! The modulation in the reference, entry by entry. -/

namespace Cert.Reference5Ideal.Body

open Cert.Reference5Ideal Cert.Reference5Ideal.Read
open Idealize.ShloMosaic Idealize.ShloMosaic.TcCoe

variable (x0 : FVec Ideal S2x1024 .f32) (x1 : FVec Ideal S1024 .f32) (x2 : FVec Ideal S4x1024x6144 .f32) (x3 : FVec Ideal S4x6144 .f32)

/-- The sequences' conditioning. -/
theorem act_seq (r : Fin 2) (k : Fin 1024) : val_main_v1 (F := Ideal) x0 (ix2 r k) = Cert.Experts.silu (x0 (ix2 r k)) := by
  pointwise [val_main_v1, val_main_call0_v0, val_main_call0_v1, val_main_call0_cst, val_main_call0_v2, val_main_call0_v3, val_main_call0_cst_0, val_main_call0_v4, val_main_call0_v5, Cert.Experts.silu]

/-- The context's conditioning. -/
theorem act_ctx (k : Fin 1024) : val_main_v7 (F := Ideal) x1 (ix2 0 k) = Cert.Experts.silu (x1 (ix1 k)) := by
  pointwise [val_main_v7, val_main_v6, val_main_call1_v0, val_main_call1_v1, val_main_call1_cst, val_main_call1_v2, val_main_call1_v3, val_main_call1_cst_0, val_main_call1_v4, val_main_call1_v5, Cert.Experts.silu]

/-- The bias of every layer. -/
theorem bias (l : Fin 4) (j : Fin 6144) : val_main_v0 (F := Ideal) x3 (ix3 l 0 j) = x3 (ix2 l j) := by
  pointwise [val_main_v0]

theorem seq_at (l : Fin 4) (r : Fin 2) (j : Fin 6144) : val_main_v5 (F := Ideal) x0 x2 x3 (ix3 l r j)
    = Cert.Mod.proj (fun k => x0 (ix2 r k)) (fun k => x2 (ix3 l k j)) (x3 (ix2 l j)) := by
  unfold Cert.Mod.proj
  simp only [← act_seq]
  rw [← bias x3 l j]
  generalize hu : val_main_v1 (F := Ideal) x0 = u
  generalize hb : val_main_v0 (F := Ideal) x3 = b
  pointwise [val_main_v5, val_main_v4, val_main_v3, val_main_v2, hu, hb]
theorem ctx_at (l : Fin 4) (j : Fin 6144) : val_main_v10 (F := Ideal) x1 x2 x3 (ix3 l 0 j)
    = Cert.Mod.proj (fun k => x1 (ix1 k)) (fun k => x2 (ix3 l k j)) (x3 (ix2 l j)) := by
  unfold Cert.Mod.proj
  simp only [← act_ctx]
  rw [← bias x3 l j]
  generalize hu : val_main_v7 (F := Ideal) x1 = u
  generalize hb : val_main_v0 (F := Ideal) x3 = b
  pointwise [val_main_v10, val_main_v9, val_main_v8, hu, hb]
theorem spare_at (l : Fin 4) (r : Fin 5) (j : Fin 6144) : val_main_v11 (F := Ideal) x3 (ix3 l r j) = x3 (ix2 l j) := by
  pointwise [val_main_v11, val_main_v0]

/-- The result, entry by entry. -/
theorem res_at (l : Fin 4) (r : Fin 8) (j : Fin 6144) : val_main_v12 (F := Ideal) x0 x1 x2 x3 (ix3 l r j) = Cert.Mod.entry x0 x1 x2 x3 l r j := by
  have hs := seq_at x0 x2 x3
  have hc := ctx_at x1 x2 x3
  have he := spare_at x3
  unfold val_main_v12
  revert hs hc he
  generalize val_main_v5 (F := Ideal) x0 x2 x3 = u
  generalize val_main_v10 (F := Ideal) x1 x2 x3 = v
  generalize val_main_v11 (F := Ideal) x3 = w
  intro hs hc he
  pointwise
  unfold Cert.Mod.entry Cert.Mod.cond
  by_cases h2 : r.val < 2
  · simp only [dif_pos h2]
    exact hs l ⟨r.val, h2⟩ j
  · simp only [dif_neg h2]
    by_cases h3 : r.val < 3
    · rw [dif_pos (by omega)]
      simp only [if_pos h3]
      refine Eq.trans (congrArg v ?_) (hc l j)
      congr 1
      apply Fin.ext; show r.val - 2 = 0; omega
    · rw [dif_neg (by omega)]
      simp only [if_neg h3]
      exact (he l _ j).trans (Cert.Mod.proj_zero _ _).symm

end Cert.Reference5Ideal.Body
end
-- ==== Proof.ModClaim.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import proofs.«01_k».proof.Proof.ModI
public import proofs.«01_k».proof.Proof.ModRef
public import Idealize.ShloMosaic.Adequacy
public import Idealize.ShloMosaic.Init

@[expose] public section

set_option maxRecDepth 16384

noncomputable section

/-! The claims about the modulation. -/

namespace Cert.Proof

open Idealize.ShloMosaic Idealize.SL.Sem

theorem mod_frame_p : Cert.quiescent_Kernel5 := fun m ρ _ => Cert.Kernel5.Gen.frame m ρ
theorem mod_frame_pi : Cert.quiescent_Kernel5Ideal := fun m ρ _ => Cert.Kernel5Ideal.Gen.frame m ρ
theorem mod_frame_ri : Cert.quiescent_Reference5Ideal := by
  intro m g _
  exact (θ_run Cert.Reference5Ideal.defs _ _).mono (fun r h => ⟨fun c => (h c).2, Idealize.ShloMosaic.sem_eq_zero_of_no_sems (by decide) r.2⟩)
    (Cert.Reference5Ideal.Value.run m g)

/-- The result is the reference's. -/
theorem mod_value : Cert.algebraic_Kernel5Ideal_Reference5Ideal := by
  intro m g m' g' _ hagree
  refine ⟨fun c => Cert.Kernel5Ideal.Body.res m c,
    (θ_run Cert.Kernel5Ideal.defs _ _).mono (fun r h c => ⟨(h c).1.trans (Cert.Kernel5Ideal.Body.final3 m c), (h c).2⟩) (Cert.Kernel5Ideal.Value.run_blocks m g),
    (θ_run Cert.Reference5Ideal.defs _ _).mono (fun r h c => ⟨?_, (h c).2⟩) (Cert.Reference5Ideal.Value.run m' g')⟩
  refine ((h c).1.trans (Cert.Reference5Ideal.Read.val_main_v12_eq _ _ _ _)).trans ?_
  rw [(hagree c).1, (hagree c).2.1, (hagree c).2.2.1, (hagree c).2.2.2]
  funext i
  obtain ⟨l, r, j, rfl⟩ : ∃ (l : Fin 4) (r : Fin 8) (j : Fin 6144), i = ix3 l r j := ⟨i 0, i 1, i 2, eq_ix3 i⟩
  exact Cert.Reference5Ideal.Body.res_at _ _ _ _ l r j

end Cert.Proof
end
-- ==== Proof.BackI.lean ====
module

public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import Idealize.ShloMosaic.Lib.Tactic
public import Idealize.ShloMosaic.Lib.Batch
public import Idealize.ShloMosaic.Lib.Ring
public import Idealize.ShloMosaic.Lib.Pipeline.FrameBody
public import Idealize.ShloMosaic.Lib.Pipeline.Value

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## The rows -/

/-- The table of places, the experts' rows, and the buffer the rows are moved into. -/
abbrev tW : Memref sig .tc .smem S16896 .i32 := Memref.whole main_arg0
abbrev yW : Memref sig .tc .hbm S23040x1024 .f32 := Memref.whole main_arg3
abbrev bW : Memref sig .tc .vmem S1536x1024 .f32 := Memref.whole cc0_scratch0
/-- The semaphore the moves credit. -/
abbrev dsem : DmaSem sig := cc0_scratch1.sem

theorem brow_inb (j : ℕ) (h : j < 1536) : ∀ a, (![j, 0] : Fin 2 → ℕ) a + S1x1024.size a ≤ S1536x1024.size a := by
  intro a; fin_cases a
  · show j + 1 ≤ 1536; omega
  · show 0 + 1024 ≤ 1024; omega
theorem yrow_inb (r : ℕ) (h : r < 23040) : ∀ a, (![r, 0] : Fin 2 → ℕ) a + S1x1024.size a ≤ S23040x1024.size a := by
  intro a; fin_cases a
  · show r + 1 ≤ 23040; omega
  · show 0 + 1024 ≤ 1024; omega
theorem word_inb (n : ℕ) (h : n < 16896) : ∀ a, (![n] : Fin 1 → ℕ) a + S1.size a ≤ S16896.size a := by
  intro a; fin_cases a; show n + 1 ≤ 16896; omega

/-- Row `j` of the buffer; row `r` of the experts' rows. -/
abbrev bRow (j : ℕ) (h : j < 1536) : Memref sig .tc .vmem S1x1024 .f32 := bW.slice (Rect.unit (s := S1536x1024) ![j, 0] S1x1024.size (brow_inb j h)) (fun _ => rfl)
abbrev yRow (r : ℕ) (h : r < 23040) : Memref sig .tc .hbm S1x1024 .f32 := yW.slice (Rect.unit (s := S23040x1024) ![r, 0] S1x1024.size (yrow_inb r h)) (fun _ => rfl)

/-- Their elements. -/
abbrev bset (j : ℕ) (h : j < 1536) : Finset S1536x1024.Idx := (Rect.unit (s := S1536x1024) ![j, 0] S1x1024.size (brow_inb j h)).set
abbrev yset (r : ℕ) (h : r < 23040) : Finset S23040x1024.Idx := (Rect.unit (s := S23040x1024) ![r, 0] S1x1024.size (yrow_inb r h)).set
theorem bset_eq (j : ℕ) (h : j < 1536) : (bRow j h).view.set = bset j h := View.set_slice_whole _ _
theorem yset_eq (r : ℕ) (h : r < 23040) : (yRow r h).view.set = yset r h := View.set_slice_whole _ _

/-- The one index of a single word read from the table. -/
abbrev i0 : S1.Idx := Shape.Idx.first (s := S1) (numel1_S1.symm ▸ Nat.one_pos)
/-- The table's index `n`. -/
def tix (n : ℕ) (h : n < 16896) : S16896.Idx := fun a => ⟨n, by fin_cases a; exact h⟩
/-- The place of row `n`. -/
def place (x : Vec F S16896 .i32) (n : ℕ) (h : n < 16896) : BitVec 32 := x (tix n h)

theorem pos_lt (i : grid0.Coords) (j : ℕ) (h : j < 1536) : 1536 * (i 0).val + j < 16896 := by
  have : (i 0).val < 11 := (i 0).isLt
  omega

/-- Every place is one of the experts' rows. -/
def Placed (x : Vec F S16896 .i32) : Prop := ∀ n h, (place x n h).toNat < 23040

section Rows

variable (c : Dev nD) (i : grid0.Coords) (x : Vec F S16896 .i32) (hx : Placed x) (y : Vec F S23040x1024 .f32) (f0 : Vec F S1536x1024 .f32)

/-- The experts' row that goes to row `j` of tile `i`. -/
def src (j : ℕ) (h : j < 1536) : ℕ := (place x (1536 * (i 0).val + j) (pos_lt i j h)).toNat
include hx in
theorem src_lt (j : ℕ) (h : j < 1536) : src i x j h < 23040 := hx _ _

/-- The tile's rows, once moved. -/
def moved : Vec F S1536x1024 .f32 := fun p => y (fun a => if h : a.val = 0 then ⟨src i x (p 0).val (p 0).isLt, by
    have := src_lt i x hx (p 0).val (p 0).isLt
    obtain ⟨a, ha⟩ := a; cases a with
    | zero => exact this
    | succ n => exact absurd h (Nat.succ_ne_zero n)⟩ else ⟨(p 1).val, by
    have := (p 1).isLt
    obtain ⟨a, ha⟩ := a; cases a with
    | zero => exact absurd rfl h
    | succ n => cases n with
      | zero => exact this
      | succ n => exact absurd ha (by show ¬ (n + 1 + 1 < 2); omega)⟩)

/-- A share of the experts' row that goes to row `t`. -/
def piece (t : Fin 1536) : sProp 𝕄 :=
  yW.view.loc (c : Thread nD τ) ↦[yset (src i x t.val t.isLt) (src_lt i x hx t.val t.isLt)]{Transfers.shareTokN fullShare t.val} y
/-- Row `t` of the buffer, at contents `f`. -/
def rowAt (f : Vec F S1536x1024 .f32) (t : Fin 1536) : sProp 𝕄 :=
  bW.view.loc (c : Thread nD τ) ↦[bset t.val t.isLt]{fullShare} f
/-- What move `t` delivers. -/
def deliv (t : Fin 1536) : sProp 𝕄 := iprop(rowAt c (moved i x hx y) t ∗ piece c i x hx y t)
instance deliv_storable (t : Fin 1536) : BI.Storable (upEmb : UEmb _ 𝕄) (deliv c i x hx y t) := by
  unfold deliv rowAt piece; infer_instance

/-- One row's credit. -/
def NN : ℕ := (bRow 0 (by decide)).view.dmaCredit

/-- The moves of a tile: `j` issued, `u` consumed. -/
def batch (j u : ℕ) : sProp 𝕄 :=
  Transfers.Batch (countersEmb (U := UD sig nD τ)) (c : Thread nD τ) (.dma dsem) () NN (deliv c i x hx y) j u

/-- Before move `j`. -/
def Inv (q : PosShare TreeShare) (j : ℕ) : sProp 𝕄 :=
  iprop((tW.view.loc (c : Thread nD τ) ↦{q} x) ∗ batch c i x hx y j 0
    ∗ bigSep (Ring.rangeSet 1536 j 1536) fun t => iprop(rowAt c f0 t ∗ piece c i x hx y t))

theorem moved_row (j : ℕ) (h : j < 1536) (f : Vec F S1536x1024 .f32) :
    ∀ p ∈ bset j h, (bRow j h).view.write (Elt F) f (ReadAs.same.apply ((yRow (src i x j h) (src_lt i x hx j h)).view.read (Elt F) y)) Finset.univ p
      = moved i x hx y p := by
  intro p hp
  rw [← bset_eq] at hp
  obtain ⟨z, -, rfl⟩ := Finset.mem_map.mp hp
  rw [View.write_emb_of_mem _ _ (Finset.mem_univ z)]
  have hz0 : (z 0).val = 0 := by have : (z 0).val < 1 := (z 0).isLt; omega
  have e0 : (((bRow j h).view.emb z) 0).val = j := by show j + 1 * (z 0).val = j; omega
  have e1 : (((bRow j h).view.emb z) 1).val = (z 1).val := by show 0 + 1 * (z 1).val = _; omega
  show y _ = y _
  congr 1
  funext a
  fin_cases a
  · apply Fin.ext
    show src i x j h + 1 * (z 0).val = src i x (((bRow j h).view.emb z) 0).val (((bRow j h).view.emb z) 0).isLt
    rw [hz0]; simp only [e0]; rfl
  · apply Fin.ext
    show 0 + 1 * (z 1).val = (((bRow j h).view.emb z) 1).val
    rw [e1]; omega

theorem row_step {q : PosShare TreeShare} (j : ℕ) (hj : j < 1536)
    {off1 : Fin 1 → ℕ} {inb1 : ∀ a, off1 a + S1.size a ≤ S16896.size a} {hw : (tW.access (Rect.unit (s := S16896) off1 S1.size inb1)).Loads}
    {chk : BitVec 32 → Prop} {dec : ∀ v, Decidable (chk v)} {offy : BitVec 32 → Fin 2 → ℕ}
    {inby : ∀ v, PLift (chk v) → ∀ a, offy v a + S1x1024.size a ≤ S23040x1024.size a}
    {off2 : Fin 2 → ℕ} {inb2 : ∀ a, off2 a + S1x1024.size a ≤ S1536x1024.size a}
    {ha : ∀ v (h : PLift (chk v)) a, (Rect.unit (s := S23040x1024) (offy v) S1x1024.size (inby v h)).stride a = 1}
    {hb : ∀ a, (Rect.unit (s := S1536x1024) off2 S1x1024.size inb2).stride a = 1} {hs : ∀ v h, View.WordExact (yW.slice (Rect.unit (s := S23040x1024) (offy v) S1x1024.size (inby v h)) (ha v h)).view}
    {hd : View.WordExact (bW.slice (Rect.unit (s := S1536x1024) off2 S1x1024.size inb2) hb).view}
    {hsem : DmaTarget.Typed (nD := nD) .hbm (.dma dsem) (DmaTarget.here (p := (Proc.tc : Proc τ)) (bW.slice (Rect.unit (s := S1536x1024) off2 S1x1024.size inb2) hb))}
    {k : PUnit → Prog (TpuEff nD τ sig (Elt F) Λ₀ .tc) PUnit} {Q : PUnit → sProp 𝕄}
    (h1 : off1 = ![1536 * (i 0).val + j]) (h2 : off2 = ![j, 0]) (hy : offy = fun v => ![v.toNat, 0])
    (hc : chk = fun v => ∀ a, offy v a + S1x1024.size a ≤ S23040x1024.size a) :
    Inv c i x hx y f0 q j ⊢ iprop((Inv c i x hx y f0 q (j + 1) -∗ wp frame (wpE (defs₀ (F := F)) Variants.none (c : Thread nD τ) none) Set.univ (k ⟨⟩) Q)
      -∗ wp frame (wpE (defs₀ (F := F)) Variants.none (c : Thread nD τ) none) Set.univ
        (smemLoadElt tW (Rect.unit (s := S16896) off1 S1.size inb1) hw i0 fun v =>
          .op (.assume (chk v) (dec v)) fun h =>
          .op (.enqueueDmaAs (yW.slice (Rect.unit (s := S23040x1024) (offy v) S1x1024.size (inby v h)) (ha v h))
            (.here (bW.slice (Rect.unit (s := S1536x1024) off2 S1x1024.size inb2) hb)) .same (.dma dsem) (hs v h) hd hsem) k) Q) := by
  subst h1 h2 hy hc
  unfold Inv
  rw [Ring.bigSep_rangeSet_head hj hj]
  iintro ⟨Ht, HB, ⟨Hr, Hp⟩, Hrest⟩ Hk
  iapply (wp_smemLoadElt_named (defs := defs₀ (F := F)) Variants.none (c : Thread nD τ) none Set.univ (m := tW) (r := Rect.unit (s := S16896) ![1536 * (i 0).val + j] S1.size inb1) (x := i0) (S := (Finset.univ : Finset S16896.Idx)) (q := q) (f := x) (fun _ _ => Finset.mem_univ _)) $$ Ht
  iintro Ht %w %hw
  have hv : (tW.access (Rect.unit (s := S16896) ![1536 * (i 0).val + j] S1.size inb1)).read (Elt F) x i0 = place x (1536 * (i 0).val + j) (pos_lt i j hj) := by
    show x _ = x _
    congr 1
    funext a
    fin_cases a
    apply Fin.ext
    show 1536 * (i 0).val + j + 1 * 0 = 1536 * (i 0).val + j
    omega
  rw [hv] at hw; subst hw
  iapply (wp_assume (defs := defs₀ (F := F)) Variants.none (c : Thread nD τ) none Set.univ (yrow_inb _ (hx _ _)))
  unfold batch
  iapply (Transfers.wp_dmaBatch (countersEmb (U := UD sig nD τ)) Variants.none (c : Thread nD τ) none (src := yRow (src i x j hj) (src_lt i x hx j hj)) (dst := bRow j hj)
    (q := Transfers.shareTokN fullShare j) (fs := y) (fd := f0) (D := deliv c i x hx y) (j := j) (u := 0) () NN rfl (Finset.Subset.refl _) hj (Nat.zero_le _) ?_) $$ [Hr Hp HB]
  · unfold deliv rowAt piece
    exact by
      rw [bset_eq, yset_eq]
      exact sep_mono_left (Entails.of_eq (pointsTo_congr (moved_row i x hx y j hj f0)))
  · isplitl [Hp]; · unfold piece; rw [yset_eq]; iexact Hp
    isplitl [Hr]; · unfold rowAt; rw [bset_eq]; iexact Hr
    iexact HB
  iintro HB
  iapply Hk
  isplitl [Ht]; · iexact Ht
  isplitl [HB]; · iexact HB
  iexact Hrest

theorem pure_then {α β : Type} (a : α) (k : α → Prog (TpuEff nD τ sig (Elt F) Λ₀ .tc) β) : (Pure.pure a >>= k) = k a := rfl

set_option maxHeartbeats 800000 in
theorem issue_step (q : PosShare TreeShare)
    (arg2 : Memref sig .tc .vmem S1536x1024 .f32) (harg2 : arg2.IsWhole) (arg3 : Memref sig .tc .vmem S8x6x1024 .f32) (harg3 : arg3.IsWhole)
    (arg5 : Memref sig .tc .vmem S1536x1024 .f32) (harg5 : arg5.IsWhole) (v0 : BitVec 32) (k : Fin k0_t1_loop.trips) (acc : Unit) :
    Inv c i x hx y f0 q (32 * k.val) ⊢ wp frame (wpE (defs₀ (F := F)) Variants.none (c : Thread nD τ) none) Set.univ
      (k0_t1_body i tW (Memref.isWhole_whole _) arg2 harg2 arg3 harg3 yW (Memref.isWhole_whole _) arg5 harg5 bW (Memref.isWhole_whole _) cc0_scratch1 v0 k acc)
      (fun _ => Inv c i x hx y f0 q (32 * (k.val + 1))) := by
  have hk : k.val < 48 := lt_of_lt_of_eq k.isLt (by decide)
  unfold k0_t1_body
  simp only [k0_part7_eq_skeleton, k0_part7_skel, k0_part6_eq_skeleton, k0_part6_skel, k0_part5_eq_skeleton, k0_part5_skel, k0_part4_eq_skeleton, k0_part4_skel,
    k0_part3_eq_skeleton, k0_part3_skel, k0_part2_eq_skeleton, k0_part2_skel, k0_part1_eq_skeleton, k0_part1_skel]
  simp only [smemLoad, smemLoadElt_bind, Prog.bind_assoc, Prog.bind_lift, Prog.bind_op, Prog.bind_ret, pure_then]
  iintro HI
  iterate 32
    iapply (row_step c i x hx y f0 (q := q) _ ?hj ?h1 ?h2 ?hy ?hc) $$ HI
    case hj => omega
    case h1 => exact (ClosedOff.eq (off := _)).trans rfl
    case h2 => exact (ClosedOff.eq (off := _)).trans rfl
    case hy => rfl
    case hc => rfl
    iintro HI
  sl_step
  rw [show 32 * (k.val + 1) = 32 * k.val + 32 from rfl]
  iexact HI

end Rows

end Cert.Kernel6Ideal.Body

end
-- ==== Proof.BackDrainI.lean ====
module

public import proofs.«01_k».proof.Proof.BackI

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (c : Dev nD) (i : grid0.Coords) (x : Vec F S16896 .i32) (hx : Placed x) (y : Vec F S23040x1024 .f32) (f0 : Vec F S1536x1024 .f32)

/-- Before wait `k`: that many rows' units consumed; after the last, the semaphore at zero and every row moved. -/
def Drain (q : PosShare TreeShare) (k : ℕ) : sProp 𝕄 :=
  iprop((tW.view.loc (c : Thread nD τ) ↦{q} x) ∗ (∃ W, owes (c : Thread nD τ) 0 W)
    ∗ (if k < 1536 then batch c i x hx y 1536 (k * NN)
      else iprop(semVal ((c : Thread nD τ), SemLoc.dma dsem) 0 ∗ bigSep Finset.univ (deliv c i x hx y))))

theorem NN_pos : 0 < NN := View.dmaCredit_pos _ (by decide)

set_option maxHeartbeats 800000 in
theorem drain_step (q : PosShare TreeShare)
    (arg2 : Memref sig .tc .vmem S1536x1024 .f32) (harg2 : arg2.IsWhole) (arg3 : Memref sig .tc .vmem S8x6x1024 .f32) (harg3 : arg3.IsWhole)
    (arg5 : Memref sig .tc .vmem S1536x1024 .f32) (harg5 : arg5.IsWhole) (k : Fin k0_t2_loop.trips) (acc : Unit) :
    Drain c i x hx y q k.val ⊢ wp frame (wpE (defs₀ (F := F)) Variants.none (c : Thread nD τ) none) Set.univ
      (k0_t2_body i tW (Memref.isWhole_whole _) arg2 harg2 arg3 harg3 yW (Memref.isWhole_whole _) arg5 harg5 bW (Memref.isWhole_whole _) cc0_scratch1 k acc)
      (fun _ => Drain c i x hx y q (k.val + 1)) := by
  have hk : k.val < 1536 := lt_of_lt_of_eq k.isLt (by decide +kernel)
  unfold k0_t2_body Drain
  simp only [smemLoad, smemLoadElt_bind, Prog.bind_assoc, Prog.bind_lift, Prog.bind_op, Prog.bind_ret, pure_then]
  rw [if_pos hk]
  iintro ⟨Ht, ⟨%W, HO⟩, HB⟩
  iapply (wp_smemLoadElt_named (defs := defs₀ (F := F)) Variants.none (c : Thread nD τ) none Set.univ (m := tW) (r := Rect.unit (s := S16896) (k0_off97 i k) S1.size (k0_off97_inb i k)) (x := i0) (S := (Finset.univ : Finset S16896.Idx)) (q := q) (f := x) (fun _ _ => Finset.mem_univ _)) $$ Ht
  iintro Ht %w %hw
  have hv : (tW.access (Rect.unit (s := S16896) (k0_off97 i k) S1.size (k0_off97_inb i k))).read (Elt F) x i0 = place x (1536 * (i 0).val + k.val) (pos_lt i k.val hk) := by
    show x _ = x _
    congr 1
    funext a
    fin_cases a
    apply Fin.ext
    show k0_off97 i k 0 + 1 * 0 = 1536 * (i 0).val + k.val
    rw [k0_off97_eq i k]; rfl
  rw [hv] at hw; subst hw
  iapply (wp_assume (defs := defs₀ (F := F)) Variants.none (c : Thread nD τ) none Set.univ (yrow_inb _ (hx _ _)))
  unfold batch
  by_cases h1 : k.val + 1 < 1536
  · iapply (Transfers.wp_waitBatch (countersEmb (U := UD sig nD τ)) Variants.none (c : Thread nD τ) none (N := NN) (u := k.val * NN) (W := W) () ?_
      (by rw [← Nat.succ_mul, Nat.mul_comm NN]; exact Nat.mul_lt_mul_of_pos_right h1 NN_pos)) $$ [HB HO]
    · rfl
    · isplitl [HB] <;> iassumption
    iintro ⟨HB, HO⟩
    sl_step
    rw [if_pos h1, show (k.val + 1) * NN = k.val * NN + NN from Nat.succ_mul _ _]
    isplitl [Ht]; · iexact Ht
    isplitl [HO]; · iexists _; iexact HO
    iexact HB
  · iapply (Transfers.wp_waitBatchLast (countersEmb (U := UD sig nD τ)) Variants.none (c : Thread nD τ) none (N := NN) (u := k.val * NN) (W := W) () ?_ NN_pos
      (by rw [← Nat.succ_mul, Nat.mul_comm NN, show k.val.succ = 1536 by omega])) $$ [HB HO]
    · rfl
    · isplitl [HB] <;> iassumption
    iintro ⟨HD, Hs, HO⟩
    sl_step
    rw [if_neg h1]
    isplitl [Ht]; · iexact Ht
    isplitl [HO]; · iexists _; iexact HO
    isplitl [Hs] <;> iassumption

/-! ## The whole buffers as rows -/

theorem mem_bset (j : ℕ) (h : j < 1536) (p : S1536x1024.Idx) : p ∈ bset j h ↔ (p 0).val = j := by
  rw [Rect.mem_set_unit]
  have h1 : (p 1).val < 1024 := (p 1).isLt
  constructor
  · intro H; have a0 : j ≤ (p 0).val ∧ (p 0).val < j + 1 := H 0; omega
  · intro H a; fin_cases a
    · show j ≤ (p 0).val ∧ (p 0).val < j + 1; omega
    · show 0 ≤ (p 1).val ∧ (p 1).val < 0 + 1024; omega
theorem bset_disjoint : ∀ b b' : Fin 1536, b ≠ b' → Disjoint (bset b.val b.isLt) (bset b'.val b'.isLt) := fun b b' hne => by
  rw [Finset.disjoint_left]; intro p hp hp'; rw [mem_bset] at hp hp'; exact hne (Fin.ext (by omega))
theorem bset_cover : Finset.univ.biUnion (fun b : Fin 1536 => bset b.val b.isLt) = Finset.univ := by
  ext p; simp only [Finset.mem_biUnion, Finset.mem_univ, true_and, iff_true]; exact ⟨p 0, (mem_bset _ _ _).mpr rfl⟩

/-- The buffer whole is its rows. -/
theorem rows_eq (f : Vec F S1536x1024 .f32) :
    (bW.view.loc (c : Thread nD τ) ↦{fullShare} f : sProp 𝕄) = bigSep Finset.univ (rowAt c f) :=
  Ring.pointsTo_blocks (ℓ := bW.view.loc (c : Thread nD τ)) (q := fullShare) (fun b : Fin 1536 => bset b.val b.isLt) bset_disjoint bset_cover f

/-- What is left of a share of the experts' rows without the row that goes to row `t`. -/
def others (t : Fin 1536) : sProp 𝕄 :=
  yW.view.loc (c : Thread nD τ) ↦[Finset.univ \ yset (src i x t.val t.isLt) (src_lt i x hx t.val t.isLt)]{Transfers.shareTokN fullShare t.val} y

theorem tok_eq (t : Fin 1536) :
    (yW.view.loc (c : Thread nD τ) ↦[Finset.univ]{Transfers.shareTok fullShare 1536 t} y : sProp 𝕄) ⊣⊢ iprop(piece c i x hx y t ∗ others c i x hx y t) :=
  pointsTo_split_subset (Finset.subset_univ _)

/-- The experts' rows whole, as a share for each row moved and the rest. -/
theorem toks_split : (yW.view.loc (c : Thread nD τ) ↦{fullShare} y : sProp 𝕄)
    ⊢ iprop((yW.view.loc (c : Thread nD τ) ↦{Transfers.shareDrop fullShare 1536} y) ∗ bigSep Finset.univ (piece c i x hx y) ∗ bigSep Finset.univ (others c i x hx y)) := by
  refine (Transfers.pointsTo_toks_split fullShare 1536).trans (sep_mono_right ?_)
  refine (BI.bigSep_mono fun t _ => (tok_eq c i x hx y t).1).trans ?_
  exact Entails.of_eq (BI.bigSep_sep _ _ _)
theorem toks_join : iprop((yW.view.loc (c : Thread nD τ) ↦{Transfers.shareDrop fullShare 1536} y) ∗ bigSep Finset.univ (piece c i x hx y) ∗ bigSep Finset.univ (others c i x hx y))
    ⊢ (yW.view.loc (c : Thread nD τ) ↦{fullShare} y : sProp 𝕄) := by
  refine (sep_mono_right ?_).trans (Transfers.pointsTo_toks_join fullShare 1536)
  exact (Entails.of_eq (BI.bigSep_sep _ _ _).symm).trans (BI.bigSep_mono fun t _ => (tok_eq c i x hx y t).2)

/-- The 256 rows from row `o` of the tile, with the modulation's row that step's block `b` takes. -/
def part (x2 : Vec F S1536x1024 .f32) (x3 : Vec F S8x6x1024 .f32) (mv : Vec F S1536x1024 .f32) (b : Fin 6) (o : ℕ)
    (ho : ∀ a, (![o, 0] : Fin 2 → ℕ) a + S256x1024.size a ≤ S1536x1024.size a) : Vec F S256x1024 .f32 :=
  k0_pay1 (View.ld x3 (Rect.unit (s := S8x6x1024) (k0_off100 i (BitVec.ofNat 32 b.val)) S1x6x1024.size (k0_off100_inb i b)))
    (View.ld x2 (Rect.unit (s := S1536x1024) ![o, 0] S256x1024.size ho)) (View.ld mv (Rect.unit (s := S1536x1024) ![o, 0] S256x1024.size ho))

/-- The tile the body leaves: its six blocks of 256 rows. -/
def tileOf (x2 : Vec F S1536x1024 .f32) (x3 : Vec F S8x6x1024 .f32) (mv : Vec F S1536x1024 .f32) : Vec F S1536x1024 .f32 :=
  View.canon [⟨Rect.unit (s := S1536x1024) ![1280, 0] S256x1024.size inb_S1536x1024_S256x1024_1280_0, part i x2 x3 mv 5 1280 inb_S1536x1024_S256x1024_1280_0⟩,
    ⟨Rect.unit (s := S1536x1024) ![1024, 0] S256x1024.size inb_S1536x1024_S256x1024_1024_0, part i x2 x3 mv 4 1024 inb_S1536x1024_S256x1024_1024_0⟩,
    ⟨Rect.unit (s := S1536x1024) ![768, 0] S256x1024.size inb_S1536x1024_S256x1024_768_0, part i x2 x3 mv 3 768 inb_S1536x1024_S256x1024_768_0⟩,
    ⟨Rect.unit (s := S1536x1024) ![512, 0] S256x1024.size inb_S1536x1024_S256x1024_512_0, part i x2 x3 mv 2 512 inb_S1536x1024_S256x1024_512_0⟩,
    ⟨Rect.unit (s := S1536x1024) ![256, 0] S256x1024.size inb_S1536x1024_S256x1024_256_0, part i x2 x3 mv 1 256 inb_S1536x1024_S256x1024_256_0⟩,
    ⟨Rect.unit (s := S1536x1024) ![0, 0] S256x1024.size inb_S1536x1024_S256x1024_0_0, part i x2 x3 mv 0 0 inb_S1536x1024_S256x1024_0_0⟩]

set_option maxHeartbeats 1600000 in
theorem sound_kernel (q : PosShare TreeShare)
    (arg2 : Memref sig .tc .vmem S1536x1024 .f32) (harg2 : arg2.IsWhole) (arg3 : Memref sig .tc .vmem S8x6x1024 .f32) (harg3 : arg3.IsWhole)
    (arg5 : Memref sig .tc .vmem S1536x1024 .f32) (harg5 : arg5.IsWhole)
    (x2 : Vec F S1536x1024 .f32) (x3 : Vec F S8x6x1024 .f32) (K : PUnit → sProp 𝕄) :
    iprop((tW.view.loc (c : Thread nD τ) ↦{q} x) ∗ owns c arg2 fullShare x2 ∗ owns c arg3 fullShare x3 ∗ (∃ d, owns c arg5 fullShare d)
      ∗ (yW.view.loc (c : Thread nD τ) ↦{fullShare} y) ∗ (bW.view.loc (c : Thread nD τ) ↦{fullShare} f0) ∗ semVal ((c : Thread nD τ), SemLoc.dma dsem) 0 ∗ (∃ W, owes (c : Thread nD τ) 0 W)
      ∗ (iprop((tW.view.loc (c : Thread nD τ) ↦{q} x) ∗ owns c arg2 fullShare x2 ∗ owns c arg3 fullShare x3 ∗ owns c arg5 fullShare (tileOf i x2 x3 (moved i x hx y))
        ∗ (yW.view.loc (c : Thread nD τ) ↦{fullShare} y) ∗ (∃ f, bW.view.loc (c : Thread nD τ) ↦{fullShare} f) ∗ semVal ((c : Thread nD τ), SemLoc.dma dsem) 0 ∗ (∃ W, owes (c : Thread nD τ) 0 W)) -∗ K ⟨⟩))
      ⊢ wp frame (wpE (defs₀ (F := F)) Variants.none (c : Thread nD τ) none) Set.univ
        (cc0_moe_combine i tW (Memref.isWhole_whole _) arg2 harg2 arg3 harg3 yW (Memref.isWhole_whole _) arg5 harg5 bW (Memref.isWhole_whole _) cc0_scratch1) K := by
  simp only [cc0_moe_combine_eq_skeleton, cc0_moe_combine_skel, k0_part14_eq_skeleton, k0_part14_skel, k0_part13_eq_skeleton, k0_part13_skel, k0_part12_eq_skeleton, k0_part12_skel,
    k0_part11_eq_skeleton, k0_part11_skel, k0_part10_eq_skeleton, k0_part10_skel, k0_part9_eq_skeleton, k0_part9_skel, k0_part8_eq_skeleton, k0_part8_skel,
    Prog.bind_assoc, pure_then, Prog.bind_ret]
  unfold owns
  iintro ⟨Ht, ⟨%f2, %hf2, H2⟩, ⟨%f3, %hf3, H3⟩, ⟨%d6, %f6, -, H6⟩, Hy, Hb, Hs, HO, Hk⟩
  subst hf2 hf3
  ihave Hy' := (toks_split c i x hx y) $$ Hy
  icases Hy' with ⟨Hy0, Hp, Ho⟩
  ihave Hr := (Entails.of_eq (rows_eq c f0)) $$ Hb
  imod (Transfers.batch_alloc' (Lvl := ℕ) (countersEmb (U := UD sig nD τ)) (c : Thread nD τ) () NN (deliv c i x hx y) (sm := .dma dsem) (E := Set.univ)) $$ Hs with HB
  ihave HI := (show iprop((tW.view.loc (c : Thread nD τ) ↦{q} x) ∗ batch c i x hx y 0 0 ∗ bigSep Finset.univ (rowAt c f0) ∗ bigSep Finset.univ (piece c i x hx y)) ⊢ Inv c i x hx y f0 q 0 from by
    unfold Inv
    rw [Ring.rangeSet_univ]
    exact sep_mono_right (sep_mono_right (Entails.of_eq (BI.bigSep_sep _ _ _).symm))) $$ [Ht HB Hr Hp]
  · unfold batch
    isplitl [Ht]; · iexact Ht
    isplitl [HB]; · iexact HB
    isplitl [Hr] <;> iassumption
  sl_for (fun k (_ : Unit) => Inv c i x hx y f0 q (32 * k)) $$ [HI]
  · intro k acc; exact issue_step c i x hx y f0 q arg2 harg2 arg3 harg3 arg5 harg5 _ k acc
  · iexact HI
  iintro %acc HL
  sl_for (fun k (_ : Unit) => Drain c i x hx y q k) $$ [HL HO]
  · intro k acc; exact drain_step c i x hx y q arg2 harg2 arg3 harg3 arg5 harg5 k acc
  · unfold Drain
    rw [if_pos (by decide), Nat.zero_mul]
    ihave HL := (show Inv c i x hx y f0 q (32 * k0_t1_loop.trips) ⊢ iprop((tW.view.loc (c : Thread nD τ) ↦{q} x) ∗ batch c i x hx y 1536 0) from by
      rw [show 32 * k0_t1_loop.trips = 1536 from by decide +kernel]
      unfold Inv
      rw [Ring.bigSep_rangeSet_empty (le_refl _)]
      iintro ⟨Ht, HB, -⟩
      isplitl [Ht] <;> iassumption) $$ HL
    icases HL with ⟨Ht, HB⟩
    isplitl [Ht]; · iexact Ht
    isplitl [HO]; · iexact HO
    iexact HB
  iintro %acc2 HL
  ihave HL := (show Drain c i x hx y q k0_t2_loop.trips ⊢ iprop((tW.view.loc (c : Thread nD τ) ↦{q} x) ∗ (∃ W, owes (c : Thread nD τ) 0 W)
      ∗ semVal ((c : Thread nD τ), SemLoc.dma dsem) 0 ∗ (bW.view.loc (c : Thread nD τ) ↦{fullShare} moved i x hx y) ∗ bigSep Finset.univ (piece c i x hx y)) from by
    rw [show k0_t2_loop.trips = 1536 from by decide +kernel]
    unfold Drain
    rw [if_neg (by decide), rows_eq]
    exact sep_mono_right (sep_mono_right (sep_mono_right (Entails.of_eq (BI.bigSep_sep _ _ _))))) $$ HL
  icases HL with ⟨Ht, HO, Hs, Hb, Hp⟩
  ihave Hy := (toks_join c i x hx y) $$ [Hy0 Hp Ho]
  · isplitl [Hy0]; · iexact Hy0
    isplitl [Hp] <;> iassumption
  sl_exec
  sl_step
  iapply Hk
  isplitl [Ht]; · iexact Ht
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ ?_).trans ?_
    · exact View.cover_of_tiled _ S256x1024.size rfl
    · simp only [View.readAt_eq_ld]
      rfl
  isplitl [Hy]; · iexact Hy
  isplitl [Hb]; · iexists _; iexact Hb
  isplitl [Hs] <;> iassumption

end Cert.Kernel6Ideal.Body

end
-- ==== Proof.BackRunI.lean ====
module

public import proofs.«01_k».proof.Proof.BackDrainI

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation BodyObligationLoose cellOf)

variable {F : FTy → Type} [FloatOps F]

local notation "𝕄" => MT nD τ sig Unit (Elt F) ℕ (UD sig nD τ) ℕ

variable (m : (ℓ : Loc nD τ sig) → Buf (Elt F) ℓ)

/-! ## The contents at the loop's entry -/

/-- What each buffer holds when the loop is entered: the launch memory. -/
def V (c : Dev nD) (b : Ref sig .tc) : Buf (Elt F) ((c.tc : Thread nD τ).loc b) := m ((c.tc : Thread nD τ).loc b)

/-- The table's contents when the loop is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tW.view.loc (c : Thread nD τ) ↦{fullShare.right} V m c main_arg0) := by
  obtain rfl : c = 0 := Subsingleton.elim _ _
  unfold Pipeline.ΦT Pipeline.prefHeld
  rw [show (Finset.univ : Finset (Fin 1)) = {(0 : Fin 1)} from by decide, bigSep_singleton]
  rfl

/-! ## The loop's proof data -/

/-- Window `w`'s block of its array at point `t`. -/
def iblk (c : Dev nD) (w : Fin 3) (t : Fin (cfgM m).N) : (((cfgM m).win w).xblock ((cfgM m).grid.coords t)).Idx → Elt F ((cfgM m).win w).elt :=
  (((cfgM m).win w).blk t).view.read (Elt F) (V m c (Pipeline.arrRef spec0 w))

/-- The stream's tile, the modulation at point `t`. -/
def xblk (c : Dev nD) (t : Fin (cfgM m).N) : Vec F S1536x1024 .f32 := iblk m c 0 t
def mblk (c : Dev nD) (t : Fin (cfgM m).N) : Vec F S8x6x1024 .f32 := iblk m c 1 t

variable (hx : ∀ c, Placed (V m c main_arg0))

/-- The tile the body leaves at point `t`. -/
def otile (c : Dev nD) (t : Fin (cfgM m).N) : Vec F S1536x1024 .f32 :=
  tileOf (grid0.coords t) (xblk m c t) (mblk m c t) (moved (grid0.coords t) (V m c main_arg0) (hx c) (V m c main_arg3))

/-- The invariant at every point: the buffer the rows are moved into, the generator register, the moves' semaphore at zero, the
    experts' rows and the table. -/
def PhiS (c : Dev nD) : sProp 𝕄 :=
  iprop((∃ f, bW.view.loc (c : Thread nD τ) ↦{fullShare} f) ∗ (∃ r, prngReg c r) ∗ semVal ((c : Thread nD τ), SemLoc.dma dsem) 0
    ∗ (yW.view.loc (c : Thread nD τ) ↦{fullShare} V m c main_arg3) ∗ (tW.view.loc (c : Thread nD τ) ↦{fullShare.right} V m c main_arg0))

/-- The loop's proof data: every input block kept, the output tile `otile`. -/
def dats (_p : Fin 1) (c : Dev nD) : Dat τ (Elt F) Unit ℕ (UD sig nD τ) ℕ (cfgM m) c where
  A w := V m c (Pipeline.arrRef spec0 w)
  after w t := match w with
    | 0 => iblk m c 0 t
    | 1 => iblk m c 1 t
    | 2 => otile m hx c t
    | ⟨_ + 3, h⟩ => absurd h (Nat.not_lt.2 (Nat.le_add_left _ _))
  Φ _ := PhiS m c
  q _ := fullShare
  recorded _ := Set.univ
  owed _ := 0

theorem A_eq (c : Dev nD) (w : Fin (cfgM m).W) : (dats m hx 0 c).A w = V m c (Pipeline.arrRef spec0 w) := by
  dsimp only [dats]

theorem before_in (c : Dev nD) (t : Fin (cfgM m).N) :
    (∀ d, (dats m hx 0 c).before (0 : Fin 3) t d = xblk m c t) ∧ (∀ d, (dats m hx 0 c).before (1 : Fin 3) t d = mblk m c t) := by
  refine ⟨?_, ?_⟩
  · intro d; exact ((dats m hx 0 c).before_in_eq_fetched (0 : Fin 3) rfl (fun _ => rfl) (fun _ _ _ => rfl) (fun _ => rfl) t d).trans rfl
  · intro d; exact ((dats m hx 0 c).before_in_eq_fetched (1 : Fin 3) rfl (fun _ => rfl) (fun _ _ _ => rfl) (fun _ => rfl) t d).trans rfl

/-- The body as the loop runs it at point `t`. -/
abbrev bodyAt (t : Fin (cfgM m).N) : Prog (TpuEff nD τ sig (Elt F) Λ₀ .tc) PUnit :=
  cc0_moe_combine (grid0.coords t) tW (Memref.isWhole_whole _) (spec0_0.stage ((cfgM m).slots t (0 : Fin 3))) (hstage0_0 (((cfgM m).slots t (0 : Fin 3)).cast nbuf0_0)) (spec0_1.stage ((cfgM m).slots t (1 : Fin 3))) (hstage0_1 (((cfgM m).slots t (1 : Fin 3)).cast nbuf0_1))
    yW (Memref.isWhole_whole _) (spec0_2.stage ((cfgM m).slots t (2 : Fin 3))) (hstage0_2 (((cfgM m).slots t (2 : Fin 3)).cast nbuf0_2)) bW (Memref.isWhole_whole _) cc0_scratch1

theorem sound_body (c : Dev nD) (t : Fin (cfgM m).N) :
    iprop((dats m hx 0 c).Φ t.castSucc ∗ (dats m hx 0 c).owesAt () t.castSucc
      ∗ (∃ d, owns c (spec0_0.stage ((cfgM m).slots t (0 : Fin 3))) fullShare ((dats m hx 0 c).before (0 : Fin 3) t d))
      ∗ (∃ d, owns c (spec0_1.stage ((cfgM m).slots t (1 : Fin 3))) fullShare ((dats m hx 0 c).before (1 : Fin 3) t d))
      ∗ (∃ d, owns c (spec0_2.stage ((cfgM m).slots t (2 : Fin 3))) fullShare ((dats m hx 0 c).before (2 : Fin 3) t d)))
    ⊢ wp frame (wpE (defs₀ (F := F)) Variants.none c none) Set.univ (bodyAt m t) fun _ =>
      iprop((dats m hx 0 c).Φ t.succ ∗ (dats m hx 0 c).owesAt () t.succ
      ∗ owns c (spec0_0.stage ((cfgM m).slots t (0 : Fin 3))) fullShare (xblk m c t)
      ∗ owns c (spec0_1.stage ((cfgM m).slots t (1 : Fin 3))) fullShare (mblk m c t)
      ∗ owns c (spec0_2.stage ((cfgM m).slots t (2 : Fin 3))) fullShare (otile m hx c t)) := by
  obtain ⟨b0, b1⟩ := before_in m hx c t
  simp only [b0, b1]
  rw [show (dats m hx 0 c).Φ t.castSucc = PhiS m c from rfl, show (dats m hx 0 c).Φ t.succ = PhiS m c from rfl]
  unfold PhiS
  iintro ⟨⟨⟨%f, Hb⟩, Hg, Hs, Hy, Ht⟩, ⟨%W, -, Ho⟩, ⟨%d0, H0⟩, ⟨%d1, H1⟩, ⟨%d2, H2⟩⟩
  iapply (sound_kernel c (grid0.coords t) (V m c main_arg0) (hx c) (V m c main_arg3) f fullShare.right
    (spec0_0.stage ((cfgM m).slots t (0 : Fin 3))) (hstage0_0 (((cfgM m).slots t (0 : Fin 3)).cast nbuf0_0)) (spec0_1.stage ((cfgM m).slots t (1 : Fin 3))) (hstage0_1 (((cfgM m).slots t (1 : Fin 3)).cast nbuf0_1))
    (spec0_2.stage ((cfgM m).slots t (2 : Fin 3))) (hstage0_2 (((cfgM m).slots t (2 : Fin 3)).cast nbuf0_2)) (xblk m c t) (mblk m c t))
  isplitl [Ht]; · iexact Ht
  isplitl [H0]; · iexact H0
  isplitl [H1]; · iexact H1
  isplitl [H2]; · iexists _; iexact H2
  isplitl [Hy]; · iexact Hy
  isplitl [Hb]; · iexact Hb
  isplitl [Hs]; · iexact Hs
  isplitl [Ho]; · iexists _; iexact Ho
  iintro ⟨Ht, H0, H1, H2, Hy, Hb, Hs, ⟨%W', Ho⟩⟩
  isplitl [Hb Hg Hs Hy Ht]
  · isplitl [Hb]; · iexact Hb
    isplitl [Hg]; · iexact Hg
    isplitl [Hs]; · iexact Hs
    isplitl [Hy] <;> iassumption
  isplitl [Ho]
  · iexists W'
    isplitr
    · ipureintro; exact fun _ _ => Or.inl trivial
    iexact Ho
  isplitl [H0]; · iexact H0
  isplitl [H1]; · iexact H1
  iexact H2

attribute [local irreducible] tileOf cc0_moe_combine in
theorem body_obligation (c : Dev nD) : BodyObligation (dats m hx 0 c) defs₀ Variants.none () Set.univ := fun t => by
  rw [bigSep_W0, bigSep_W0]
  exact sound_body m hx c t

/-- The moves' semaphore, the one the kernel waits on itself. -/
abbrev osem : Unit → SemLoc sig := fun _ => .dma dsem

theorem own : Pipeline.OwnSemFacts spec0 osem := by decide

theorem PhiD_eq (c : Dev nD) : (Pipeline.ΦD osem spec0 {main_arg3} (V m) c : sProp 𝕄)
    = iprop((∃ f, bW.view.loc (c : Thread nD τ) ↦{fullShare} f) ∗ (∃ r, prngReg c r) ∗ semVal ((c : Thread nD τ), SemLoc.dma dsem) 0
      ∗ (yW.view.loc (c : Thread nD τ) ↦{fullShare} V m c main_arg3)) := by
  rw [Pipeline.ΦD_eq, scopedRest0_eq, bigSep_singleton]
  unfold Pipeline.ownSems0
  rw [show (Finset.univ : Finset Unit) = {()} from by decide, bigSep_singleton]

/-- What the launch hands the loop is the invariant. -/
theorem hin (c : Dev nD) : iprop(Pipeline.ΦD osem spec0 {main_arg3} (V m) c ∗ Pipeline.ΦT pre0 (tbl m) c) ⊢ (dats m hx 0 c).Φ 0 := by
  rw [show (dats m hx 0 c).Φ 0 = PhiS m c from rfl, PhiD_eq, PhiT_eq]
  unfold PhiS
  iintro ⟨⟨Hb, Hg, Hs, Hy⟩, Ht⟩
  isplitl [Hb]; · iexact Hb
  isplitl [Hg]; · iexact Hg
  isplitl [Hs]; · iexact Hs
  isplitl [Hy] <;> iassumption

/-- After the last point it gives everything but the table back. -/
theorem hout (c : Dev nD) : (dats m hx 0 c).Φ (Fin.last (cfgM m).N) ⊢ Pipeline.ΦD osem spec0 {main_arg3} (V m) c := by
  rw [show (dats m hx 0 c).Φ (Fin.last (cfgM m).N) = PhiS m c from rfl, PhiD_eq]
  unfold PhiS
  iintro ⟨Hb, Hg, Hs, Hy, -⟩
  isplitl [Hb]; · iexact Hb
  isplitl [Hg]; · iexact Hg
  isplitl [Hs] <;> iassumption

theorem hmain (𝒱 : Variants) : Pipeline.HMainP (Ix := Unit) (Name := ℕ) (U := UD sig nD τ) (Lvl := ℕ) pcfgs (0 : Fin 1) (defs₀ (F := F)) 𝒱 m main (V m) :=
  Pipeline.hmainP_region pcfgs (0 : Fin 1) defs₀ 𝒱 m main fun c => (main_chain c).trans rfl

theorem rest : ({main_arg3} : Finset (Ref sig .tc)) ⊆ Pipeline.restRefsP sig pre0 spec0 := by decide

set_option backward.isDefEq.respectTransparency.types false in
/-- THE RUN: from any launch memory whose table names existing rows the program terminates without a fault, the output array
    written tile by tile by `otile`, every other array unchanged, the semaphores at zero. -/
theorem run (ρ : Dev nD → PrngReg) :
    θ_run (defs (F := F)) (onTc (τ := τ) (Val := Elt F) main) ⟨m, fun _ => 0, ρ⟩ (fun r => Pipeline.FramePost (Pipeline.pin pcfgs (fun _ => adm m)) (dats m hx) (0 : Fin 1) (V m) r ∧ r.2.sem = fun _ => 0) :=
  Pipeline.θ_run_frameP_dma pcfgs (fun _ => adm m) (dats m hx) (0 : Fin 1) launch0 osem defs₀ Variants.none own {main_arg3} rest m ρ main
    (hbody := fun c => (body_obligation m hx c).loose)
    (hshare := fun c w => (dats m hx 0 c).share_full (fun _ => rfl) w)
    (howed := fun _ _ => rfl) (V := V m) (hmain := hmain m Variants.none) (hA := A_eq m hx) (hpf := V_pre m)
    (hin := hin m hx) (hout := hout m hx)
    (Q' := fun r => Pipeline.FramePost (Pipeline.pin pcfgs (fun _ => adm m)) (dats m hx) (0 : Fin 1) (V m) r ∧ r.2.sem = fun _ => 0)
    (hQ' := fun _ h => h)

/-- The run read off array by array: the output's tiles, every argument unchanged, the semaphores at zero. -/
theorem run_reads (ρ : Dev nD → PrngReg) :
    θ_run (defs (F := F)) (onTc (τ := τ) (Val := Elt F) main) ⟨m, fun _ => 0, ρ⟩ (fun r => (∀ c : Dev nD,
      r.2.mem ((c.tc : Thread nD τ).loc main_v0) = (dats m hx 0 c).arrAt (2 : Fin 3) (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run _ _ _).mono (fun r h => ⟨fun c => ?_, h.2⟩) (run m hx ρ)
  obtain ⟨hw, hr⟩ := h.1 c
  refine ⟨hw (2 : Fin 3), ?_, ?_, ?_, ?_⟩
  · exact (hr main_arg0 (Pipeline.mem_restRefs_of main_arg0 rfl (by decide : ∀ w, (spec0 w).arr.view.ref ≠ main_arg0)))
  · exact (hw (0 : Fin 3)).trans (((dats m hx 0 c).arrAt_in (0 : Fin 3) rfl _))
  · exact (hw (1 : Fin 3)).trans (((dats m hx 0 c).arrAt_in (1 : Fin 3) rfl _))
  · exact (hr main_arg3 (Pipeline.mem_restRefs_of main_arg3 rfl (by decide : ∀ w, (spec0 w).arr.view.ref ≠ main_arg3)))

end Cert.Kernel6Ideal.Body
end
-- ==== Proof.Combine.lean ====
module

public import proofs.«01_k».proof.Proof.Final

@[expose] public section

set_option maxRecDepth 16384

noncomputable section

/-! The experts' rows back in the stream: every row takes the experts' row placed for it, under the modulation of its tile. -/

namespace Cert.Combine

open Idealize.ShloMosaic

/-- The modulation's row of a tile of 256 rows: the context's, or that of the tile's sequence. -/
def owner (t : ℕ) : ℕ := if t % 33 = 0 then 2 else t / 33

theorem owner_lt (t : ℕ) (h : t < 66) : owner t < 8 := by unfold owner; split <;> omega

/-- An entry of the result. -/
def out (d : (⟨1, ![16896]⟩ : Shape).Idx → BitVec 32) (x : (⟨2, ![16896, 1024]⟩ : Shape).Idx → EReal) (md : (⟨3, ![8, 6, 1024]⟩ : Shape).Idx → EReal)
    (y : (⟨2, ![23040, 1024]⟩ : Shape).Idx → EReal) (n : Fin 16896) (j : Fin 1024) : EReal :=
  x (ix2 n j) + md (ix3 ⟨owner (n.val / 256), owner_lt _ (by omega)⟩ 5 j) * y (ix2 (Cert.Final.placeOf d n) j)

end Cert.Combine
end
-- ==== Proof.CombineI.lean ====
module

public import proofs.«01_k».proof.Proof.BackRunI
public import proofs.«01_k».proof.Proof.Combine
public import Idealize.ShloMosaic.Lib.Pointwise
public import Idealize.ShloMosaic.Lib.Pipeline.ValueKit

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- A block's entry. -/
theorem pay1_at (md : FVec Ideal S1x6x1024 .f32) (x y : FVec Ideal S256x1024 .f32) (p : Fin 256) (j : Fin 1024) :
    k0_pay1 (F := Ideal) md x y (ix2 p j) = x (ix2 p j) + md (ix3 0 5 j) * y (ix2 p j) := by
  pointwise [k0_pay1]

/-- The modulation's row that a step's block takes. -/
theorem off_owner : ∀ (i : grid0.Coords) (b : Fin 6), k0_off100 i (BitVec.ofNat 32 b.val) = ![Cert.Combine.owner (6 * (i 0).val + b.val), 0, 0] := by decide +kernel

/-- A block's entry at the tile's row it lies at. -/
theorem part_at (i : grid0.Coords) (x2 : FVec Ideal S1536x1024 .f32) (x3 : FVec Ideal S8x6x1024 .f32) (mv : FVec Ideal S1536x1024 .f32) (b : Fin 6) (o : ℕ)
    (ho : ∀ a, (![o, 0] : Fin 2 → ℕ) a + S256x1024.size a ≤ S1536x1024.size a) (p : Fin 256) (r : Fin 1536) (hr : r.val = o + p.val) (j : Fin 1024)
    (w : Fin 8) (hw : w.val = Cert.Combine.owner (6 * (i 0).val + b.val)) :
    part (F := Ideal) i x2 x3 mv b o ho (ix2 p j) = x2 (ix2 r j) + x3 (ix3 w 5 j) * mv (ix2 r j) := by
  unfold part
  rw [pay1_at]
  have e2 : (Rect.unit (s := S1536x1024) ![o, 0] S256x1024.size ho).emb (ix2 p j : S256x1024.Idx) = (ix2 r j : S1536x1024.Idx) := by
    funext a
    fin_cases a <;> apply Fin.ext
    · show o + 1 * p.val = r.val; omega
    · show 0 + 1 * j.val = j.val; omega
  have e3 : (Rect.unit (s := S8x6x1024) (k0_off100 i (BitVec.ofNat 32 b.val)) S1x6x1024.size (k0_off100_inb i b)).emb (ix3 0 5 j : S1x6x1024.Idx) = (ix3 w 5 j : S8x6x1024.Idx) := by
    have h := off_owner i b
    funext a
    fin_cases a <;> apply Fin.ext
    · show k0_off100 i (BitVec.ofNat 32 b.val) 0 + 1 * 0 = w.val
      rw [h, hw]; rfl
    · show k0_off100 i (BitVec.ofNat 32 b.val) 1 + 1 * 5 = 5
      rw [h]; rfl
    · show k0_off100 i (BitVec.ofNat 32 b.val) 2 + 1 * j.val = j.val
      rw [h]; show 0 + 1 * j.val = j.val; omega
  show x2 ((Rect.unit (s := S1536x1024) ![o, 0] S256x1024.size ho).emb (ix2 p j : S256x1024.Idx)) + x3 ((Rect.unit (s := S8x6x1024) (k0_off100 i (BitVec.ofNat 32 b.val)) S1x6x1024.size (k0_off100_inb i b)).emb (ix3 0 5 j : S1x6x1024.Idx))
    * mv ((Rect.unit (s := S1536x1024) ![o, 0] S256x1024.size ho).emb (ix2 p j : S256x1024.Idx)) = _
  rw [e2, e3]

/-- The block holding a row of the tile has there the row's value. -/
theorem part_tile (i : grid0.Coords) (x2 : FVec Ideal S1536x1024 .f32) (x3 : FVec Ideal S8x6x1024 .f32) (mv : FVec Ideal S1536x1024 .f32) (b : Fin 6) (o : ℕ)
    (ho : ∀ a, (![o, 0] : Fin 2 → ℕ) a + S256x1024.size a ≤ S1536x1024.size a) (hob : o = 256 * b.val) (r : Fin 1536) (j : Fin 1024)
    (w : Fin 8) (hw : w.val = Cert.Combine.owner (6 * (i 0).val + r.val / 256)) :
    View.TileAt (Val := Elt Ideal) (e := .f32) (S := S1536x1024) (ix2 r j) ![o, 0] S256x1024.size (part (F := Ideal) i x2 x3 mv b o ho) (x2 (ix2 r j) + x3 (ix3 w 5 j) * mv (ix2 r j)) := by
  intro z hz
  have h0 : r.val = o + (z 0).val := hz 0
  have h1 : j.val = 0 + (z 1).val := hz 1
  have hz0 : (z 0).val < 256 := (z 0).isLt
  obtain rfl : z 1 = j := Fin.ext (by omega)
  have e : r.val / 256 = b.val := by omega
  refine (congrArg _ (eq_ix2 (z : S256x1024.Idx))).trans ?_
  exact part_at i x2 x3 mv b o ho (z 0) r h0 (z 1) w (by rw [hw, e])

/-- The tile's entry. -/
theorem tileOf_at (i : grid0.Coords) (x2 : FVec Ideal S1536x1024 .f32) (x3 : FVec Ideal S8x6x1024 .f32) (mv : FVec Ideal S1536x1024 .f32) (r : Fin 1536) (j : Fin 1024)
    (w : Fin 8) (hw : w.val = Cert.Combine.owner (6 * (i 0).val + r.val / 256)) :
    tileOf (F := Ideal) i x2 x3 mv (ix2 r j) = x2 (ix2 r j) + x3 (ix3 w 5 j) * mv (ix2 r j) := by
  unfold tileOf
  refine View.canon_eq_of_allAt _ _ _ ?_ ?_
  · generalize (ix2 r j : S1536x1024.Idx) = q
    revert q
    exact View.cover_of_tiled _ S256x1024.size rfl
  refine View.allAt_cons_unit _ _ _ _ _ (part_tile i x2 x3 mv 5 1280 _ rfl r j w hw) ?_
  refine View.allAt_cons_unit _ _ _ _ _ (part_tile i x2 x3 mv 4 1024 _ rfl r j w hw) ?_
  refine View.allAt_cons_unit _ _ _ _ _ (part_tile i x2 x3 mv 3 768 _ rfl r j w hw) ?_
  refine View.allAt_cons_unit _ _ _ _ _ (part_tile i x2 x3 mv 2 512 _ rfl r j w hw) ?_
  refine View.allAt_cons_unit _ _ _ _ _ (part_tile i x2 x3 mv 1 256 _ rfl r j w hw) ?_
  refine View.allAt_cons_unit _ _ _ _ _ (part_tile i x2 x3 mv 0 0 _ rfl r j w hw) ?_
  exact View.allAt_nil _ _

/-- A row moved is the experts' row at its place. -/
theorem moved_at (i : grid0.Coords) (x : Vec Ideal S16896 .i32) (hx : Placed x) (y : FVec Ideal S23040x1024 .f32) (p : Fin 1536) (k : Fin 1024) :
    moved i x hx y (ix2 p k) = y (ix2 ⟨src i x p.val p.isLt, src_lt i x hx p.val p.isLt⟩ k) := by
  unfold moved
  refine congrArg y (funext fun a => ?_)
  fin_cases a <;> rfl

/-- A grid point's coordinate is its number. -/
theorem coords_val (t : Fin grid0.N) : (grid0.coords t 0).val = t.val := by
  have : ∀ t : Fin grid0.N, (grid0.coords t 0).val = t.val := by decide +kernel
  exact this t

/-- The blocks' places, all points at once. -/
theorem idx0 : ∀ t : Fin grid0.N, cc0_transform_0 (grid0.coords t) = ![t.val, 0] ∧ cc0_transform_1 (grid0.coords t) = ![0, 0, 0]
    ∧ cc0_transform_3 (grid0.coords t) = ![t.val, 0] := by decide +kernel

theorem idx (t : Fin grid0.N) : ((cfgM m).win (0 : Fin 3)).index t = ![t.val, 0] ∧ ((cfgM m).win (1 : Fin 3)).index t = ![0, 0, 0]
    ∧ ((cfgM m).win (2 : Fin 3)).index t = ![t.val, 0] := idx0 t

/-- Every tile is written back. -/
theorem flushed_all (t : Fin grid0.N) : ((cfgM m).win (2 : Fin 3)).flush t = true := by
  show Pipeline.Window.flushOf grid0 true cc0_transform_3 t = true
  revert t
  decide +kernel

abbrev arr1 (c : Dev nD) : S16896x1024.Idx → EReal := m ((c.tc : Thread nD τ).loc main_arg1)
abbrev arr2 (c : Dev nD) : S8x6x1024.Idx → EReal := m ((c.tc : Thread nD τ).loc main_arg2)
abbrev arr3 (c : Dev nD) : S23040x1024.Idx → EReal := m ((c.tc : Thread nD τ).loc main_arg3)
abbrev tab (c : Dev nD) : S16896.Idx → BitVec 32 := m ((c.tc : Thread nD τ).loc main_arg0)

/-- The row of the stream at row `p` of tile `t`. -/
abbrev row (t : Fin grid0.N) (p : Fin 1536) : Fin 16896 := ⟨t.val * 1536 + p.val, by
  have h : t.val < 11 := t.isLt
  omega⟩

theorem x_at (c : Dev nD) (t : Fin grid0.N) (p : Fin 1536) (k : Fin 1024) : (xblk m c t : FVec Ideal S1536x1024 .f32) (ix2 p k) = arr1 m c (ix2 (row t p) k) := by
  unfold xblk iblk V
  blk_ext [idx m t]
theorem mod_at (c : Dev nD) (t : Fin grid0.N) (w : Fin 8) (s : Fin 6) (k : Fin 1024) : (mblk m c t : FVec Ideal S8x6x1024 .f32) (ix3 w s k) = arr2 m c (ix3 w s k) := by
  unfold mblk iblk V
  blk_ext [idx m t]

variable (hx : ∀ c, Placed (V m c main_arg0))

/-- The tile left at a point is the result's. -/
theorem otile_at (c : Dev nD) (t : Fin grid0.N) (p : Fin 1536) (j : Fin 1024) :
    otile m hx c t (ix2 p j) = Cert.Combine.out (tab m c) (arr1 m c) (arr2 m c) (arr3 m c) (row t p) j := by
  have h11 : t.val < 11 := t.isLt
  unfold otile
  have eo : (row t p).val / 256 = 6 * (grid0.coords t 0).val + p.val / 256 := by
    rw [coords_val]; show (t.val * 1536 + p.val) / 256 = _; omega
  rw [tileOf_at _ _ _ _ p j ⟨Cert.Combine.owner ((row t p).val / 256), Cert.Combine.owner_lt _ (by omega)⟩ (by rw [← eo])]
  unfold Cert.Combine.out
  rw [x_at, mod_at, moved_at]
  have ep : (⟨src (grid0.coords t) (V m c main_arg0) p.val p.isLt, src_lt _ _ (hx c) p.val p.isLt⟩ : Fin 23040) = Cert.Final.placeOf (tab m c) (row t p) := by
    apply Fin.ext
    have hl := src_lt (grid0.coords t) _ (hx c) p.val p.isLt
    have e : src (grid0.coords t) (V m c main_arg0) p.val p.isLt = (tab m c (ix1 (row t p))).toNat := by
      unfold src place V
      refine congrArg BitVec.toNat (congrArg (tab m c) (funext fun a => Fin.ext ?_))
      fin_cases a
      show 1536 * (grid0.coords t 0).val + p.val = t.val * 1536 + p.val
      rw [coords_val]; omega
    show src (grid0.coords t) (V m c main_arg0) p.val p.isLt = min (tab m c (ix1 (row t p))).toNat 23039
    rw [e] at hl ⊢
    omega
  rw [ep]
  rfl

/-- The array the kernel leaves. -/
abbrev res (c : Dev nD) : FVec Ideal S16896x1024 .f32 := fun i => Cert.Combine.out (tab m c) (arr1 m c) (arr2 m c) (arr3 m c) (i 0) (i 1)

theorem emb2 (t : Fin grid0.N) (p : Fin 1536) (j : Fin 1024) :
    ((((cfgM m).win (2 : Fin 3)).blk t).view.emb (ix2 p j : S1536x1024.Idx) : S16896x1024.Idx) = ix2 (row t p) j := by
  blk_ext [idx m t]

theorem flushed2 (c : Dev nD) (t : Fin grid0.N) : (dats m hx 0 c).flushed (2 : Fin 3) t = otile m hx c t := by
  refine Eq.trans ?_ (show (dats m hx 0 c).after (2 : Fin 3) t = otile m hx c t by dsimp only [dats])
  rfl

/-- The whole result. -/
theorem final (c : Dev nD) : (dats m hx 0 c).arrAt (2 : Fin 3) (cfgM m).N = res m c := by
  refine (dats m hx 0 c).arrAt_eq_of_cover (2 : Fin 3) _ (fun t ht => ?_) (fun i => ?_)
  · refine funext fun (y : S1536x1024.Idx) => ?_
    rw [View.read_apply, flushed2]
    obtain ⟨p, j, rfl⟩ : ∃ (p : Fin 1536) (j : Fin 1024), y = ix2 p j := ⟨y 0, y 1, eq_ix2 y⟩
    refine (otile_at m hx c t p j).trans ?_
    exact (congrArg (res m c) (emb2 m t p j)).symm
  · have h0 : (i 0).val < 16896 := (i 0).isLt
    obtain ⟨t, ht⟩ : ∃ t : Fin grid0.N, t.val = (i 0).val / 1536 := ⟨⟨(i 0).val / 1536, by show _ < 11; omega⟩, rfl⟩
    obtain ⟨p, hp⟩ : ∃ p : Fin 1536, p.val = (i 0).val % 1536 := ⟨⟨(i 0).val % 1536, Nat.mod_lt _ (by decide)⟩, rfl⟩
    have he := emb2 m t p (i 1)
    have h := (((cfgM m).win (2 : Fin 3)).blk t).view.emb_mem_set (ix2 p (i 1) : S1536x1024.Idx)
    rw [he] at h
    refine ⟨t, flushed_all m t, ?_⟩
    have e : (ix2 (row t p) (i 1) : S16896x1024.Idx) = i := by
      refine Eq.trans ?_ (eq_ix2 i).symm
      refine congrArg (fun a => ix2 a (i 1)) (Fin.ext ?_)
      show t.val * 1536 + p.val = (i 0).val; omega
    rw [e] at h
    exact h

end Cert.Kernel6Ideal.Body
end
-- ==== Proof.CombineRef.lean ====
module

public import proofs.«01_k».proof.Proof.Gen.Reference6Ideal.Read
public import proofs.«01_k».proof.Proof.Combine
public import proofs.«01_k».proof.Proof.FinalRef
public import Idealize.ShloMosaic.Lib.Pointwise
public import Idealize.ShloMosaic.Lib.Routing.Ops

@[expose] public section

set_option maxRecDepth 16384

noncomputable section

namespace Cert.Reference6Ideal.Body

open Cert.Reference6Ideal Cert.Reference6Ideal.Read
open Idealize.ShloMosaic Idealize.ShloMosaic.TcCoe

variable (x0 : IVec S16896 32) (x1 : FVec Ideal S16896x1024 .f32) (x2 : FVec Ideal S8x6x1024 .f32) (x3 : FVec Ideal S23040x1024 .f32)

variable (h0 : ∀ j, (x0 j).toNat < 23040)
include h0

/-- The rows read by their places. -/
theorem rows_at (n : Fin 16896) (k : Fin 1024) : val_main_v7 (F := Ideal) x0 x3 (ix2 n k) = x3 (ix2 (Cert.Final.placeOf x0 n) k) := by
  unfold val_main_v7
  refine Routing.gather_row _ rfl rfl rfl rfl rfl x3 _ n k _ ?_ (by decide)
  rw [val_main_v6_apply, val_main_v5_apply, val_main_v2_apply, val_main_v4_apply, val_main_v1_apply, val_main_v3_apply, val_main_c_apply, val_main_c_0_apply]
  have e : idx_main_v6 (ValueIdx.ix2 n (0 : Fin 1)) = ix1 n := funext fun a => by fin_cases a; rfl
  rw [e]
  have hw := h0 (ix1 n)
  refine (Cert.Reference3Ideal.Body.taken _ hw).trans ?_
  apply BitVec.eq_of_toNat_eq
  rw [BitVec.toNat_ofNat]
  show _ = min (x0 (ix1 n)).toNat 23039 % 2 ^ 32
  omega

/-- The context's rows. -/
theorem ctx_at (b : Fin 2) (p : Fin 256) (j : Fin 1024) :
    val_main_v16 (F := Ideal) x0 x1 x2 x3 (ix3 b p j) = Cert.Combine.out x0 x1 x2 x3 ⟨b.val * 8448 + p.val, by omega⟩ j := by
  unfold Cert.Combine.out
  rw [← rows_at x0 x3 h0]
  have e : (⟨Cert.Combine.owner ((b.val * 8448 + p.val) / 256), Cert.Combine.owner_lt _ (by omega)⟩ : Fin 8) = 2 := Fin.ext (by
    show Cert.Combine.owner ((b.val * 8448 + p.val) / 256) = 2
    unfold Cert.Combine.owner
    rw [if_pos (by omega)])
  rw [e]
  pointwise [val_main_v16, val_main_v15, val_main_v14, val_main_v13, val_main_v12, val_main_v11, val_main_v10, val_main_v9, val_main_v8, val_main_v0]

/-- The sequences' rows. -/
theorem lat_at (b : Fin 2) (p : Fin 8192) (j : Fin 1024) :
    val_main_v22 (F := Ideal) x0 x1 x2 x3 (ix3 b p j) = Cert.Combine.out x0 x1 x2 x3 ⟨b.val * 8448 + (256 + p.val), by omega⟩ j := by
  unfold Cert.Combine.out
  rw [← rows_at x0 x3 h0]
  have e : (⟨Cert.Combine.owner ((b.val * 8448 + (256 + p.val)) / 256), Cert.Combine.owner_lt _ (by omega)⟩ : Fin 8) = ⟨b.val, by omega⟩ := Fin.ext (by
    show Cert.Combine.owner ((b.val * 8448 + (256 + p.val)) / 256) = b.val
    unfold Cert.Combine.owner
    rw [if_neg (by omega)]
    omega)
  rw [e]
  pointwise [val_main_v22, val_main_v21, val_main_v20, val_main_v19, val_main_v18, val_main_v17, val_main_v8, val_main_v0]

/-- The result, entry by entry. -/
theorem out_at (n : Fin 16896) (j : Fin 1024) : val_main_v24 (F := Ideal) x0 x1 x2 x3 (ix2 n j) = Cert.Combine.out x0 x1 x2 x3 n j := by
  pointwise [val_main_v24, val_main_v23]
  refine Cert.Even.split_row (fun r => Cert.Combine.out x0 x1 x2 x3 r j) (fun b p => val_main_v16 (F := Ideal) x0 x1 x2 x3 (ix3 b p j))
    (fun b p => val_main_v22 (F := Ideal) x0 x1 x2 x3 (ix3 b p j)) (fun b p => ctx_at x0 x1 x2 x3 h0 b p j) (fun b p => lat_at x0 x1 x2 x3 h0 b p j) n

end Cert.Reference6Ideal.Body
end
-- ==== Proof.CombineClaim.lean ====
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Pre_moved
public import proofs.«01_k».proof.Proof.BackRun
public import proofs.«01_k».proof.Proof.CombineI
public import proofs.«01_k».proof.Proof.CombineRef
public import proofs.«01_k».proof.Proof.Pre
public import Idealize.ShloMosaic.Adequacy
public import Idealize.ShloMosaic.Init

@[expose] public section

set_option maxRecDepth 16384

noncomputable section

/-! The claims about the experts' rows moved back into the stream. -/

namespace Cert.Words

open Idealize.ShloMosaic Cert.Pre_moved

variable {F : FTy → Type} [FloatOps F] (x0 : IVec S16896 32) (x1 : FVec F S16896x1024 .f32) (x2 : FVec F S8x6x1024 .f32) (x3 : FVec F S23040x1024 .f32)

theorem moved_at (h : Cert.Pre_moved.fn (F := F) x0 x1 x2 x3 = fun _ => 1#1) (j : S16896.Idx) : (x0 j).toNat < 23040 :=
  below 23040 (by decide) _ (congrFun h j)

end Cert.Words

namespace Cert.Proof

open Idealize.ShloMosaic Idealize.SL.Sem

theorem combine_frame_p : Cert.quiescent_Kernel6 := by
  intro m g hp
  have hx : ∀ c, Cert.Kernel6.Body.Placed (Cert.Kernel6.Body.V m c Cert.Kernel6.main_arg0) := fun c n h =>
    Cert.Words.moved_at _ _ _ _ (hp c) _
  exact (θ_run Cert.Kernel6.defs _ _).mono (fun r h => ⟨fun c => (h.1 c).2, h.2⟩) (Cert.Kernel6.Body.run_reads m hx g)

theorem combine_placed (m : (ℓ : Loc Cert.Kernel6Ideal.nD Cert.Kernel6Ideal.τ Cert.Kernel6Ideal.sig) → Buf (Elt Ideal) ℓ) (hp : Cert.Pre_Kernel6Ideal m) :
    ∀ c, Cert.Kernel6Ideal.Body.Placed (Cert.Kernel6Ideal.Body.V m c Cert.Kernel6Ideal.main_arg0) := fun c n h =>
  Cert.Words.moved_at _ _ _ _ (hp c) _

theorem combine_frame_pi : Cert.quiescent_Kernel6Ideal := by
  intro m g hp
  exact (θ_run Cert.Kernel6Ideal.defs _ _).mono (fun r h => ⟨fun c => (h.1 c).2, h.2⟩) (Cert.Kernel6Ideal.Body.run_reads m (combine_placed m hp) g)

theorem combine_frame_ri : Cert.quiescent_Reference6Ideal := by
  intro m g _
  exact (θ_run Cert.Reference6Ideal.defs _ _).mono (fun r h => ⟨fun c => (h c).2, Idealize.ShloMosaic.sem_eq_zero_of_no_sems (by decide) r.2⟩)
    (Cert.Reference6Ideal.Value.run m g)

theorem combine_frame_ri_moved : Cert.quiescent_Reference6Ideal_pre_moved := fun m g _ => combine_frame_ri m g trivial

/-- The result is the reference's. -/
theorem combine_value : Cert.algebraic_Kernel6Ideal_Reference6Ideal := by
  intro m g m' g' hp hagree
  have hx := combine_placed m hp
  refine ⟨fun c => Cert.Kernel6Ideal.Body.res m c,
    (θ_run Cert.Kernel6Ideal.defs _ _).mono (fun r h c => ⟨(h.1 c).1.trans (Cert.Kernel6Ideal.Body.final m hx c), (h.1 c).2⟩) (Cert.Kernel6Ideal.Body.run_reads m hx g),
    (θ_run Cert.Reference6Ideal.defs _ _).mono (fun r h c => ⟨?_, (h c).2⟩) (Cert.Reference6Ideal.Value.run m' g')⟩
  refine ((h c).1.trans (Cert.Reference6Ideal.Read.val_main_v24_eq _ _ _ _)).trans ?_
  rw [(hagree c).1, (hagree c).2.1, (hagree c).2.2.1, (hagree c).2.2.2]
  funext i
  obtain ⟨n, j, rfl⟩ : ∃ (n : Fin 16896) (j : Fin 1024), i = ix2 n j := ⟨i 0, i 1, eq_ix2 i⟩
  exact Cert.Reference6Ideal.Body.out_at _ _ _ _ (fun j => Cert.Words.moved_at _ _ _ _ (hp c) j) n j

end Cert.Proof
end
-- ==== Proof.Pool.lean ====
module

public import proofs.«01_k».proof.Proof.Even

@[expose] public section

set_option maxRecDepth 16384

noncomputable section

/-! The odd layers' opening: the columns of its projection that the pooling takes. -/

namespace Cert.Pool

open Idealize.ShloMosaic

/-- An entry of the stream projected on the last 512 columns of the weights. -/
def entry (x : (⟨2, ![16896, 1024]⟩ : Shape).Idx → EReal) (md : (⟨3, ![8, 6, 1024]⟩ : Shape).Idx → EReal) (g : (⟨1, ![1024]⟩ : Shape).Idx → EReal)
    (w : (⟨2, ![1024, 1184]⟩ : Shape).Idx → EReal) (r : Fin 16896) (j : Fin 512) : EReal :=
  Cert.Even.proj (fun k => x (ix2 r k)) (fun k => g (ix1 k)) (fun k => md (ix3 (Cert.Even.modRow r) 1 k)) (fun k => md (ix3 (Cert.Even.modRow r) 0 k))
    (fun k => w (ix2 k ⟨672 + j.val, by omega⟩))

end Cert.Pool
end
-- ==== Proof.PoolI.lean ====
module

public import proofs.«01_k».proof.Proof.Gen.Kernel7Ideal.Frame
public import proofs.«01_k».proof.Proof.Pool
public import Idealize.ShloMosaic.Lib.StableHlo.RunRead
public import Idealize.ShloMosaic.Lib.Tactic
public import Idealize.ShloMosaic.Lib.Pointwise
public import Idealize.ShloMosaic.Lib.Pipeline.ValueKit

@[expose] public section
set_option maxRecDepth 16384
noncomputable section

/-! What the odd layers' opening leaves for the pooling. -/

namespace Cert.Kernel7Ideal.Body

open Cert.Kernel7Ideal Cert.Kernel7Ideal.Gen
open Idealize.ShloMosaic Idealize.ShloMosaic.TcCoe Idealize.ShloMosaic.Tactic
open Idealize.ShloMosaic.Pipeline (Dat)

/-- A tile's projection, entry by entry. -/
theorem pay4_at (P0 : FVec Ideal S1x6x1024 .f32) (P1 : FVec Ideal S256x1024 .f32) (P2 : FVec Ideal S1x1024 .f32) (P3 : FVec Ideal S1024x1408 .bf16) (p : Fin 256) (j : Fin 1408) :
    k0_pay4 (F := Ideal) P0 P1 P2 P3 (ix2 p j)
      = Cert.Even.proj (fun k => P1 (ix2 p k)) (fun k => P2 (ix2 0 k)) (fun k => P0 (ix3 0 1 k)) (fun k => P0 (ix3 0 0 k)) (fun k => P3 (ix2 k j)) := by
  pointwise [k0_pay4, Cert.Even.proj, Cert.Even.norm]

/-- The pooling takes the projection's last 512 columns. -/
theorem pay3_at (u : FVec Ideal S256x1408 .f32) (p : Fin 256) (j : Fin 512) :
    k0_pay3 (F := Ideal) u (ix2 p j) = u (ix2 p ⟨896 + j.val, by omega⟩) := by
  pointwise [k0_pay3]

variable (m : (ℓ : Loc nD τ sig) → Buf (Elt Ideal) ℓ)

/-- The blocks' places, all points at once. -/
theorem idx : ∀ t : Fin cfg0.N, win0_0.index t = ![t.val, 0] ∧ win0_1.index t = ![if t.val % 33 = 0 then 2 else t.val / 33, 0, 0] ∧ win0_2.index t = ![0, 0] ∧ win0_3.index t = ![0, 0]
    ∧ win0_16.index t = ![t.val, 0] :=
  (by decide +kernel : ∀ t : Fin grid0.N, _)

abbrev arr0 (c : Dev nD) : S16896x1024.Idx → EReal := m ((c : Thread nD τ).loc main_arg0)
abbrev arr1 (c : Dev nD) : S8x6x1024.Idx → EReal := m ((c : Thread nD τ).loc main_arg1)
abbrev arr2 (c : Dev nD) : S1024.Idx → EReal := m ((c : Thread nD τ).loc main_arg2)
abbrev arr3 (c : Dev nD) : S1024x1184.Idx → EReal := m ((c : Thread nD τ).loc main_arg3)

abbrev row (t : Fin cfg0.N) (p : Fin 256) : Fin 16896 := ⟨t.val * 256 + p.val, by
  have h : t.val < 66 := t.isLt
  omega⟩

/-- The columns joined last are the matrix's last ones, whatever stands before them. -/
theorem last_piece (a0 : FVec Ideal S1024x640 .f32) (a1 : FVec Ideal S1024x64 .f32) (a2 : FVec Ideal S1024x32 .f32) (a3 : FVec Ideal S1024x32 .f32)
    (a4 : FVec Ideal S1024x64 .f32) (a5 : FVec Ideal S1024x32 .f32) (a6 : FVec Ideal S1024x32 .f32) (a7 : FVec Ideal S1024x512 .f32) (h) (hb : FTy.bits .bf16 < FTy.bits .f32) (k : Fin 1024) (j : Fin 512) :
    (truncf .bf16 (concatenate S1024x1408 1 [⟨S1024x640, a0⟩, ⟨S1024x64, a1⟩, ⟨S1024x32, a2⟩, ⟨S1024x32, a3⟩, ⟨S1024x64, a4⟩, ⟨S1024x32, a5⟩, ⟨S1024x32, a6⟩, ⟨S1024x512, a7⟩] h
        : FVec Ideal S1024x1408 .f32) hb : FVec Ideal S1024x1408 .bf16) (ix2 k ⟨896 + j.val, by omega⟩) = a7 (ix2 k j) := by
  pointwise
  rw [dif_neg (by omega), dif_neg (by omega), dif_neg (by omega), dif_neg (by omega), dif_neg (by omega), dif_neg (by omega), dif_neg (by omega)]
  exact congrArg (fun x => a7 (ix2 k x)) (Fin.ext (by show 896 + j.val - 640 - 64 - 32 - 32 - 64 - 32 - 32 = j.val; omega))

/-- The pooling's columns as the kernel finds them. -/
theorem v_at (c : Dev nD) (k : Fin 1024) (j : Fin 512) : (V m c main_v13 : FVec Ideal S1024x1408 .bf16) (ix2 k ⟨896 + j.val, by omega⟩) = arr3 m c (ix2 k ⟨672 + j.val, by omega⟩) := by
  have h13 := (StableHlo.after_last_write (ops := (hostOps0 : List (HloOp τ sig (Elt Ideal)))) (i := 18) (r := main_v13)
    [main_v14, main_v15, main_v16, main_cst_3, main_v17, main_c_4, main_v18, main_cst_5, main_v19, main_v20, main_v21] rfl rfl (by decide) (fun b => m (c, b))).trans
    (StableHlo.unary_result _ _ _ _ _ _)
  have h12 := (StableHlo.upto_last_write (ops := (hostOps0 : List (HloOp τ sig (Elt Ideal)))) (n := 18) (i := 17) (r := main_v12) [] rfl rfl (by decide) (fun b => m (c, b))).trans
    (StableHlo.nary_result _ _ _ _ _ _)
  have h11 := (StableHlo.upto_last_write (ops := (hostOps0 : List (HloOp τ sig (Elt Ideal)))) (n := 17) (i := 16) (r := main_v11) [] rfl rfl (by decide) (fun b => m (c, b))).trans
    (StableHlo.unary_result _ _ _ _ _ _)
  have h3 := StableHlo.upto_unwritten (ops := (hostOps0 : List (HloOp τ sig (Elt Ideal)))) (n := 16) (r := main_arg3)
    [main_c, main_v0, main_cst, main_v1, main_cst_0, main_v2, main_v3, main_c_1, main_v4, main_v5, main_c_2, main_v6, main_v7, main_v8, main_v9, main_v10] rfl (by decide) (fun b => m (c, b))
  rw [h12] at h13
  rw [h3] at h11
  refine (congrFun h13 _).trans ?_
  refine (last_piece _ _ _ _ _ _ _ (StableHlo.upto hostOps0 (fun b => m (c, b)) 17 (Proc.tc.devRef main_v11)) _ _ k j).trans ?_
  refine (congrFun h11 _).trans ?_
  pointwise

theorem x_at (c : Dev nD) (t : Fin cfg0.N) (p : Fin 256) (k : Fin 1024) : (iblk m c 0 t : FVec Ideal S256x1024 .f32) (ix2 p k) = arr0 m c (ix2 (row t p) k) := by
  have h : (iblk m c 0 t : FVec Ideal S256x1024 .f32) (ix2 p k) = (V m c main_arg0 : FVec Ideal S16896x1024 .f32) (ix2 (row t p) k) := by
    generalize hv : V m c = v
    unfold iblk
    rw [hv]
    blk_ext [idx t]
  rw [h, V_main_arg0]
theorem mod_at (c : Dev nD) (t : Fin cfg0.N) (p : Fin 256) (s : Fin 6) (k : Fin 1024) : (iblk m c 1 t : FVec Ideal S1x6x1024 .f32) (ix3 0 s k) = arr1 m c (ix3 (Cert.Even.modRow (row t p)) s k) := by
  have h : (iblk m c 1 t : FVec Ideal S1x6x1024 .f32) (ix3 0 s k) = (V m c main_arg1 : FVec Ideal S8x6x1024 .f32) (ix3 (Cert.Even.modRow (row t p)) s k) := by
    generalize hv : V m c = v
    unfold iblk
    rw [hv]
    blk_ext [idx t]
    show _ = if (t.val * 256 + p.val) % 8448 < 256 then 2 else (t.val * 256 + p.val) / 8448
    split <;> split <;> omega
  rw [h, V_main_arg1]
theorem g_at (c : Dev nD) (t : Fin cfg0.N) (k : Fin 1024) : (iblk m c 2 t : FVec Ideal S1x1024 .f32) (ix2 0 k) = arr2 m c (ix1 k) := by
  have h : (iblk m c 2 t : FVec Ideal S1x1024 .f32) (ix2 0 k) = (V m c main_v14 : FVec Ideal S1x1024 .f32) (ix2 0 k) := by
    generalize hv : V m c = v
    unfold iblk
    rw [hv]
    blk_ext [idx t]
  have h14 := (StableHlo.after_last_write (ops := (hostOps0 : List (HloOp τ sig (Elt Ideal)))) (i := 19) (r := main_v14)
    [main_v15, main_v16, main_cst_3, main_v17, main_c_4, main_v18, main_cst_5, main_v19, main_v20, main_v21] rfl rfl (by decide) (fun b => m (c, b))).trans
    (StableHlo.unary_result _ _ _ _ _ _)
  have h2 := StableHlo.upto_unwritten (ops := (hostOps0 : List (HloOp τ sig (Elt Ideal)))) (n := 19) (r := main_arg2)
    [main_c, main_v0, main_cst, main_v1, main_cst_0, main_v2, main_v3, main_c_1, main_v4, main_v5, main_c_2, main_v6, main_v7, main_v8, main_v9, main_v10, main_v11, main_v12, main_v13]
    rfl (by decide) (fun b => m (c, b))
  rw [h2] at h14
  refine (h.trans (congrFun h14 _)).trans ?_
  pointwise
theorem w_at (c : Dev nD) (t : Fin cfg0.N) (k : Fin 1024) (j : Fin 512) :
    (iblk m c 3 t : FVec Ideal S1024x1408 .bf16) (ix2 k ⟨896 + j.val, by omega⟩) = arr3 m c (ix2 k ⟨672 + j.val, by omega⟩) := by
  have h : (iblk m c 3 t : FVec Ideal S1024x1408 .bf16) (ix2 k ⟨896 + j.val, by omega⟩) = (V m c main_v13 : FVec Ideal S1024x1408 .bf16) (ix2 k ⟨896 + j.val, by omega⟩) := by
    generalize hv : V m c = v
    unfold iblk
    rw [hv]
    blk_ext [idx t]
  exact h.trans (v_at m c k j)

/-- A tile's result is the stream's. -/
theorem pool_pt (c : Dev nD) (t : Fin cfg0.N) (p : Fin 256) (j : Fin 512) :
    k0_pay3 (F := Ideal) (k0_pay4 (iblk m c 1 t) (iblk m c 0 t) (iblk m c 2 t) (iblk m c 3 t)) (ix2 p j)
      = Cert.Pool.entry (arr0 m c) (arr1 m c) (arr2 m c) (arr3 m c) (row t p) j := by
  refine (pay3_at _ p j).trans ((pay4_at _ _ _ _ p _).trans ?_)
  unfold Cert.Pool.entry
  simp only [x_at, mod_at m c t p, g_at, w_at]

/-- The array the kernel leaves. -/
abbrev res (c : Dev nD) : FVec Ideal S16896x512 .f32 := fun i => Cert.Pool.entry (arr0 m c) (arr1 m c) (arr2 m c) (arr3 m c) (i 0) (i 1)

theorem emb16 (t : Fin cfg0.N) (p : Fin 256) (j : Fin 512) : (((cfg0.win 16).blk t).view.emb (ix2 p j) : S16896x512.Idx) = ix2 (row t p) j := by
  blk_ext [idx t]
theorem out16 (c : Dev nD) (t : Fin cfg0.N) (y : S256x512.Idx) :
    k0_pay3 (F := Ideal) (k0_pay4 (iblk m c 1 t) (iblk m c 0 t) (iblk m c 2 t) (iblk m c 3 t)) y = res m c (((cfg0.win 16).blk t).view.emb y) := by
  obtain ⟨p, j, rfl⟩ : ∃ (p : Fin 256) (j : Fin 512), y = ix2 p j := ⟨y 0, y 1, eq_ix2 y⟩
  exact (pool_pt m c t p j).trans (congrArg (res m c) (emb16 t p j)).symm
/-- What a point leaves in the result's block. -/
theorem left16 (x0 : FVec Ideal S256x1024 .f32) (x1 : FVec Ideal S1x6x1024 .f32) (x2 : FVec Ideal S1x1024 .f32) (x3 : FVec Ideal S1024x1408 .bf16) (x4 : FVec Ideal S1x384 .f32)
    (x5 : FVec Ideal S384x1024 .bf16) (x6 : FVec Ideal S384x1024 .bf16) (x7 : FVec Ideal S1x256 .f32) (x8 : FVec Ideal S256x1024 .bf16) (x9 : FVec Ideal S256x640 .bf16)
    (x10 : FVec Ideal S1x640 .f32) (x11 : FVec Ideal S256x128 .f32) (x12 : FVec Ideal S256x128 .f32) :
    out0_16 (F := Ideal) x0 x1 x2 x3 x4 x5 x6 x7 x8 x9 x10 x11 x12 = k0_pay3 (F := Ideal) (k0_pay4 (F := Ideal) x1 x0 x2 x3) := by
  have e : k0_pay31 (F := Ideal) x0 x1 x2 x3 x4 x5 x6 x7 x8 x9 x10 x11 x12 = k0_pay4 (F := Ideal) x1 x0 x2 x3 := by
    unfold k0_pay31
    frame_out
  unfold out0_16
  rw [e]
  frame_out
theorem final16 (c : Dev nD) : (dats m 0 c).arrAt 16 cfg0.N = res m c := by
  refine (dats m 0 c).arrAt_eq_of_covers 16 _ (by decide +kernel) fun t _ y => ?_
  blk_simp
  rw [after0_16, left16]
  exact out16 m c t y

end Cert.Kernel7Ideal.Body
end
-- ==== Proof.PoolRef.lean ====
module

public import proofs.«01_k».proof.Proof.Gen.Reference7Ideal.Read
public import proofs.«01_k».proof.Proof.Pool
public import Idealize.ShloMosaic.Lib.Pointwise

@[expose] public section

set_option maxRecDepth 16384

noncomputable section

/-! What the reference's pooling columns hold. -/

namespace Cert.Reference7Ideal.Body

open Cert.Reference7Ideal Cert.Reference7Ideal.Read
open Idealize.ShloMosaic Idealize.ShloMosaic.TcCoe

variable (x0 : FVec Ideal S16896x1024 .f32) (x1 : FVec Ideal S8x6x1024 .f32) (x2 : FVec Ideal S1024 .f32) (x3 : FVec Ideal S1024x1184 .f32)

/-- The context's rows, projected. -/
theorem ctx_at (b : Fin 2) (p : Fin 256) (j : Fin 512) :
    val_main_v27 (F := Ideal) x0 x1 x2 x3 (ix3 b p j) = Cert.Pool.entry x0 x1 x2 x3 ⟨b.val * 8448 + p.val, by omega⟩ j := by
  have hm : Cert.Even.modRow ⟨b.val * 8448 + p.val, by omega⟩ = 2 := by
    apply Fin.ext; show (if (b.val * 8448 + p.val) % 8448 < 256 then 2 else _) = 2
    rw [if_pos (by omega)]
  unfold Cert.Pool.entry; rw [hm]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0,
    val_main_cst, val_main_cst_0, val_main_cst_1, val_main_cst_2, Cert.Even.proj, Cert.Even.norm]

/-- The latents' rows, projected. -/
theorem lat_at (b : Fin 2) (p : Fin 8192) (j : Fin 512) :
    val_main_v49 (F := Ideal) x0 x1 x2 x3 (ix3 b p j) = Cert.Pool.entry x0 x1 x2 x3 ⟨b.val * 8448 + (256 + p.val), by omega⟩ j := by
  have hm : Cert.Even.modRow ⟨b.val * 8448 + (256 + p.val), by omega⟩ = ⟨b.val, by omega⟩ := by
    apply Fin.ext; show (if (b.val * 8448 + (256 + p.val)) % 8448 < 256 then 2 else (b.val * 8448 + (256 + p.val)) / 8448) = b.val
    rw [if_neg (by omega)]; omega
  unfold Cert.Pool.entry; rw [hm]
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v5, val_main_v4, val_main_v3, val_main_v0,
    val_main_cst_3, val_main_cst_4, val_main_cst_5, val_main_cst_6, Cert.Even.proj, Cert.Even.norm]

/-- The result, entry by entry. -/
theorem pool_at (r : Fin 16896) (j : Fin 512) : val_main_v51 (F := Ideal) x0 x1 x2 x3 (ix2 r j) = Cert.Pool.entry x0 x1 x2 x3 r j := by
  pointwise [val_main_v51, val_main_v50]
  exact Cert.Even.split_row (fun r => Cert.Pool.entry x0 x1 x2 x3 r j) (fun b p => val_main_v27 (F := Ideal) x0 x1 x2 x3 (ix3 b p j))
    (fun b p => val_main_v49 (F := Ideal) x0 x1 x2 x3 (ix3 b p j)) (fun b p => ctx_at x0 x1 x2 x3 b p j) (fun b p => lat_at x0 x1 x2 x3 b p j) r

end Cert.Reference7Ideal.Body
end
-- ==== Proof.PoolClaim.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.PoolI
public import proofs.«01_k».proof.Proof.PoolRef
public import Idealize.ShloMosaic.Adequacy
public import Idealize.ShloMosaic.Init

@[expose] public section

set_option maxRecDepth 16384

noncomputable section

/-! The claims about the odd layers' opening. -/

namespace Cert.Proof

open Idealize.ShloMosaic Idealize.SL.Sem

theorem pool_frame_p : Cert.quiescent_Kernel7 := fun m ρ _ => Cert.Kernel7.Gen.frame m ρ
theorem pool_frame_pi : Cert.quiescent_Kernel7Ideal := fun m ρ _ => Cert.Kernel7Ideal.Gen.frame m ρ
theorem pool_frame_ri : Cert.quiescent_Reference7Ideal := by
  intro m g _
  exact (θ_run Cert.Reference7Ideal.defs _ _).mono (fun r h => ⟨fun c => (h c).2, Idealize.ShloMosaic.sem_eq_zero_of_no_sems (by decide) r.2⟩)
    (Cert.Reference7Ideal.Value.run m g)

/-- The rows for the pooling are the reference's. -/
theorem pool_value : Cert.algebraic_Kernel7Ideal_Reference7Ideal := by
  intro m g m' g' _ hagree
  refine ⟨fun c => Cert.Kernel7Ideal.Body.res m c,
    (θ_run Cert.Kernel7Ideal.defs _ _).mono (fun r h c => ⟨(h c).2.2.2.1.trans (Cert.Kernel7Ideal.Body.final16 m c), (h c).2.2.2.2⟩) (Cert.Kernel7Ideal.Value.run_blocks m g),
    (θ_run Cert.Reference7Ideal.defs _ _).mono (fun r h c => ⟨?_, (h c).2⟩) (Cert.Reference7Ideal.Value.run m' g')⟩
  refine ((h c).1.trans (Cert.Reference7Ideal.Read.val_main_v51_eq m' c)).trans ?_
  rw [(hagree c).1, (hagree c).2.1, (hagree c).2.2.1, (hagree c).2.2.2.1]
  funext i
  obtain ⟨r, j, rfl⟩ : ∃ (r : Fin 16896) (j : Fin 512), i = ix2 r j := ⟨i 0, i 1, eq_ix2 i⟩
  exact Cert.Reference7Ideal.Body.pool_at _ _ _ _ r j

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Flash
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Flash
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_moved
public import proofs.«01_k».proof.Proof.Gen.Pre_in_range
public import proofs.«01_k».proof.Proof.Gen.Pre_gated
public import proofs.«01_k».proof.Proof.Gen.Pre_placed
public import proofs.«01_k».proof.Proof.Frame
public import proofs.«01_k».proof.Proof.FrameI
public import proofs.«01_k».proof.Proof.ValueI
public import proofs.«01_k».proof.Proof.RefI
public import proofs.«01_k».proof.Proof.Pre
public import proofs.«01_k».proof.Proof.EvenClaim
public import proofs.«01_k».proof.Proof.FinalClaim
public import proofs.«01_k».proof.Proof.OpenClaim
public import proofs.«01_k».proof.Proof.ModClaim
public import proofs.«01_k».proof.Proof.CombineClaim
public import proofs.«01_k».proof.Proof.PoolClaim
public import Idealize.ShloMosaic.Adequacy
public import Idealize.ShloMosaic.Init

@[expose] public section

noncomputable section

namespace Cert.Proof

open Idealize.ShloMosaic Idealize.SL.Sem Cert.Kernel

set_option maxRecDepth 16384

/-- The kernel runs, leaves its arguments alone and every counter at zero. -/
theorem frame_p : Cert.quiescent_Kernel := by
  intro m g hp
  have hO := Cert.Kernel.Body.ok_of_words m (Cert.Words.range_a _ _ _ _ _ _ _ (hp 0).1) (Cert.Words.range_b _ _ _ _ _ _ _ (hp 0).2)
  exact (θ_run Cert.Kernel.defs _ _).mono (fun r h => ⟨fun c => (h.1 c).2, h.2⟩) (Cert.Kernel.Body.run_reads m hO g)

/-- So does its reading over the reals. -/
theorem frame_pi : Cert.quiescent_KernelIdeal := by
  intro m g hp
  have hO := Cert.KernelIdeal.Body.ok_of_words m (Cert.Words.range_a _ _ _ _ _ _ _ (hp 0).1) (Cert.Words.range_b _ _ _ _ _ _ _ (hp 0).2)
  exact (θ_run Cert.KernelIdeal.defs _ _).mono (fun r h => ⟨fun c => (h.1 c).2, h.2⟩) (Cert.KernelIdeal.Body.run_reads m hO g)

/-- And under the value claim's precondition. -/
theorem frame_pi_gated : Cert.quiescent_KernelIdeal_pre_gated := by
  intro m g hp
  have hO := Cert.KernelIdeal.Body.ok_of_words m (Cert.Words.gated_a _ _ _ _ _ _ _ (hp 0).1) (Cert.Words.gated_b _ _ _ _ _ _ _ (hp 0).2.1)
  exact (θ_run Cert.KernelIdeal.defs _ _).mono (fun r h => ⟨fun c => (h.1 c).2, h.2⟩) (Cert.KernelIdeal.Body.run_reads m hO g)

/-- The reference runs and leaves its arguments alone; it has no counter. -/
theorem frame_ri : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run m g)

theorem frame_ri_gated : Cert.quiescent_ReferenceIdeal_pre_gated := fun m g _ => frame_ri m g trivial

/-- The two programs' results are equal over the reals. -/
theorem value : Cert.algebraic_KernelIdeal_ReferenceIdeal_pre_gated := by
  intro m g m' g' hp hagree
  have w0 := Cert.Words.gated_a _ _ _ _ _ _ _ (hp 0).1
  have w1 := Cert.Words.gated_b _ _ _ _ _ _ _ (hp 0).2.1
  have wg := Cert.Words.gated_c _ _ _ _ _ _ _ (hp 0).2.2
  have hO := Cert.KernelIdeal.Body.ok_of_words m w0 w1
  have hf := Cert.KernelIdeal.Body.final m hO wg w0 w1
  refine ⟨fun c => (Cert.KernelIdeal.Body.dats m hO 0 c).arrAt (7 : Fin 8) (Cert.KernelIdeal.Body.cfgM m hO).N,
    (θ_run Cert.KernelIdeal.defs _ _).mono (fun r h => h.1) (Cert.KernelIdeal.Body.run_reads m hO g),
    (θ_run Cert.ReferenceIdeal.defs _ _).mono (fun r h c => ⟨?_, (h c).2⟩) (Cert.ReferenceIdeal.Value.run m' g')⟩
  obtain rfl : c = 0 := Subsingleton.elim (α := Fin 1) _ _
  have ha := hagree 0
  refine ((h 0).1.trans (Cert.ReferenceIdeal.Read.val_main_v275_eq (StableHlo.launchContents m' 0))).trans ?_
  refine Eq.trans ?_ hf.symm
  have e0 : StableHlo.launchContents m' 0 (Proc.tc.devRef Cert.ReferenceIdeal.main_arg0) = (show IVec Cert.ReferenceIdeal.S90 32 from Cert.KernelIdeal.Body.V m 0 Cert.KernelIdeal.main_arg0) :=
    (show StableHlo.launchContents m' 0 (Proc.tc.devRef Cert.ReferenceIdeal.main_arg0) = m' ((0 : Dev Cert.ReferenceIdeal.nD).tc.loc Cert.ReferenceIdeal.main_arg0) from rfl).trans
      (ha.1.trans (Cert.KernelIdeal.Body.V_kept m 0 Cert.KernelIdeal.main_arg0 (by decide)).symm)
  have e1 : StableHlo.launchContents m' 0 (Proc.tc.devRef Cert.ReferenceIdeal.main_arg1) = (show IVec Cert.ReferenceIdeal.S90 32 from Cert.KernelIdeal.Body.V m 0 Cert.KernelIdeal.main_arg1) :=
    (show StableHlo.launchContents m' 0 (Proc.tc.devRef Cert.ReferenceIdeal.main_arg1) = m' ((0 : Dev Cert.ReferenceIdeal.nD).tc.loc Cert.ReferenceIdeal.main_arg1) from rfl).trans
      (ha.2.1.trans (Cert.KernelIdeal.Body.V_kept m 0 Cert.KernelIdeal.main_arg1 (by decide)).symm)
  have e2 : StableHlo.launchContents m' 0 (Proc.tc.devRef Cert.ReferenceIdeal.main_arg2) = (show IVec Cert.ReferenceIdeal.S90 32 from Cert.KernelIdeal.Body.V m 0 Cert.KernelIdeal.main_arg2) :=
    (show StableHlo.launchContents m' 0 (Proc.tc.devRef Cert.ReferenceIdeal.main_arg2) = m' ((0 : Dev Cert.ReferenceIdeal.nD).tc.loc Cert.ReferenceIdeal.main_arg2) from rfl).trans
      (ha.2.2.1.trans (Cert.KernelIdeal.Body.V_kept m 0 Cert.KernelIdeal.main_arg2 (by decide)).symm)
  have e3 : StableHlo.launchContents m' 0 (Proc.tc.devRef Cert.ReferenceIdeal.main_arg3) = (show FVec Ideal Cert.ReferenceIdeal.S23040x1152 .f32 from Cert.KernelIdeal.Body.V m 0 Cert.KernelIdeal.main_arg3) :=
    (show StableHlo.launchContents m' 0 (Proc.tc.devRef Cert.ReferenceIdeal.main_arg3) = m' ((0 : Dev Cert.ReferenceIdeal.nD).tc.loc Cert.ReferenceIdeal.main_arg3) from rfl).trans
      (ha.2.2.2.1.trans (Cert.KernelIdeal.Body.V_kept m 0 Cert.KernelIdeal.main_arg3 (by decide)).symm)
  have e4 : StableHlo.launchContents m' 0 (Proc.tc.devRef Cert.ReferenceIdeal.main_arg4) = (show FVec Ideal Cert.ReferenceIdeal.S4x16x1024x512 .f32 from Cert.KernelIdeal.Body.V m 0 Cert.KernelIdeal.main_arg4) :=
    (show StableHlo.launchContents m' 0 (Proc.tc.devRef Cert.ReferenceIdeal.main_arg4) = m' ((0 : Dev Cert.ReferenceIdeal.nD).tc.loc Cert.ReferenceIdeal.main_arg4) from rfl).trans
      (ha.2.2.2.2.1.trans (Cert.KernelIdeal.Body.V_kept m 0 Cert.KernelIdeal.main_arg4 (by decide)).symm)
  have e5 : StableHlo.launchContents m' 0 (Proc.tc.devRef Cert.ReferenceIdeal.main_arg5) = (show FVec Ideal Cert.ReferenceIdeal.S4x16x1024x512 .f32 from Cert.KernelIdeal.Body.V m 0 Cert.KernelIdeal.main_arg5) :=
    (show StableHlo.launchContents m' 0 (Proc.tc.devRef Cert.ReferenceIdeal.main_arg5) = m' ((0 : Dev Cert.ReferenceIdeal.nD).tc.loc Cert.ReferenceIdeal.main_arg5) from rfl).trans
      (ha.2.2.2.2.2.1.trans (Cert.KernelIdeal.Body.V_kept m 0 Cert.KernelIdeal.main_arg5 (by decide)).symm)
  have e6 : StableHlo.launchContents m' 0 (Proc.tc.devRef Cert.ReferenceIdeal.main_arg6) = (show FVec Ideal Cert.ReferenceIdeal.S4x16x512x1024 .f32 from Cert.KernelIdeal.Body.V m 0 Cert.KernelIdeal.main_arg6) :=
    (show StableHlo.launchContents m' 0 (Proc.tc.devRef Cert.ReferenceIdeal.main_arg6) = m' ((0 : Dev Cert.ReferenceIdeal.nD).tc.loc Cert.ReferenceIdeal.main_arg6) from rfl).trans
      (ha.2.2.2.2.2.2.trans (Cert.KernelIdeal.Body.V_kept m 0 Cert.KernelIdeal.main_arg6 (by decide)).symm)
  rw [e0, e1, e2, e3, e4, e5, e6]
  funext i
  obtain ⟨r, j, rfl⟩ : ∃ (r : Fin 23040) (j : Fin 1024), i = ix2 r j := ⟨i 0, i 1, eq_ix2 i⟩
  exact Cert.ReferenceIdeal.Body.total_at _ _ _ _ _ _ _ w0 w1 (fun r l hl => (wg r l hl).1) r j

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Pre_in_range.Gen.facts,
  Cert.Pre_gated.Gen.facts,
  Cert.Pre_placed.Gen.facts,
  Cert.Pre_moved.Gen.facts,
  ⟨frame_p, frame_pi, frame_pi_gated, frame_ri, frame_ri_gated, even_frame_p, even_frame_pi, even_frame_ri,
    final_frame_p, final_frame_pi, final_frame_ri, final_frame_ri_placed, open_frame_p, open_frame_pi, open_frame_ri, mod_frame_p, mod_frame_pi, mod_frame_ri,
    combine_frame_p, combine_frame_pi, combine_frame_ri, combine_frame_ri_moved, pool_frame_p, pool_frame_pi, pool_frame_ri,
    trivial, value, trivial, even_value, trivial, final_value, trivial, open_value, trivial, mod_value, trivial, combine_value, trivial, pool_value⟩⟩

end Cert.Proof

end
